-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_experts.lean ====
abbrev S37376x1024 : Shape := ⟨2, ![37376, 1024]⟩
abbrev S1024 : Shape := ⟨1, ![1024]⟩
abbrev S8x1024x7168 : Shape := ⟨3, ![8, 1024, 7168]⟩
abbrev S8x3584x1024 : Shape := ⟨3, ![8, 3584, 1024]⟩
abbrev S73 : Shape := ⟨1, ![73]⟩
abbrev S1 : Shape := ⟨1, ![1]⟩
abbrev S_ : Shape := ⟨0, ![]⟩

class Facts : Prop where
  bcast_S_S73 : S_.BroadcastsInDim S73 (![] : Fin 0 → Fin S73.rank)
  reducesTo_S73_S_d0 : S73.ReducesTo [0] S_
  h_S_ : 0 < S_.numel

variable [Facts]

def fn {F : FTy → Type} [FloatOps F] (main_arg0 : FVec F S37376x1024 .f32) (main_arg1 : FVec F S1024 .f32) (main_arg2 : FVec F S8x1024x7168 .f32) (main_arg3 : FVec F S8x3584x1024 .f32) (main_arg4 : IVec S73 32) (main_arg5 : IVec S1 32) : IVec S_ 1 :=
  let main_c : IVec S_ 32 := constantI S_ 32 0#32
  let main_v0 : IVec S73 32 := broadcastInDim S73 ![] bcast_S_S73 main_c
  let main_v1 : IVec S73 1 := cmpi .sge main_arg4 main_v0
  let main_c_0 : IVec S_ 32 := constantI S_ 32 8#32
  let main_v2 : IVec S73 32 := broadcastInDim S73 ![] bcast_S_S73 main_c_0
  let main_v3 : IVec S73 1 := cmpi .slt main_arg4 main_v2
  let main_v4 : IVec S73 1 := andi main_v1 main_v3
  let main_c_1 : IVec S_ 1 := constantI S_ 1 1#1
  let main_v5 : IVec S_ 1 := (fun x v => Host.reduce IntOp.andi x v reducesTo_S73_S_d0 h_S_) main_v4 main_c_1
  main_v5
-- ==== Pre_finite.lean ====
abbrev S2x8192x8x2x64 : Shape := ⟨5, ![2, 8192, 8, 2, 64]⟩
abbrev S2x8192x8x128 : Shape := ⟨4, ![2, 8192, 8, 128]⟩
abbrev S4x64 : Shape := ⟨2, ![4, 64]⟩
abbrev S128 : Shape := ⟨1, ![128]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S2x8192x8x2x64 .f32) (main_arg1 : FVec F S2x8192x8x2x64 .f32) (main_arg2 : FVec F S2x8192x8x128 .f32) (main_arg3 : FVec F S4x64 .f32) (main_arg4 : FVec F S128 .f32) : IVec S_ 1 :=
  let main_v0 : FVec F S2x8192x8x128 .f32 := Host.absf main_arg2
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S2x8192x8x2x64 : Shape := ⟨5, ![2, 8192, 8, 2, 64]⟩
abbrev S2x8192x8x128 : Shape := ⟨4, ![2, 8192, 8, 128]⟩
abbrev S4x64 : Shape := ⟨2, ![4, 64]⟩
abbrev S128 : Shape := ⟨1, ![128]⟩
abbrev S16384x1024 : Shape := ⟨2, ![16384, 1024]⟩
abbrev S_ : Shape := ⟨0, ![]⟩
abbrev S1x128 : Shape := ⟨2, ![1, 128]⟩
abbrev S512x128 : Shape := ⟨2, ![512, 128]⟩
abbrev S2x512x1 : Shape := ⟨3, ![2, 512, 1]⟩
abbrev S2x512x128 : Shape := ⟨3, ![2, 512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S1x64 : Shape := ⟨2, ![1, 64]⟩
abbrev S1 : Shape := ⟨1, ![1]⟩
abbrev S1x1 : Shape := ⟨2, ![1, 1]⟩

abbrev nBuf : Space → Nat
  | .hbm => 16
  | .vmem => 15
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S4x64, .f32⟩
  | .hbm, ⟨4, _⟩ => ⟨S128, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S1x128, .f32⟩
  | .hbm, ⟨15, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S2x512x1, .f32⟩
  | .local _ .vmem, ⟨13, _⟩ => ⟨S2x512x1, .f32⟩
  | .local _ .vmem, ⟨14, _⟩ => ⟨S2x512x128, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![2, 8, 16, 16], ![false, false, false, false]⟩

def k0_cond4 (i : grid0.Coords) : BitVec 1 :=
  let arg3 : BitVec 32 := BitVec.ofNat 32 (i 3).val
  let arg2 : BitVec 32 := BitVec.ofNat 32 (i 2).val
  let c1_i32 : BitVec 32 := 1#32
  let v0 : BitVec 32 := Scalar.addi arg2 c1_i32
  let c512_i32 : BitVec 32 := 512#32
  let v1 : BitVec 32 := Scalar.muli v0 c512_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let v49 : BitVec 1 := Scalar.cmpi .eq arg3 v19
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c1_i32 : BitVec 32 := 1#32
  let v1 : BitVec 32 := Scalar.addi arg2 c1_i32
  let c512_i32 : BitVec 32 := 512#32
  let v2 : BitVec 32 := Scalar.muli v1 c512_i32
  let c1_i32_0 : BitVec 32 := 1#32
  let v3 : BitVec 32 := Scalar.subi v2 c1_i32_0
  let c512_i32_1 : BitVec 32 := 512#32
  let v4 : BitVec 32 := Scalar.divsi v3 c512_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let v21 : BitVec 32 := Scalar.minsi arg3 v20
  let v22 : BitVec 32 := Scalar.addi v0 v21
  let c0_i32_7 : BitVec 32 := 0#32
  ![v22.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c1_i32 : BitVec 32 := 1#32
  let v1 : BitVec 32 := Scalar.addi arg2 c1_i32
  let c512_i32 : BitVec 32 := 512#32
  let v2 : BitVec 32 := Scalar.muli v1 c512_i32
  let c1_i32_0 : BitVec 32 := 1#32
  let v3 : BitVec 32 := Scalar.subi v2 c1_i32_0
  let c512_i32_1 : BitVec 32 := 512#32
  let v4 : BitVec 32 := Scalar.divsi v3 c512_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let v21 : BitVec 32 := Scalar.minsi arg3 v20
  let v22 : BitVec 32 := Scalar.addi v0 v21
  let c0_i32_7 : BitVec 32 := 0#32
  ![v22.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S2x8192x8x2x64 : Shape := ⟨5, ![2, 8192, 8, 2, 64]⟩
abbrev S2x8192x8x128 : Shape := ⟨4, ![2, 8192, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .i32⟩
  | .hbm, ⟨25, _⟩ => ⟨S2x8x2x8192x8192, .f32⟩
  | .hbm, ⟨26, _⟩ => ⟨S_, .f32⟩
  | .hbm, ⟨27, _⟩ => ⟨S2x8x2x8192x8192, .f32⟩
  | .hbm, ⟨28, _⟩ => ⟨S2x8x2x8192x8192, .f32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S2x8x2x8192x8192, .i1⟩
  | .hbm, ⟨37, _⟩ => ⟨S2x8x2x8192x8192, .f32⟩
  | .hbm, ⟨38, _⟩ => ⟨S2x8x2x8192x8192, .f32⟩
  | .hbm, ⟨39, _⟩ => ⟨S_, .f32⟩
  | .hbm, ⟨40, _⟩ => ⟨S2x8x2x8192, .f32⟩
  | .hbm, ⟨41, _⟩ => ⟨S_, .f32⟩
  | .hbm, ⟨42, _⟩ => ⟨S2x8x2x8192, .f32⟩
  | .hbm, ⟨43, _⟩ => ⟨S2x8x2x8192, .f32⟩
  | .hbm, ⟨44, _⟩ => ⟨S2x8x2x8192x1, .f32⟩
  | .hbm, ⟨45, _⟩ => ⟨S2x8x2x8192x8192, .f32⟩
  | .hbm, ⟨46, _⟩ => ⟨S2x8x2x8192x8192, .f32⟩
  | .hbm, ⟨47, _⟩ => ⟨S2x8x2x8192x8192, .f32⟩
  | .hbm, ⟨48, _⟩ => ⟨S_, .f32⟩
  | .hbm, ⟨49, _⟩ => ⟨S2x8x2x8192, .f32⟩
  | .hbm, ⟨50, _⟩ => ⟨S2x8x2x8192x1, .f32⟩
  | .hbm, ⟨51, _⟩ => ⟨S2x8x2x8192x8192, .f32⟩
  | .hbm, ⟨52, _⟩ => ⟨S2x8x2x8192x8192, .f32⟩
  | .hbm, ⟨53, _⟩ => ⟨S2x8x1x8192x8192, .f32⟩
  | .hbm, ⟨54, _⟩ => ⟨S2x8x8192x8192, .f32⟩
  | .hbm, ⟨55, _⟩ => ⟨S2x8x1x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x128x8192, .f32⟩
  | .hbm, ⟨61, _⟩ => ⟨S2x8192x8x128, .f32⟩
  | .hbm, ⟨62, _⟩ => ⟨S2x8192x8x128, .f32⟩
  | .hbm, ⟨63, _⟩ => ⟨S_, .f32⟩
  | .hbm, ⟨64, _⟩ => ⟨S2x8192x8, .f32⟩
  | .hbm, ⟨65, _⟩ => ⟨S2x8192x8x1, .f32⟩
  | .hbm, ⟨66, _⟩ => ⟨S_, .f32⟩
  | .hbm, ⟨67, _⟩ => ⟨S2x8192x8x1, .f32⟩
  | .hbm, ⟨68, _⟩ => ⟨S2x8192x8x1, .f32⟩
  | .hbm, ⟨69, _⟩ => ⟨S_, .f32⟩
  | .hbm, ⟨70, _⟩ => ⟨S2x8192x8x1, .f32⟩
  | .hbm, ⟨71, _⟩ => ⟨S2x8192x8x1, .f32⟩
  | .hbm, ⟨72, _⟩ => ⟨S2x8192x8x1, .f32⟩
  | .hbm, ⟨73, _⟩ => ⟨S2x8192x8x128, .f32⟩
  | .hbm, ⟨74, _⟩ => ⟨S2x8192x8x128, .f32⟩
  | .hbm, ⟨75, _⟩ => ⟨S1x1x1x128, .f32⟩
  | .hbm, ⟨76, _⟩ => ⟨S2x8192x8x128, .f32⟩
  | .hbm, ⟨77, _⟩ => ⟨S2x8192x8x128, .f32⟩
  | .hbm, ⟨78, _⟩ => ⟨S_, .f32⟩
  | .hbm, ⟨79, _⟩ => ⟨S2x8192x8x128, .f32⟩
  | .hbm, ⟨80, _⟩ => ⟨S2x8192x8x128, .f32⟩
  | .hbm, ⟨81, _⟩ => ⟨S16384x1024, .f32⟩
  | .hbm, ⟨82, _⟩ => ⟨S16384x1024, .bf16⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Kernel2.lean ====
abbrev S37376x1024 : Shape := ⟨2, ![37376, 1024]⟩
abbrev S1024 : Shape := ⟨1, ![1024]⟩
abbrev S8x1024x7168 : Shape := ⟨3, ![8, 1024, 7168]⟩
abbrev S8x3584x1024 : Shape := ⟨3, ![8, 3584, 1024]⟩
abbrev S73 : Shape := ⟨1, ![73]⟩
abbrev S1 : Shape := ⟨1, ![1]⟩
abbrev S1x1024 : Shape := ⟨2, ![1, 1024]⟩
abbrev S512x1024 : Shape := ⟨2, ![512, 1024]⟩
abbrev S1x1024x512 : Shape := ⟨3, ![1, 1024, 512]⟩
abbrev S1x512x1024 : Shape := ⟨3, ![1, 512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 13
  | .smem => 2
  | _ => 0

abbrev bufTy : (tb : Table) → Fin (tcTables nBuf tb) → BufTy
  | .hbm, ⟨0, _⟩ => ⟨S37376x1024, .f32⟩
  | .hbm, ⟨1, _⟩ => ⟨S1024, .f32⟩
  | .hbm, ⟨2, _⟩ => ⟨S8x1024x7168, .f32⟩
  | .hbm, ⟨3, _⟩ => ⟨S8x3584x1024, .f32⟩
  | .hbm, ⟨4, _⟩ => ⟨S8x1024x7168, .bf16⟩
  | .hbm, ⟨5, _⟩ => ⟨S8x3584x1024, .bf16⟩
  | .hbm, ⟨6, _⟩ => ⟨S1x1024, .f32⟩
  | .hbm, ⟨7, _⟩ => ⟨S37376x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | .local _ .smem, ⟨0, _⟩ => ⟨S73, .i32⟩
  | .local _ .smem, ⟨1, _⟩ => ⟨S1, .i32⟩
  | _, _ => ⟨S37376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![73, 7], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c6_i32 : BitVec 32 := 6#32
  let v8 : BitVec 1 := Scalar.cmpi .eq arg1 c6_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c6_i32 : BitVec 32 := 6#32
  let v8 : BitVec 1 := Scalar.cmpi .eq arg1 c6_i32
  let v13 : BitVec 1 := Scalar.andi v12 v8
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c7_i32 : BitVec 32 := 7#32
  let v2 : BitVec 32 := Scalar.addi c7_i32 arg1
  let c0_i32 : BitVec 32 := 0#32
  let c0_i32_0 : BitVec 32 := 0#32
  ![v1.toNat, c0_i32.toNat, v2.toNat]

def cc0_transform_4 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S37376x1024 : Shape := ⟨2, ![37376, 1024]⟩
abbrev S1024 : Shape := ⟨1, ![1024]⟩
abbrev S8x1024x7168 : Shape := ⟨3, ![8, 1024, 7168]⟩
abbrev S8x3584x1024 : Shape := ⟨3, ![8, 3584, 1024]⟩
abbrev S73 : Shape := ⟨1, ![73]⟩
abbrev S1 : Shape := ⟨1, ![1]⟩
abbrev S_ : Shape := ⟨0, ![]⟩
abbrev S37376 : Shape := ⟨1, ![37376]⟩
abbrev S37376x1 : Shape := ⟨2, ![37376, 1]⟩
abbrev S1x1024 : Shape := ⟨2, ![1, 1024]⟩
abbrev S73x512 : Shape := ⟨2, ![73, 512]⟩
abbrev S1x1 : Shape := ⟨2, ![1, 1]⟩
abbrev S1x8 : Shape := ⟨2, ![1, 8]⟩
abbrev S37376x8 : Shape := ⟨2, ![37376, 8]⟩
abbrev S8x7168x37376 : Shape := ⟨3, ![8, 7168, 37376]⟩
abbrev S8x37376x7168 : Shape := ⟨3, ![8, 37376, 7168]⟩
abbrev S8x37376x3584 : Shape := ⟨3, ![8, 37376, 3584]⟩
abbrev S8x37376x1024 : Shape := ⟨3, ![8, 37376, 1024]⟩
abbrev S8x37376 : Shape := ⟨2, ![8, 37376]⟩
abbrev S8x37376x1 : Shape := ⟨3, ![8, 37376, 1]⟩

abbrev nBuf : Space → Nat
  | .hbm => 63
  | .vmem => 0
  | .smem => 0
  | _ => 0

abbrev bufTy : (tb : Table) → Fin (tcTables nBuf tb) → BufTy
  | .hbm, ⟨0, _⟩ => ⟨S37376x1024, .f32⟩
  | .hbm, ⟨1, _⟩ => ⟨S1024, .f32⟩
  | .hbm, ⟨2, _⟩ => ⟨S8x1024x7168, .f32⟩
  | .hbm, ⟨3, _⟩ => ⟨S8x3584x1024, .f32⟩
  | .hbm, ⟨4, _⟩ => ⟨S73, .i32⟩
  | .hbm, ⟨5, _⟩ => ⟨S1, .i32⟩
  | .hbm, ⟨6, _⟩ => ⟨S37376x1024, .f32⟩
  | .hbm, ⟨7, _⟩ => ⟨S_, .f32⟩
  | .hbm, ⟨8, _⟩ => ⟨S37376, .f32⟩
  | .hbm, ⟨9, _⟩ => ⟨S37376x1, .f32⟩
  | .hbm, ⟨10, _⟩ => ⟨S_, .f32⟩
  | .hbm, ⟨11, _⟩ => ⟨S37376x1, .f32⟩
  | .hbm, ⟨12, _⟩ => ⟨S37376x1, .f32⟩
  | .hbm, ⟨13, _⟩ => ⟨S_, .f32⟩
  | .hbm, ⟨14, _⟩ => ⟨S37376x1, .f32⟩
  | .hbm, ⟨15, _⟩ => ⟨S37376x1, .f32⟩
  | .hbm, ⟨16, _⟩ => ⟨S37376x1, .f32⟩
  | .hbm, ⟨17, _⟩ => ⟨S37376x1024, .f32⟩
  | .hbm, ⟨18, _⟩ => ⟨S37376x1024, .f32⟩
  | .hbm, ⟨19, _⟩ => ⟨S1x1024, .f32⟩
  | .hbm, ⟨20, _⟩ => ⟨S37376x1024, .f32⟩
  | .hbm, ⟨21, _⟩ => ⟨S37376x1024, .f32⟩
  | .hbm, ⟨22, _⟩ => ⟨S73, .i32⟩
  | .hbm, ⟨23, _⟩ => ⟨S73x512, .i32⟩
  | .hbm, ⟨24, _⟩ => ⟨S37376, .i32⟩
  | .hbm, ⟨25, _⟩ => ⟨S37376x1, .i32⟩
  | .hbm, ⟨26, _⟩ => ⟨S1x1, .i32⟩
  | .hbm, ⟨27, _⟩ => ⟨S37376x1, .i32⟩
  | .hbm, ⟨28, _⟩ => ⟨S37376x1, .i1⟩
  | .hbm, ⟨29, _⟩ => ⟨S73x512, .i32⟩
  | .hbm, ⟨30, _⟩ => ⟨S37376, .i32⟩
  | .hbm, ⟨31, _⟩ => ⟨S37376x1, .i32⟩
  | .hbm, ⟨32, _⟩ => ⟨S1x8, .i32⟩
  | .hbm, ⟨33, _⟩ => ⟨S37376x8, .i32⟩
  | .hbm, ⟨34, _⟩ => ⟨S37376x8, .i32⟩
  | .hbm, ⟨35, _⟩ => ⟨S37376x8, .i1⟩
  | .hbm, ⟨36, _⟩ => ⟨S37376x8, .f32⟩
  | .hbm, ⟨37, _⟩ => ⟨S_, .f32⟩
  | .hbm, ⟨38, _⟩ => ⟨S_, .f32⟩
  | .hbm, ⟨39, _⟩ => ⟨S37376x8, .i1⟩
  | .hbm, ⟨40, _⟩ => ⟨S37376x8, .f32⟩
  | .hbm, ⟨41, _⟩ => ⟨S37376x8, .f32⟩
  | .hbm, ⟨42, _⟩ => ⟨S8x7168x37376, .f32⟩
  | .hbm, ⟨43, _⟩ => ⟨S8x37376x7168, .f32⟩
  | .hbm, ⟨44, _⟩ => ⟨S8x37376x3584, .f32⟩
  | .hbm, ⟨45, _⟩ => ⟨S8x37376x3584, .f32⟩
  | .hbm, ⟨46, _⟩ => ⟨S8x37376x3584, .f32⟩
  | .hbm, ⟨47, _⟩ => ⟨S_, .f32⟩
  | .hbm, ⟨48, _⟩ => ⟨S8x37376x3584, .f32⟩
  | .hbm, ⟨49, _⟩ => ⟨S8x37376x3584, .f32⟩
  | .hbm, ⟨50, _⟩ => ⟨S_, .f32⟩
  | .hbm, ⟨51, _⟩ => ⟨S8x37376x3584, .f32⟩
  | .hbm, ⟨52, _⟩ => ⟨S8x37376x3584, .f32⟩
  | .hbm, ⟨53, _⟩ => ⟨S8x37376x3584, .f32⟩
  | .hbm, ⟨54, _⟩ => ⟨S8x37376x3584, .f32⟩
  | .hbm, ⟨55, _⟩ => ⟨S8x37376x3584, .f32⟩
  | .hbm, ⟨56, _⟩ => ⟨S8x37376x1024, .f32⟩
  | .hbm, ⟨57, _⟩ => ⟨S8x37376, .f32⟩
  | .hbm, ⟨58, _⟩ => ⟨S8x37376x1, .f32⟩
  | .hbm, ⟨59, _⟩ => ⟨S8x37376x1024, .f32⟩
  | .hbm, ⟨60, _⟩ => ⟨S8x37376x1024, .f32⟩
  | .hbm, ⟨61, _⟩ => ⟨S_, .f32⟩
  | .hbm, ⟨62, _⟩ => ⟨S37376x1024, .f32⟩
  | _, _ => ⟨S37376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S1024x3072, .bf16⟩
  | .hbm, ⟨5, _⟩ => ⟨S1x1024, .f32⟩
  | .hbm, ⟨6, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x1024 : Shape := ⟨3, ![2, 8192, 1024]⟩
abbrev S1024 : Shape := ⟨1, ![1024]⟩
abbrev S1024x3072 : Shape := ⟨2, ![1024, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S16384x3072 : Shape := ⟨2, ![16384, 3072]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x3072, .f32⟩
  | .hbm, ⟨20, _⟩ => ⟨S16384x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x4112 : Shape := ⟨2, ![1024, 4112]⟩
abbrev S_ : Shape := ⟨0, ![]⟩
abbrev S1024x4224 : Shape := ⟨2, ![1024, 4224]⟩
abbrev S16384x1024 : Shape := ⟨2, ![16384, 1024]⟩
abbrev S1x1024 : Shape := ⟨2, ![1, 1024]⟩
abbrev S16384x4224 : Shape := ⟨2, ![16384, 4224]⟩
abbrev S512x1024 : Shape := ⟨2, ![512, 1024]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4112, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S16384x1024, .f32⟩
  | .hbm, ⟨7, _⟩ => ⟨S1024x4224, .bf16⟩
  | .hbm, ⟨8, _⟩ => ⟨S1x1024, .f32⟩
  | .hbm, ⟨9, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x8192x1024 : Shape := ⟨3, ![2, 8192, 1024]⟩
abbrev S1024 : Shape := ⟨1, ![1024]⟩
abbrev S1024x4112 : Shape := ⟨2, ![1024, 4112]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4112 : Shape := ⟨3, ![2, 8192, 4112]⟩
abbrev S16384x4112 : Shape := ⟨2, ![16384, 4112]⟩
abbrev S16384x112 : Shape := ⟨2, ![16384, 112]⟩
abbrev S16384x4224 : Shape := ⟨2, ![16384, 4224]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4112, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x4112, .f32⟩
  | .hbm, ⟨20, _⟩ => ⟨S16384x4112, .f32⟩
  | .hbm, ⟨21, _⟩ => ⟨S_, .f32⟩
  | .hbm, ⟨22, _⟩ => ⟨S16384x112, .f32⟩
  | .hbm, ⟨23, _⟩ => ⟨S16384x4224, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S32x1x1024 : Shape := ⟨3, ![32, 1, 1024]⟩
abbrev S1024 : Shape := ⟨1, ![1024]⟩
abbrev S1024x3072 : Shape := ⟨2, ![1024, 3072]⟩
abbrev S32x1024 : Shape := ⟨2, ![32, 1024]⟩
abbrev S1x1024 : Shape := ⟨2, ![1, 1024]⟩
abbrev S32x3072 : Shape := ⟨2, ![32, 3072]⟩
abbrev S1024x512 : Shape := ⟨2, ![1024, 512]⟩
abbrev S32x512 : Shape := ⟨2, ![32, 512]⟩
abbrev S32 : Shape := ⟨1, ![32]⟩
abbrev S32x1 : Shape := ⟨2, ![32, 1]⟩

abbrev nBuf : Space → Nat
  | .hbm => 6
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1024, .f32⟩
  | .hbm, ⟨4, _⟩ => ⟨S1x1024, .f32⟩
  | .hbm, ⟨5, _⟩ => ⟨S32x3072, .f32⟩
  | .local _ .vmem, ⟨0, _⟩ => ⟨S32x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S32x512, .f32⟩
  | .local _ .vmem, ⟨5, _⟩ => ⟨S32x512, .f32⟩
  | .local _ .vmem, ⟨6, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32x1x1024 : Shape := ⟨3, ![32, 1, 1024]⟩
abbrev S1024 : Shape := ⟨1, ![1024]⟩
abbrev S1024x3072 : Shape := ⟨2, ![1024, 3072]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x3072 : Shape := ⟨3, ![32, 1, 3072]⟩
abbrev S32x3072 : Shape := ⟨2, ![32, 3072]⟩

abbrev nBuf : Space → Nat
  | .hbm => 21
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x3072, .f32⟩
  | .hbm, ⟨20, _⟩ => ⟨S32x3072, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S32x1x1024 : Shape := ⟨3, ![32, 1, 1024]⟩
abbrev S1024 : Shape := ⟨1, ![1024]⟩
abbrev S1024x4112 : Shape := ⟨2, ![1024, 4112]⟩
abbrev S_ : Shape := ⟨0, ![]⟩
abbrev S1024x4224 : Shape := ⟨2, ![1024, 4224]⟩
abbrev S32x1024 : Shape := ⟨2, ![32, 1024]⟩
abbrev S1x1024 : Shape := ⟨2, ![1, 1024]⟩
abbrev S32x4224 : Shape := ⟨2, ![32, 4224]⟩
abbrev S1024x128 : Shape := ⟨2, ![1024, 128]⟩
abbrev S32x128 : Shape := ⟨2, ![32, 128]⟩
abbrev S32 : Shape := ⟨1, ![32]⟩
abbrev S32x1 : Shape := ⟨2, ![32, 1]⟩

abbrev nBuf : Space → Nat
  | .hbm => 9
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x4112, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S32x1024, .f32⟩
  | .hbm, ⟨7, _⟩ => ⟨S1x1024, .f32⟩
  | .hbm, ⟨8, _⟩ => ⟨S32x4224, .f32⟩
  | .local _ .vmem, ⟨0, _⟩ => ⟨S32x1024, .f32⟩
  | .local _ .vmem, ⟨1, _⟩ => ⟨S1x1024, .f32⟩
  | .local _ .vmem, ⟨2, _⟩ => ⟨S1024x128, .f32⟩
  | .local _ .vmem, ⟨3, _⟩ => ⟨S1024x128, .f32⟩
  | .local _ .vmem, ⟨4, _⟩ => ⟨S32x128, .f32⟩
  | .local _ .vmem, ⟨5, _⟩ => ⟨S32x128, .f32⟩
  | .local _ .vmem, ⟨6, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32x1x1024 : Shape := ⟨3, ![32, 1, 1024]⟩
abbrev S1024 : Shape := ⟨1, ![1024]⟩
abbrev S1024x4112 : Shape := ⟨2, ![1024, 4112]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x4112 : Shape := ⟨3, ![32, 1, 4112]⟩
abbrev S32x4112 : Shape := ⟨2, ![32, 4112]⟩
abbrev S32x112 : Shape := ⟨2, ![32, 112]⟩
abbrev S32x4224 : Shape := ⟨2, ![32, 4224]⟩

abbrev nBuf : Space → Nat
  | .hbm => 24
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x4112, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x4112, .f32⟩
  | .hbm, ⟨20, _⟩ => ⟨S32x4112, .f32⟩
  | .hbm, ⟨21, _⟩ => ⟨S_, .f32⟩
  | .hbm, ⟨22, _⟩ => ⟨S32x112, .f32⟩
  | .hbm, ⟨23, _⟩ => ⟨S32x4224, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1x1024x7168 : Shape := ⟨3, ![1, 1024, 7168]⟩
abbrev S1x3584x1024 : Shape := ⟨3, ![1, 3584, 1024]⟩
abbrev S_ : Shape := ⟨0, ![]⟩
abbrev S32 : Shape := ⟨1, ![32]⟩
abbrev S1 : Shape := ⟨1, ![1]⟩
abbrev S1x1024 : Shape := ⟨2, ![1, 1024]⟩
abbrev S512x1024 : Shape := ⟨2, ![512, 1024]⟩
abbrev S1x1024x512 : Shape := ⟨3, ![1, 1024, 512]⟩
abbrev S1x512x1024 : Shape := ⟨3, ![1, 512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 10
  | .vmem => 13
  | .smem => 2
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x7168, .f32⟩
  | .hbm, ⟨3, _⟩ => ⟨S1x3584x1024, .f32⟩
  | .hbm, ⟨4, _⟩ => ⟨S1x1024x7168, .bf16⟩
  | .hbm, ⟨5, _⟩ => ⟨S1x3584x1024, .bf16⟩
  | .hbm, ⟨6, _⟩ => ⟨S_, .i32⟩
  | .hbm, ⟨7, _⟩ => ⟨S_, .i32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | .local _ .smem, ⟨0, _⟩ => ⟨S32, .i32⟩
  | .local _ .smem, ⟨1, _⟩ => ⟨S1, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v2 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c6_i32 : BitVec 32 := 6#32
  let v8 : BitVec 1 := Scalar.cmpi .eq arg1 c6_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c6_i32 : BitVec 32 := 6#32
  let v8 : BitVec 1 := Scalar.cmpi .eq arg1 c6_i32
  let v13 : BitVec 1 := Scalar.andi v12 v8
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c7_i32 : BitVec 32 := 7#32
  let v2 : BitVec 32 := Scalar.addi c7_i32 arg1
  let c0_i32 : BitVec 32 := 0#32
  let c0_i32_0 : BitVec 32 := 0#32
  ![v1.toNat, c0_i32.toNat, v2.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S16384x1024 : Shape := ⟨2, ![16384, 1024]⟩
abbrev S1024 : Shape := ⟨1, ![1024]⟩
abbrev S1x1024x7168 : Shape := ⟨3, ![1, 1024, 7168]⟩
abbrev S1x3584x1024 : Shape := ⟨3, ![1, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x7168 : Shape := ⟨2, ![1024, 7168]⟩
abbrev S16384x7168 : Shape := ⟨2, ![16384, 7168]⟩
abbrev S16384x3584 : Shape := ⟨2, ![16384, 3584]⟩
abbrev S3584x1024 : Shape := ⟨2, ![3584, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x7168, .f32⟩
  | .hbm, ⟨3, _⟩ => ⟨S1x3584x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x7168, .f32⟩
  | .hbm, ⟨21, _⟩ => ⟨S16384x7168, .f32⟩
  | .hbm, ⟨22, _⟩ => ⟨S16384x3584, .f32⟩
  | .hbm, ⟨23, _⟩ => ⟨S16384x3584, .f32⟩
  | .hbm, ⟨24, _⟩ => ⟨S16384x3584, .f32⟩
  | .hbm, ⟨25, _⟩ => ⟨S_, .f32⟩
  | .hbm, ⟨26, _⟩ => ⟨S16384x3584, .f32⟩
  | .hbm, ⟨27, _⟩ => ⟨S16384x3584, .f32⟩
  | .hbm, ⟨28, _⟩ => ⟨S_, .f32⟩
  | .hbm, ⟨29, _⟩ => ⟨S16384x3584, .f32⟩
  | .hbm, ⟨30, _⟩ => ⟨S16384x3584, .f32⟩
  | .hbm, ⟨31, _⟩ => ⟨S16384x3584, .f32⟩
  | .hbm, ⟨32, _⟩ => ⟨S16384x3584, .f32⟩
  | .hbm, ⟨33, _⟩ => ⟨S16384x3584, .f32⟩
  | .hbm, ⟨34, _⟩ => ⟨S3584x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Proof.KernelBody.lean ====
module

public import proofs.«01_k».proof.Proof.Gen.Kernel.Frame
public import proofs.«01_k».proof.Proof.Gen.Kernel.Skeleton
public import Idealize.ShloMosaic.Lib.Pipeline.DatRel
public import Idealize.ShloMosaic.Lib.Pipeline.ArrRel
public import Idealize.ShloMosaic.Lib.Claim

@[expose] public section

set_option maxRecDepth 16384

/-!
The kernel as printed runs and leaves its arguments as it found them. Nothing is said of the scratch and of the output
window, so one triple serves every grid point, whichever branches the point takes.
-/

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The branch in which the scratch is reset. -/
abbrev cond0_0 (i : grid0.Coords) : Prop := (Scalar.cmpi .ne (Scalar.extui (Scalar.cmpi .eq (BitVec.ofNat 32 (i 3).val) 0#32)) 0#32) = 1#1
/-- The branch in which the key block lies before the diagonal. -/
abbrev cond0_1 (i : grid0.Coords) : Prop := (Scalar.cmpi .ne (Scalar.extui (Scalar.cmpi .slt (BitVec.ofNat 32 (i 3).val) (Scalar.select (Scalar.andi (Scalar.cmpi .ne (Scalar.subi (Scalar.extui (Scalar.cmpi .sgt (Scalar.muli (BitVec.ofNat 32 (i 2).val) 512#32) 0#32)) (Scalar.extui (Scalar.cmpi .slt (Scalar.muli (BitVec.ofNat 32 (i 2).val) 512#32) 0#32))) (Scalar.subi (Scalar.extui (Scalar.cmpi .sgt 512#32 0#32)) (Scalar.extui (Scalar.cmpi .slt 512#32 0#32)))) (Scalar.cmpi .ne (Scalar.remsi (Scalar.muli (BitVec.ofNat 32 (i 2).val) 512#32) 512#32) 0#32)) (Scalar.subi (Scalar.divsi (Scalar.muli (BitVec.ofNat 32 (i 2).val) 512#32) 512#32) 1#32) (Scalar.divsi (Scalar.muli (BitVec.ofNat 32 (i 2).val) 512#32) 512#32)))) 0#32) = 1#1
/-- The branch in which the key block lies on the diagonal. -/
abbrev cond0_2 (i : grid0.Coords) : Prop := (Scalar.cmpi .ne (Scalar.extui (Scalar.andi (Scalar.cmpi .sge (BitVec.ofNat 32 (i 3).val) (Scalar.select (Scalar.andi (Scalar.cmpi .ne (Scalar.subi (Scalar.extui (Scalar.cmpi .sgt (Scalar.muli (BitVec.ofNat 32 (i 2).val) 512#32) 0#32)) (Scalar.extui (Scalar.cmpi .slt (Scalar.muli (BitVec.ofNat 32 (i 2).val) 512#32) 0#32))) (Scalar.subi (Scalar.extui (Scalar.cmpi .sgt 512#32 0#32)) (Scalar.extui (Scalar.cmpi .slt 512#32 0#32)))) (Scalar.cmpi .ne (Scalar.remsi (Scalar.muli (BitVec.ofNat 32 (i 2).val) 512#32) 512#32) 0#32)) (Scalar.subi (Scalar.divsi (Scalar.muli (BitVec.ofNat 32 (i 2).val) 512#32) 512#32) 1#32) (Scalar.divsi (Scalar.muli (BitVec.ofNat 32 (i 2).val) 512#32) 512#32))) (Scalar.cmpi .sle (BitVec.ofNat 32 (i 3).val) (Scalar.select (Scalar.andi (Scalar.cmpi .ne (Scalar.subi (Scalar.extui (Scalar.cmpi .sgt (Scalar.subi (Scalar.muli (Scalar.addi (BitVec.ofNat 32 (i 2).val) 1#32) 512#32) 1#32) 0#32)) (Scalar.extui (Scalar.cmpi .slt (Scalar.subi (Scalar.muli (Scalar.addi (BitVec.ofNat 32 (i 2).val) 1#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.muli (Scalar.addi (BitVec.ofNat 32 (i 2).val) 1#32) 512#32) 1#32) 512#32) 0#32)) (Scalar.subi (Scalar.divsi (Scalar.subi (Scalar.muli (Scalar.addi (BitVec.ofNat 32 (i 2).val) 1#32) 512#32) 1#32) 512#32) 1#32) (Scalar.divsi (Scalar.subi (Scalar.muli (Scalar.addi (BitVec.ofNat 32 (i 2).val) 1#32) 512#32) 1#32) 512#32))))) 0#32) = 1#1
/-- The branch in which the output is stored. -/
abbrev cond0_3 (i : grid0.Coords) : Prop := k0_cond4 i = 1#1

set_option maxHeartbeats 3200000 in
/-- The body on any memrefs: the inputs keep their contents, everything else holds something before and after. -/
theorem body_keeps (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)
    (x4 : Vec F S4x64 .f32) (x5 : Vec F S1x128 .f32) (x6 : Vec F S512x128 .bf16) (x7 : Vec F S512x128 .bf16) (x8 : Vec F S512x128 .bf16) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_flash_diff_attention i arg4 harg4 arg5 harg5 arg6 harg6 arg7 harg7 arg8 harg8 arg9 harg9 arg10 harg10 arg11 harg11 arg12 harg12 arg13 harg13 arg14 harg14) K := by
  simp only [cc0_flash_diff_attention_eq_skeleton]; unfold cc0_flash_diff_attention_skel
  simp only [k0_part1_eq_skeleton, k0_part2_eq_skeleton, k0_part3_eq_skeleton, k0_part4_eq_skeleton, k0_part5_eq_skeleton, k0_part6_eq_skeleton]
  unfold owns
  iintro ⟨⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  by_cases hc0 : cond0_0 i <;> by_cases hc1 : cond0_1 i <;> by_cases hc2 : cond0_2 i <;> by_cases hc3 : cond0_3 i <;>
  · sl_exec (disch := first | sl_exact hc0 | sl_exact hc1 | sl_exact hc2 | sl_exact hc3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.KernelFrame

end
-- ==== Proof.KernelFrame.lean ====
module

public import proofs.«01_k».proof.Proof.KernelBody

@[expose] public section

set_option maxRecDepth 16384

/-!
The run of the kernel as printed, with nothing said of what it computes: it ends, its arguments are unchanged, its
counters are zero.
-/

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's own buffers: the five scratch operands, each at something, and the generator's register. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

/-- The output window is the one of which nothing is said. -/
def fgt : Fin 6 → Bool := fun w => w.val == 5

/-- The relation that says nothing. -/
def Rl (_ : Dev nD) : (w : Fin cfg0.W) → Fin cfg0.N → ((cfg0.win w).block.Idx → Elt F (cfg0.win w).elt) → Prop := fun _ _ _ => True

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The arrays are what the region finds. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

/-- The relational proof data. -/
abbrev rdat (c : Dev nD) : RDat τ (Elt F) Unit ℕ (UR sig nD τ) ℕ cfg0 c := (dats m 0 c).toRRel fgt (Rl c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ Y, ⌜(rdat m c).Finds 5 t Y⌝ ∗ owns (c : Thread nD τ) (win0_5.stage (cfg0.slots t 5)) fullShare Y))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ X, ⌜Rl c 5 t X⌝ ∗ owns (c : Thread nD τ) (win0_5.stage (cfg0.slots t 5)) fullShare X))

/-- The body at any point, in the obligation's shape. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), after_0, after_1, after_2, after_3, after_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    scratch_eq c]
  unfold bodyAt0
  iintro ⟨⟨⟨S0, S1, S2, S3, S4⟩, Hg⟩, Ho, ⟨%_, H0⟩, ⟨%_, H1⟩, ⟨%_, H2⟩, ⟨%_, H3⟩, ⟨%_, H4⟩, ⟨%Y, -, H5⟩⟩
  iapply (body_keeps c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _)
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  iintro ⟨H0, H1, H2, H3, H4, ⟨%X, H5⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexists X; isplitr; swap; · iexact H5
  ipureintro; exact trivial

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationRel (dats m 0 c) (defs₀ (F := F)) Variants.none () Set.univ fgt (Rl c) := fun t => by
  rw [bigSep_W0, bigSep_W0, defs₀_row]
  exact triple_restated (sound_body m c t) rfl .rfl fun _ => .rfl

-- the launch theorem's implicit arguments are found by unifying its conclusion with this one, which unfolds plain definitions in types
set_option backward.isDefEq.respectTransparency.types false in
/-- The run: every array ends at something the relational data allow, and every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ main
    (fun c => (body_obligation m c).toRRel) (fun c => (dats m 0 c).share_full fun _ => rfl) (fun _ _ => rfl) (V m) (hmain m Variants.none)
    (A_eq m) (fun _ => .rfl) (fun _ => .rfl) (fun r => Pipeline.RDat.FramePost (cfgs 0) (rdat m) (V m) r ∧ r.2.sem = fun _ => 0) (fun _ h => h)

/-- The kernel runs to an end, its arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => ⟨
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      (RDat.FramePost.arr_in hr.1 c 0 rfl).trans ((A_eq m c 0).trans (V_main_arg3 m c)),
      ((hr.1 c).2 main_arg4 (Pipeline.mem_restRefs_of main_arg4 (by decide) (by decide))).trans (V_main_arg4 m c)⟩, hr.2⟩)
    (run_main m ρ)

end Cert.KernelFrame

end
-- ==== Proof.FfnSetup.lean ====
module

public import proofs.«01_k».proof.Proof.Gen.Kernel2Ideal.Launch
public import proofs.«01_k».proof.Proof.Gen.Kernel2Ideal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-!
The experts' feed-forward kernel up to its one region: what the host leaves in the arrays, the two tables and the pipeline
at their contents, and the blocks the input windows show.
-/

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host operations, then the region. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub host_fresh main_chain

/-- A buffer no host operation writes is as it was at the start. -/
theorem V_of (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

/-- The tables' contents when the region is entered. -/
def tbl : pre0.Contents (Elt F) := fun j => V m (0 : Dev nD) (pre0.ref j)

/-- There is one device. -/
theorem V_pre (c : Dev nD) (j : Fin 2) : V m c (pre0.ref j) = tbl m j := by
  obtain rfl : c = 0 := Subsingleton.elim _ _; rfl

/-- The tables name blocks inside the weights. -/
abbrev Ok : Prop := ok0 (F := F) (tbl m)

/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev tbM0 : Memref sig .tc .smem S73 .i32 := Memref.whole main_arg4
abbrev tbM1 : Memref sig .tc .smem S1 .i32 := Memref.whole main_arg5

/-- A table held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves the region hands the body, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide, bigSep_insert (by decide), bigSep_singleton]
  rfl

/-- The scratch operands. -/
abbrev scM0 : Memref sig .tc .vmem S512x1024 .bf16 := Memref.whole cc0_scratch0
abbrev scM1 : Memref sig .tc .vmem S512x1024 .f32 := Memref.whole cc0_scratch1

/-- The region's own buffers: the two scratch operands, each at something, and the generator's register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

variable (hO : Ok m)

/-- Window `w`'s block at point `t`, read off its array as the region finds it. -/
def iblk (c : Dev nD) (w : Fin 6) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window shows its block at every point. -/
theorem before_of {c : Dev nD} (dat : Dat τ (Elt F) Unit ℕ (UR sig nD τ) ℕ (cfgM m hO) c) (w : Fin 6) (hw : w.val < 5)
    (hA : dat.A w = V m c (Pipeline.arrRef spec0 w)) (hafter : ∀ t, dat.after w t = iblk m hO c w t) (t : Fin (cfgM m hO).N) (d) :
    dat.before w t d = iblk m hO c w t := by
  obtain ⟨w, h⟩ := w
  match w, h with
  | 0, _ | 1, _ | 2, _ | 3, _ | 4, _ =>
    exact (dat.before_in_eq_fetched _ rfl (fun _ => rfl) (fun _ _ _ => rfl) (fun t => by rw [hafter]; unfold Dat.blockOf iblk; rw [hA]; try rfl) t d).trans
      (by unfold Dat.fetched Dat.blockOf iblk; rw [hA]; try rfl)
  | 5, _ => exact absurd (show 5 < 5 from hw) (by decide)

end Cert.Ffn

end
-- ==== Proof.FfnBody.lean ====
module

public import proofs.«01_k».proof.Proof.FfnSetup
public import Idealize.ShloMosaic.Lib.VecWindow

@[expose] public section

set_option maxRecDepth 16384

/-!
One run of the experts' feed-forward body, on any memrefs: what the normalised rows, the running sum and the output block are
afterwards, as functions of what the body found.
-/

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word the body reads from the second table: the number of tiles in use. -/
def wd (c : Dev nD) (f : Buf (Elt F) (tbM1.view.loc (c : Thread nD τ))) : BitVec 32 :=
  tbM1.view.readAt (Elt F) (Rect.unit (s := S1) ![0] S1.size inb_S1_S1_0).toLoadRect f (Shape.Idx.first (by decide))

/-- Whether the tile of grid point `i` is in use, by the word `w`. -/
abbrev Used (i : grid0.Coords) (w : BitVec 32) : Prop := Scalar.cmpi .slt (BitVec.ofNat 32 (i 0).val) w = 1#1

/-- The normalised rows after the body. -/
def nextN (i : grid0.Coords) (w : BitVec 32) (x : Vec F S512x1024 .f32) (g : Vec F S1x1024 .f32) (a : Vec F S512x1024 .bf16) : Vec F S512x1024 .bf16 :=
  if Used i w ∧ (i 1).val = 0 then k0_pay1 x g else a

/-- The running sum after the body. -/
def nextA (i : grid0.Coords) (w : BitVec 32) (n : Vec F S512x1024 .bf16) (wg wu : Vec F S1x1024x512 .bf16) (wo : Vec F S1x512x1024 .bf16) (b : Vec F S512x1024 .f32) : Vec F S512x1024 .f32 :=
  if Used i w then k0_pay3 n wg wu (if (i 1).val = 0 then k0_pay2 else b) wo else b

/-- The output block after the body. -/
def nextO (i : grid0.Coords) (w : BitVec 32) (b Y : Vec F S512x1024 .f32) : Vec F S512x1024 .f32 :=
  if (i 1).val = 6 then (if Used i w then b else k0_pay4) else Y

theorem and_iff : ∀ p q : BitVec 1, (Scalar.cmpi .ne (Scalar.extui (Scalar.andi p q) : BitVec 32) 0#32 = 1#1) ↔ (p = 1#1 ∧ q = 1#1) := by decide
theorem one_iff : ∀ p : BitVec 1, (Scalar.cmpi .ne (Scalar.extui p : BitVec 32) 0#32 = 1#1) ↔ p = 1#1 := by decide
theorem not_iff : ∀ p q : BitVec 1, (Scalar.cmpi .ne (Scalar.extui (Scalar.andi (Scalar.xori p 1#1) q) : BitVec 32) 0#32 = 1#1) ↔ (¬p = 1#1 ∧ q = 1#1) := by decide

/-- The second coordinate compared with a number. -/
theorem coord_iff (i : grid0.Coords) : (Scalar.cmpi .eq (BitVec.ofNat 32 (i 1).val) 0#32 = 1#1 ↔ (i 1).val = 0)
    ∧ (Scalar.cmpi .eq (BitVec.ofNat 32 (i 1).val) 6#32 = 1#1 ↔ (i 1).val = 6) := by
  have h : (i 1).val < 7 := (i 1).isLt
  generalize (i 1).val = n at h
  constructor <;> (revert n; decide)

theorem cond3_iff (i : grid0.Coords) (w : BitVec 32) : k0_cond3 i w = 1#1 ↔ Used i w ∧ (i 1).val = 6 :=
  (and_iff _ _).trans (and_congr_right fun _ => (coord_iff i).2)
theorem cond4_iff (i : grid0.Coords) (w : BitVec 32) : k0_cond4 i w = 1#1 ↔ ¬Used i w ∧ (i 1).val = 6 :=
  (not_iff _ _).trans (and_congr_right fun _ => (coord_iff i).2)

set_option maxHeartbeats 1600000 in
/-- The body, run. -/
theorem body_run (c : Dev nD) (i : grid0.Coords) (arg4 : Memref sig .tc .vmem S512x1024 .f32) (harg4 : arg4.IsWhole) (arg5 : Memref sig .tc .vmem S1x1024 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole)
    (x4 : Vec F S512x1024 .f32) (x5 : Vec F S1x1024 .f32) (x6 x7 : Vec F S1x1024x512 .bf16) (x8 : Vec F S1x512x1024 .bf16)
    (f : Buf (Elt F) (tbM1.view.loc (c : Thread nD τ))) (d9 : Vec F S512x1024 .f32) (d10 : Vec F S512x1024 .bf16) (d11 : Vec F S512x1024 .f32)
    (aN : Vec F S512x1024 .bf16) (aA : Vec F S512x1024 .f32) (aO : Vec F S512x1024 .f32)
    (hN : nextN i (wd c f) x4 x5 d10 = aN) (hA : nextA i (wd c f) aN x6 x7 x8 d11 = aA) (hO : nextO i (wd c f) aA d9 = aO)
    (K : PUnit → sProp 𝕄) :
    iprop(tbPt c tbM1 f ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ owns (c : Thread nD τ) arg9 fullShare d9 ∗ owns (c : Thread nD τ) arg10 fullShare d10 ∗ owns (c : Thread nD τ) arg11 fullShare d11
        ∗ (iprop(tbPt c tbM1 f ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare aO ∗ owns (c : Thread nD τ) arg10 fullShare aN ∗ owns (c : Thread nD τ) arg11 fullShare aA) -∗ K ⟨⟩))
      ⊢ wp frame (wpE (defs₀ (F := F)) Variants.none c none) Set.univ (cc0_swiglu_ffn i tbM0 (Memref.isWhole_whole _) tbM1 (Memref.isWhole_whole _) arg4 harg4 arg5 harg5 arg6 harg6 arg7 harg7 arg8 harg8 arg9 harg9 arg10 harg10 arg11 harg11) K := by
  simp only [cc0_swiglu_ffn_eq_skeleton]; unfold cc0_swiglu_ffn_skel
  unfold owns
  iintro ⟨HT, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  have e5 : (Scalar.cmpi .ne (Scalar.extui (Scalar.andi (Scalar.cmpi .slt (BitVec.ofNat 32 (i 0).val) (wd c f)) (Scalar.cmpi .eq (BitVec.ofNat 32 (i 1).val) 0#32)) : BitVec 32) 0#32 = 1#1)
      ↔ (Used i (wd c f) ∧ (i 1).val = 0) := (and_iff _ _).trans (and_congr_right fun _ => (coord_iff i).1)
  have e7 : (Scalar.cmpi .ne (Scalar.extui (Scalar.cmpi .slt (BitVec.ofNat 32 (i 0).val) (wd c f)) : BitVec 32) 0#32 = 1#1) ↔ Used i (wd c f) := one_iff _
  have e3 := cond3_iff i (wd c f)
  have e4 := cond4_iff i (wd c f)
  sl_exec
  sl_step
  iapply Hk
  isplitl [HT]; · iexact HT
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  have e5' : body_run.sl.v5 c i f = 1#1 ↔ (Used i (wd c f) ∧ (i 1).val = 0) := e5
  have e7' : body_run.sl.v7 c i f = 1#1 ↔ Used i (wd c f) := e7
  have e3' : k0_cond3 i (body_run.sl.r c f) = 1#1 ↔ Used i (wd c f) ∧ (i 1).val = 6 := e3
  have e4' : k0_cond4 i (body_run.sl.r c f) = 1#1 ↔ ¬Used i (wd c f) ∧ (i 1).val = 6 := e4
  have rN : body_run.sl.v16 c i arg4 harg4 arg5 harg5 arg10 harg10 x4 x5 f d10 = aN := by
    rw [← hN]; unfold nextN body_run.sl.v16
    rw [View.readAt_full]
    by_cases h : body_run.sl.v5 c i f = 1#1
    · rw [dif_pos h, if_pos (e5'.mp h), View.read_writes_full, View.readAt_full, View.readAt_full, hf4, hf5]
    · rw [dif_neg h, if_neg (fun h' => h (e5'.mpr h')), hf10]
  have rB (hu : Used i (wd c f)) : body_run.sl.v32 c i arg11 harg11 f d11 = if (i 1).val = 0 then k0_pay2 else d11 := by
    unfold body_run.sl.v32
    rw [View.readAt_full]
    by_cases h : body_run.sl.v5 c i f = 1#1
    · rw [dif_pos h, if_pos (e5'.mp h).2, View.read_writes_full]
    · rw [dif_neg h, if_neg (fun h' => h (e5'.mpr ⟨hu, h'⟩)), hf11]
  have rA : body_run.sl.v16_1 c i arg4 harg4 arg5 harg5 arg6 harg6 arg7 harg7 arg8 harg8 arg10 harg10 arg11 harg11 x4 x5 x6 x7 x8 f d10 d11 = aA := by
    rw [← hA]; unfold nextA body_run.sl.v16_1
    rw [View.readAt_full]
    by_cases h : body_run.sl.v7 c i f = 1#1
    · rw [dif_pos h, if_pos (e7'.mp h), View.read_writes_full, rN, rB (e7'.mp h), View.readAt_full, View.readAt_full, View.readAt_full, hf6, hf7, hf8]
    · rw [dif_neg h, if_neg (fun h' => h (e7'.mpr h')), dif_neg (fun h' => h (e7'.mpr (e5'.mp h').1)), hf11]
  isplitl [H9]
  · iexists _; isplitr; swap; · iexact H9
    ipureintro
    rw [← hO]; unfold nextO
    by_cases h6 : (i 1).val = 6
    · rw [if_pos h6]
      by_cases hu : Used i (wd c f)
      · rw [dif_neg (fun h => (e4'.mp h).1 hu), dif_pos (e3'.mpr ⟨hu, h6⟩), if_pos hu, View.read_writes_full, rA]
      · rw [dif_pos (e4'.mpr ⟨hu, h6⟩), if_neg hu, View.read_writes_full]
    · rw [if_neg h6, dif_neg (fun h => h6 (e4'.mp h).2), dif_neg (fun h => h6 (e3'.mp h).2), hf9]
  isplitl [H10]
  · iexists _; isplitr; swap; · iexact H10
    ipureintro
    exact (View.readAt_full _ _ _).symm.trans rN
  iexists _; isplitr; swap; · iexact H11
  ipureintro
  exact (View.readAt_full _ _ _).symm.trans rA

end Cert.Ffn

end
-- ==== Proof.FfnRun.lean ====
module

public import proofs.«01_k».proof.Proof.FfnBody
public import Idealize.ShloMosaic.Lib.Pipeline.DatRel
public import Idealize.ShloMosaic.Lib.Pipeline.ArrRel

@[expose] public section

set_option maxRecDepth 16384

/-!
The experts' feed-forward kernel run over its grid: tile `r` of 512 rows takes seven points, one for each 512 hidden units, the
running sum in scratch between them.
-/

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- Grid point number `n`. -/
def pt (n : ℕ) : Fin (cfgM m hO).N := ⟨n % 511, lt_of_lt_of_eq (Nat.mod_lt _ (by decide)) N_0.symm⟩

theorem pt_val (t : Fin (cfgM m hO).N) : pt m hO t.val = t :=
  Fin.ext (Nat.mod_eq_of_lt (lt_of_lt_of_eq t.isLt N_0))

/-- The word the body reads. -/
abbrev word (c : Dev nD) : BitVec 32 := wd (F := F) c (tbl m 1)

/-- Whether tile `r` is in use. -/
abbrev UsedN (c : Dev nD) (r : ℕ) : Prop := Scalar.cmpi .slt (BitVec.ofNat 32 r) (word m c) = 1#1

/-- The normalised rows of tile `r`. -/
def nrm (c : Dev nD) (r : ℕ) : Vec F S512x1024 .bf16 := k0_pay1 (iblk m hO c 0 (pt m hO (7 * r))) (iblk m hO c 1 (pt m hO (7 * r)))

/-- The running sum of tile `r` after `k` blocks of hidden units. -/
def acc (c : Dev nD) (r : ℕ) : ℕ → Vec F S512x1024 .f32
  | 0 => k0_pay2
  | k + 1 => k0_pay3 (nrm m hO c r) (iblk m hO c 2 (pt m hO (7 * r + k))) (iblk m hO c 3 (pt m hO (7 * r + k))) (acc c r k) (iblk m hO c 4 (pt m hO (7 * r + k)))

/-- The output block of tile `r`. -/
def outBlk (c : Dev nD) (r : ℕ) : Vec F S512x1024 .f32 := if UsedN m c r then acc m hO c r 7 else k0_pay4

theorem coord0 (t : Fin (cfgM m hO).N) : (grid0.coords t 0).val = t.val / 7 := by
  have h : (grid0.coords t 0).val = t.val / 7 % 73 := Pipeline.Grid.coords_val (G := grid0) t 0 (by decide) rfl
  have hN : t.val < 511 := lt_of_lt_of_eq t.isLt N_0
  omega
theorem coord1 (t : Fin (cfgM m hO).N) : (grid0.coords t 1).val = t.val % 7 := by
  have h : (grid0.coords t 1).val = t.val / 1 % 7 := Pipeline.Grid.coords_val (G := grid0) t 1 (by decide) rfl
  omega

/-- What is known of the scratch before point `n`: within a tile in use, its normalised rows and its running sum. -/
def St (c : Dev nD) (n : ℕ) (a : Vec F S512x1024 .bf16) (b : Vec F S512x1024 .f32) : Prop :=
  n % 7 ≠ 0 → UsedN m c (n / 7) → a = nrm m hO c (n / 7) ∧ b = acc m hO c (n / 7) (n % 7)

/-- The invariant before point `n`. -/
def Phi (c : Dev nD) (n : ℕ) : sProp 𝕄 :=
  iprop(∃ a b, ⌜St m hO c n a b⌝ ∗ owns (c : Thread nD τ) scM0 fullShare a ∗ owns (c : Thread nD τ) scM1 fullShare b
    ∗ (∃ r, prngReg c r) ∗ tbPt c tbM0 (tbl m 0) ∗ tbPt c tbM1 (tbl m 1))

/-- The output window is the one told only by a relation. -/
def fgt : Fin 6 → Bool := fun w => w.val == 5

/-- What is known of the output window after point `t`: at a tile's last point, the tile's output block. -/
def Rl (c : Dev nD) : (w : Fin (cfgM m hO).W) → Fin (cfgM m hO).N → (((cfgM m hO).win w).block.Idx → Elt F ((cfgM m hO).win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => t.val % 7 = 6 → X = outBlk m hO c (t.val / 7)

/-- The proof data of the pipeline on core `c`. -/
def dats (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := cfgM m hO) ⟨5, h⟩ t
  Φ t := Phi m hO c t.val
  q := Pipeline.shareOf spec0
  owed _ := 0

theorem A_eq (c : Dev nD) (w : Fin (cfgM m hO).W) : (dats m hO c).A w = V m c (Pipeline.arrRef spec0 w) := rfl

theorem after_0 (c : Dev nD) (t : Fin (cfgM m hO).N) : (dats m hO c).after 0 t = iblk m hO c 0 t := rfl
theorem after_1 (c : Dev nD) (t : Fin (cfgM m hO).N) : (dats m hO c).after 1 t = iblk m hO c 1 t := rfl
theorem after_2 (c : Dev nD) (t : Fin (cfgM m hO).N) : (dats m hO c).after 2 t = iblk m hO c 2 t := rfl
theorem after_3 (c : Dev nD) (t : Fin (cfgM m hO).N) : (dats m hO c).after 3 t = iblk m hO c 3 t := rfl
theorem after_4 (c : Dev nD) (t : Fin (cfgM m hO).N) : (dats m hO c).after 4 t = iblk m hO c 4 t := rfl

theorem before_0 (c : Dev nD) (t : Fin (cfgM m hO).N) (d) : (dats m hO c).before 0 t d = iblk m hO c 0 t :=
  before_of m hO (dats m hO c) 0 (by decide) (A_eq m hO c 0) (after_0 m hO c) t d
theorem before_1 (c : Dev nD) (t : Fin (cfgM m hO).N) (d) : (dats m hO c).before 1 t d = iblk m hO c 1 t :=
  before_of m hO (dats m hO c) 1 (by decide) (A_eq m hO c 1) (after_1 m hO c) t d
theorem before_2 (c : Dev nD) (t : Fin (cfgM m hO).N) (d) : (dats m hO c).before 2 t d = iblk m hO c 2 t :=
  before_of m hO (dats m hO c) 2 (by decide) (A_eq m hO c 2) (after_2 m hO c) t d
theorem before_3 (c : Dev nD) (t : Fin (cfgM m hO).N) (d) : (dats m hO c).before 3 t d = iblk m hO c 3 t :=
  before_of m hO (dats m hO c) 3 (by decide) (A_eq m hO c 3) (after_3 m hO c) t d
theorem before_4 (c : Dev nD) (t : Fin (cfgM m hO).N) (d) : (dats m hO c).before 4 t d = iblk m hO c 4 t :=
  before_of m hO (dats m hO c) 4 (by decide) (A_eq m hO c 4) (after_4 m hO c) t d

/-- The relational proof data. -/
abbrev rdat (c : Dev nD) : RDat τ (Elt F) Unit ℕ (UR sig nD τ) ℕ (cfgM m hO) c := (dats m hO c).toRRel fgt (Rl m hO c)

/-- The windows' staging buffers at point `t`. -/
abbrev ms0 (t : Fin (cfgM m hO).N) : Memref sig .tc .vmem S512x1024 .f32 := spec0_0.stage ((cfgM m hO).slots t 0)
abbrev ms1 (t : Fin (cfgM m hO).N) : Memref sig .tc .vmem S1x1024 .f32 := spec0_1.stage ((cfgM m hO).slots t 1)
abbrev ms2 (t : Fin (cfgM m hO).N) : Memref sig .tc .vmem S1x1024x512 .bf16 := spec0_2.stage ((cfgM m hO).slots t 2)
abbrev ms3 (t : Fin (cfgM m hO).N) : Memref sig .tc .vmem S1x1024x512 .bf16 := spec0_3.stage ((cfgM m hO).slots t 3)
abbrev ms4 (t : Fin (cfgM m hO).N) : Memref sig .tc .vmem S1x512x1024 .bf16 := spec0_4.stage ((cfgM m hO).slots t 4)
abbrev ms5 (t : Fin (cfgM m hO).N) : Memref sig .tc .vmem S512x1024 .f32 := spec0_5.stage ((cfgM m hO).slots t 5)

/-- The body at point `t`. -/
abbrev bodyAt (t : Fin (cfgM m hO).N) : Prog (TpuEff nD τ sig (Elt F) Λ₀ .tc) PUnit :=
  cc0_swiglu_ffn (grid0.coords t) tbM0 (Memref.isWhole_whole _) tbM1 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    scM0 (Memref.isWhole_whole _) scM1 (Memref.isWhole_whole _)

/-- What the body is called with at point `t`, -/
def bodyPre (c : Dev nD) (t : Fin (cfgM m hO).N) : sProp 𝕄 :=
  iprop((dats m hO c).Φ t.castSucc ∗ (dats m hO c).owesAt () t.castSucc
    ∗ (∃ d, owns (c : Thread nD τ) (ms0 m hO t) fullShare ((dats m hO c).before 0 t d))
    ∗ (∃ d, owns (c : Thread nD τ) (ms1 m hO t) fullShare ((dats m hO c).before 1 t d))
    ∗ (∃ d, owns (c : Thread nD τ) (ms2 m hO t) fullShare ((dats m hO c).before 2 t d))
    ∗ (∃ d, owns (c : Thread nD τ) (ms3 m hO t) fullShare ((dats m hO c).before 3 t d))
    ∗ (∃ d, owns (c : Thread nD τ) (ms4 m hO t) fullShare ((dats m hO c).before 4 t d))
    ∗ (∃ Y, ⌜(rdat m hO c).Finds 5 t Y⌝ ∗ owns (c : Thread nD τ) (ms5 m hO t) fullShare Y))

/-- and what it returns. -/
def bodyPost (c : Dev nD) (t : Fin (cfgM m hO).N) : sProp 𝕄 :=
  iprop((dats m hO c).Φ t.succ ∗ (dats m hO c).owesAt () t.succ
    ∗ owns (c : Thread nD τ) (ms0 m hO t) fullShare ((dats m hO c).after 0 t)
    ∗ owns (c : Thread nD τ) (ms1 m hO t) fullShare ((dats m hO c).after 1 t)
    ∗ owns (c : Thread nD τ) (ms2 m hO t) fullShare ((dats m hO c).after 2 t)
    ∗ owns (c : Thread nD τ) (ms3 m hO t) fullShare ((dats m hO c).after 3 t)
    ∗ owns (c : Thread nD τ) (ms4 m hO t) fullShare ((dats m hO c).after 4 t)
    ∗ (∃ X, ⌜Rl m hO c 5 t X⌝ ∗ owns (c : Thread nD τ) (ms5 m hO t) fullShare X))

section Step

variable (c : Dev nD) (t : Fin (cfgM m hO).N) (a : Vec F S512x1024 .bf16) (b Y : Vec F S512x1024 .f32)

/-- The normalised rows after point `t`. -/
abbrev aN : Vec F S512x1024 .bf16 := nextN (grid0.coords t) (word m c) (iblk m hO c 0 t) (iblk m hO c 1 t) a
/-- The running sum after point `t`. -/
abbrev aA : Vec F S512x1024 .f32 := nextA (grid0.coords t) (word m c) (aN m hO c t a) (iblk m hO c 2 t) (iblk m hO c 3 t) (iblk m hO c 4 t) b
/-- The output block after point `t`. -/
abbrev aO : Vec F S512x1024 .f32 := nextO (grid0.coords t) (word m c) (aA m hO c t a b) Y

/-- One point carries the tile's rows and its running sum on. -/
theorem step (h : St m hO c t.val a b) (hu : UsedN m c (t.val / 7)) :
    aN m hO c t a = nrm m hO c (t.val / 7) ∧ aA m hO c t a b = acc m hO c (t.val / 7) (t.val % 7 + 1) := by
  have hU : Used (grid0.coords t) (word m c) := by unfold Used; rw [coord0]; exact hu
  have e1 := coord1 m hO t
  have eN : aN m hO c t a = nrm m hO c (t.val / 7) := by
    unfold aN nextN
    by_cases h0 : t.val % 7 = 0
    · rw [if_pos ⟨hU, e1.trans h0⟩]; unfold nrm
      rw [show 7 * (t.val / 7) = t.val by omega, pt_val]
    · rw [if_neg fun h' => h0 (e1.symm.trans h'.2)]; exact (h h0 hu).1
  refine ⟨eN, ?_⟩
  unfold aA nextA
  rw [if_pos hU, eN]
  show _ = k0_pay3 _ _ _ _ _
  rw [show 7 * (t.val / 7) + t.val % 7 = t.val by omega, pt_val, e1]
  by_cases h0 : t.val % 7 = 0
  · rw [if_pos h0, h0]; rfl
  · rw [if_neg h0, (h h0 hu).2]

theorem st_next (h : St m hO c t.val a b) : St m hO c (t.val + 1) (aN m hO c t a) (aA m hO c t a b) := by
  intro h7 hu
  have e : (t.val + 1) / 7 = t.val / 7 := by omega
  have e' : (t.val + 1) % 7 = t.val % 7 + 1 := by omega
  rw [e] at hu ⊢; rw [e']
  exact step m hO c t a b h hu

theorem out_next (h : St m hO c t.val a b) : Rl m hO c 5 t (aO m hO c t a b Y) := by
  show t.val % 7 = 6 → aO m hO c t a b Y = outBlk m hO c (t.val / 7)
  intro h6
  have e1 := coord1 m hO t
  unfold aO nextO outBlk
  rw [if_pos (e1.trans h6)]
  by_cases hu : UsedN m c (t.val / 7)
  · rw [if_pos (show Used (grid0.coords t) (word m c) by unfold Used; rw [coord0]; exact hu), if_pos hu, (step m hO c t a b h hu).2, h6]
  · rw [if_neg (show ¬Used (grid0.coords t) (word m c) by unfold Used; rw [coord0]; exact hu), if_neg hu]

end Step

/-- The body at any point, in the obligation's shape. -/
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2, before_3, before_4, after_0, after_1, after_2, after_3, after_4]
  rw [show (dats m hO c).owesAt () t.succ = (dats m hO c).owesAt () t.castSucc from rfl,
    show (dats m hO c).Φ t.succ = Phi m hO c (t.val + 1) from rfl, show (dats m hO c).Φ t.castSucc = Phi m hO c t.val from rfl]
  unfold Phi bodyAt
  iintro ⟨⟨%a, %b, %hst, HA, HB, Hg, HT0, HT1⟩, Ho, ⟨%_, H0⟩, ⟨%_, H1⟩, ⟨%_, H2⟩, ⟨%_, H3⟩, ⟨%_, H4⟩, ⟨%Y, -, H5⟩⟩
  iapply (body_run c (grid0.coords t) _ _ _ _ _ _ _ _ _ _ _ _ _ _ _ _ (iblk m hO c 0 t) (iblk m hO c 1 t) (iblk m hO c 2 t) (iblk m hO c 3 t) (iblk m hO c 4 t)
    (tbl m 1) Y a b (aN m hO c t a) (aA m hO c t a b) (aO m hO c t a b Y) rfl rfl rfl _)
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [HA]; · iexact HA
  isplitl [HB]; · iexact HB
  iintro ⟨HT1, H0, H1, H2, H3, H4, H5, HA, HB⟩
  isplitl [HT0 HT1 HA HB Hg]
  · iexists _, _; isplitr; swap
    · isplitl [HA]; · iexact HA
      isplitl [HB]; · iexact HB
      isplitl [Hg]; · iexact Hg
      isplitl [HT0]; · iexact HT0
      iexact HT1
    ipureintro; exact st_next m hO c t a b hst
  isplitl [Ho]; · iexact Ho
  isplitl [H0]; · iexact H0
  isplitl [H1]; · iexact H1
  isplitl [H2]; · iexact H2
  isplitl [H3]; · iexact H3
  isplitl [H4]; · iexact H4
  iexists _; isplitr; swap; · iexact H5
  ipureintro; exact out_next m hO c t a b Y hst

/-- The body table's row at point `t` is the body. -/
theorem defs₀_row (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem body_obligation (c : Dev nD) : BodyObligationRel (dats m hO c) (defs₀ (F := F)) Variants.none () Set.univ fgt (Rl m hO c) := fun t => by
  rw [bigSep_W0, bigSep_W0, defs₀_row]
  exact triple_restated (sound_body m hO c t) rfl .rfl fun _ => .rfl

/-- What the launch hands the region is the invariant before the first point, -/
theorem hin (c : Dev nD) : iprop(Pipeline.ΦA spec0 c ∗ Pipeline.ΦT pre0 (tbl m) c) ⊢ (dats m hO c).Φ 0 := by
  rw [show (dats m hO c).Φ 0 = Phi m hO c 0 from rfl, PhiA_eq, PhiT_eq]
  unfold Phi
  iintro ⟨⟨⟨⟨%a, HA⟩, ⟨%b, HB⟩⟩, Hg⟩, HT0, HT1⟩
  iexists a, b; isplitr; swap
  · isplitl [HA]; · iexact HA
    isplitl [HB]; · iexact HB
    isplitl [Hg]; · iexact Hg
    isplitl [HT0]; · iexact HT0
    iexact HT1
  ipureintro; intro h; exact absurd rfl h

/-- and the invariant after the last point gives it back. -/
theorem hout (c : Dev nD) : (dats m hO c).Φ (Fin.last (cfgM m hO).N) ⊢ Pipeline.ΦA spec0 c := by
  rw [show (dats m hO c).Φ (Fin.last (cfgM m hO).N) = Phi m hO c (Fin.last (cfgM m hO).N).val from rfl, PhiA_eq]
  unfold Phi
  iintro ⟨%a, %b, -, HA, HB, Hg, -, -⟩
  isplitr [Hg]
  · isplitl [HA]; · iexists _; iexact HA
    iexists _; iexact HB
  iexact Hg

-- the launch theorem's implicit arguments are found by unifying its conclusion with this one, which unfolds plain definitions in types
set_option backward.isDefEq.respectTransparency.types false in
/-- The run: every array ends at something the relational data allow, and every counter at zero. -/
theorem run_main : θ_run defs (onTc (τ := τ) (main (F := F))) ⟨m, fun _ => 0, ρ⟩
    (fun r => Pipeline.RDat.FramePost (cfgM m hO) (rdat m hO) (V m) r ∧ r.2.sem = fun _ => 0) :=
  Pipeline.RDat.θ_run_frameP_track_shared (pcfgs (F := F)) (fun _ => adm m hO) (0 : Fin 1) launch₀0 defs₀ Variants.none (rdat m hO) m ρ main
    (fun c => (body_obligation m hO c).toRRel) (fun _ _ _ => rfl) (fun _ _ => rfl) (V m) (hmain m)
    (A_eq m hO) (V_pre m) (hin m hO) (hout m hO) (fun r => Pipeline.RDat.FramePost (cfgM m hO) (rdat m hO) (V m) r ∧ r.2.sem = fun _ => 0) (fun _ h => h)

end Cert.Ffn

end
-- ==== Proof.FfnOut.lean ====
module

public import proofs.«01_k».proof.Proof.FfnRun
public import Idealize.ShloMosaic.Lib.Pipeline.Covers
public import Idealize.ShloMosaic.Lib.Pipeline.Kit
public import Idealize.ShloMosaic.Lib.Claim
public import Idealize.ShloMosaic.Lib.Pointwise

@[expose] public section

set_option maxRecDepth 16384

/-!
What the run of the experts' feed-forward kernel leaves: the output array at every index, and the arguments unchanged.
-/

noncomputable section

namespace Cert.Ffn

open Cert.Kernel2Ideal Cert.Kernel2Ideal.Gen
open Idealize.ShloMosaic Idealize.ShloMosaic.TcCoe Idealize.ShloMosaic.Tactic
open Idealize.SL Idealize.SL.Sem
open Idealize.ShloMosaic.Pipeline (Dat RDat Cfg Window)

variable {F : FTy → Type} [FloatOps F]

variable (m : (ℓ : Loc nD τ sig) → Buf (Elt F) ℓ) (ρ : Dev nD → PrngReg) (hO : Ok m)

/-- The output array. -/
def outArr (c : Dev nD) : S37376x1024.Idx → Elt F .f32 := fun i =>
  outBlk m hO c ((i 0).val / 512) (ix2 (⟨(i 0).val % 512, Nat.mod_lt _ (by decide)⟩ : Fin 512) (i 1 : Fin 1024))

/-- The array at row `512 k + r` is row `r` of tile `k`. -/
theorem outArr_eq (c : Dev nD) (i : S37376x1024.Idx) (k : ℕ) (r : Fin 512) (e : Fin 1024) (h0 : (i 0).val = k * 512 + r.val)
    (h1 : (i 1).val = e.val) : outArr m hO c i = outBlk m hO c k (ix2 r e) := by
  have hr' : r.val < 512 := r.isLt
  have hk : (i 0).val / 512 = k := by omega
  have hr : (⟨(i 0).val % 512, Nat.mod_lt _ (by decide)⟩ : Fin 512) = r := Fin.ext (by show _ % 512 = _; omega)
  have he : (i 1 : Fin 1024) = e := Fin.ext h1
  unfold outArr
  rw [hk, hr, he]

/-- The output window's index map: the tile. -/
theorem idx5 (t : Fin (cfgM m hO).N) : cc0_transform_5 (grid0.coords t) = ![t.val / 7, 0] := by
  have hN : t.val < 511 := lt_of_lt_of_eq t.isLt N_0
  funext a
  match a with
  | ⟨0, _⟩ =>
    show (BitVec.ofNat 32 (grid0.coords t 0).val).toNat = t.val / 7
    rw [coord0, BitVec.toNat_ofNat]; omega
  | ⟨1, _⟩ => rfl

/-- The output window is written back at the last point of each tile. -/
theorem flush5 (t : Fin (cfgM m hO).N) (h : ((cfgM m hO).win 5).flush t = true) : t.val % 7 = 6 :=
  (by decide +kernel : ∀ t : Fin grid0.N, Pipeline.Window.flushOf grid0 true cc0_transform_5 t = true → t.val % 7 = 6) t h

/-- The output's blocks cover the array. -/
theorem covers5 : ((cfgM m hO).win 5).Covers := by
  refine Window.covers_of_index_surj ((cfgM m hO).win 5) rfl (show ∀ a : Fin 2, 0 < S512x1024.size a from by decide) fun β => ?_
  have h0 : (β (0 : Fin 2)).val < 73 := lt_of_lt_of_eq (β (0 : Fin 2)).isLt (show (37376 + 512 - 1) / 512 = 73 by decide)
  have h1 : (β (1 : Fin 2)).val < 1 := lt_of_lt_of_eq (β (1 : Fin 2)).isLt (show (1024 + 1024 - 1) / 1024 = 1 by decide)
  refine ⟨⟨(β (0 : Fin 2)).val * 7, ?_⟩, fun a => ?_⟩
  · show _ < grid0.N
    rw [N_0]; omega
  · have h := idx5 m hO ⟨(β (0 : Fin 2)).val * 7, by show _ < grid0.N; rw [N_0]; omega⟩
    match a with
    | ⟨0, _⟩ => exact (congrFun h (0 : Fin 2)).trans (show (β (0 : Fin 2)).val * 7 / 7 = (β (0 : Fin 2)).val by omega)
    | ⟨1, _⟩ => exact (congrFun h (1 : Fin 2)).trans (show 0 = (β (1 : Fin 2)).val by omega)

/-- The array after the write-backs, for any contents that the relation allows. -/
theorem arr_out (c : Dev nD) (after : (w' : Fin (cfgM m hO).W) → Fin (cfgM m hO).N → ((cfgM m hO).win w').block.Idx → Elt F ((cfgM m hO).win w').elt)
    (h : ∀ u : Fin (cfgM m hO).N, ((cfgM m hO).win 5).flush u = true → (rdat m hO c).Leaves 5 u (after 5 u)) :
    ((rdat m hO c).withAfter after).arrAt 5 (cfgM m hO).N = outArr m hO c := by
  refine Dat.arrAt_eq_of_covers ((rdat m hO c).withAfter after) 5 _ (covers5 m hO) fun t hf y => ?_
  have h6 := flush5 m hO t hf
  have hl := Dat.toRRel_leaves (dats m hO c) (fgt := fgt) (Rl := Rl m hO c) (w := 5) rfl (h t hf)
  have hl' : t.val % 7 = 6 → after 5 t = outBlk m hO c (t.val / 7) := hl
  have hv := hl' h6
  have hN : t.val < 511 := lt_of_lt_of_eq t.isLt N_0
  obtain ⟨r, e, rfl⟩ : ∃ (r : Fin 512) (e : Fin 1024), y = ix2 r e := ⟨_, _, eq_ix2 y⟩
  refine (congrFun hv (ix2 r e)).trans (outArr_eq m hO c _ (t.val / 7) r e ?_ ?_).symm
  · refine (((cfgM m hO).win 5).rect_emb_val t (ix2 r e) (0 : Fin 2)).trans ?_
    show cc0_transform_5 (grid0.coords t) (0 : Fin 2) * 512 + r.val = _
    rw [idx5 m hO t]; rfl
  · refine (((cfgM m hO).win 5).rect_emb_val t (ix2 r e) (1 : Fin 2)).trans ?_
    show cc0_transform_5 (grid0.coords t) (1 : Fin 2) * 1024 + e.val = _
    rw [idx5 m hO t]; show 0 * 1024 + e.val = _; omega

/-- A buffer that is neither a window's array nor written by the host ends as it began. -/
theorem rest (c : Dev nD) (b : Ref sig .tc) (hs : b.isScoped = false) (ha : ∀ w : Fin 6, (spec0 w).arr.view.ref ≠ b)
    (h0 : b ≠ main_v0) (h1 : b ≠ main_v1) (h2 : b ≠ main_v2) {r : PUnit × MemSt nD τ sig (Elt F)}
    (hr : Pipeline.RDat.FramePost (cfgM m hO) (rdat m hO) (V m) r) : r.2.mem ((c.tc : Thread nD τ).loc b) = m ((c.tc : Thread nD τ).loc b) :=
  ((hr c).2 b (Pipeline.mem_restRefs_of (win := spec0) b hs ha)).trans (V_of m c b h0 h1 h2)

/-- The run: the output array holds `outArr`, the arguments are unchanged, every counter is zero. -/
theorem run_all : θ_run defs (onTc (τ := τ) (main (F := F))) ⟨m, fun _ => 0, ρ⟩ (fun r => (∀ c : Dev nD,
      r.2.mem ((c.tc : Thread nD τ).loc main_v3) = outArr m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c => ⟨by
      obtain ⟨after, hL, hA⟩ := RDat.FramePost.exists_exact hr.1 c
      exact (hA 5).trans (arr_out m hO c after fun u hu => hL 5 u hu),
      (RDat.FramePost.arr_in hr.1 c 0 rfl).trans ((A_eq m hO c 0).trans (V_of m c main_arg0 (by decide) (by decide) (by decide))),
      rest m hO c main_arg1 rfl (by decide) (by decide) (by decide) (by decide) hr.1,
      rest m hO c main_arg2 rfl (by decide) (by decide) (by decide) (by decide) hr.1,
      rest m hO c main_arg3 rfl (by decide) (by decide) (by decide) (by decide) hr.1,
      rest m hO c main_arg4 rfl (by decide) (by decide) (by decide) (by decide) hr.1,
      rest m hO c main_arg5 rfl (by decide) (by decide) (by decide) (by decide) hr.1⟩, hr.2⟩)
    (run_main m ρ hO)

end Cert.Ffn

end
-- ==== Proof.FfnOk.lean ====
module

public import proofs.«01_k».proof.Proof.FfnSetup
public import proofs.«01_k».proof.Proof.Gen.Pre_experts
public import Idealize.ShloMosaic.Lib.ReduceAll
public import Idealize.ShloMosaic.Lib.Pointwise
public import Idealize.ShloMosaic.Lib.Affine

@[expose] public section

set_option maxRecDepth 16384

/-!
The precondition of the experts' kernel, that every tile names one of the eight experts, read off its printed form; under it
every block that the tables pick lies inside the weights.
-/

noncomputable section

namespace Cert.Ffn

open Cert.Kernel2Ideal Cert.Kernel2Ideal.Gen
open Idealize.ShloMosaic Idealize.ShloMosaic.TcCoe

variable {F : FTy → Type} [FloatOps F]

instance : Subsingleton Cert.Pre_experts.S_.Idx := ⟨fun _ _ => funext fun d => d.elim0⟩

theorem ofBool_one {b : Bool} (h : BitVec.ofBool b = 1#1) : b = true := by cases b; exact absurd h (by decide); rfl

/-- A word between 0 and 7 under the signed order is below 8. -/
theorem word_lt {w : BitVec 32} (h0 : Scalar.cmpi .sge w (0#32) = 1#1) (h8 : Scalar.cmpi .slt w (8#32) = 1#1) : w.toNat < 8 := by
  have h0' : (0#32).sle w = true := ofBool_one h0
  have h8' : w.slt (8#32) = true := ofBool_one h8
  have h0 : (0#32).toInt ≤ w.toInt := BitVec.sle_iff_toInt_le.mp h0'
  have h8 : w.toInt < (8#32).toInt := BitVec.slt_iff_toInt_lt.mp h8'
  have hw := w.isLt
  rw [show (0#32).toInt = 0 from rfl] at h0
  rw [show (8#32).toInt = 8 from rfl] at h8
  rw [BitVec.toInt_eq_toNat_cond] at h0 h8
  split_ifs at h0 h8 <;> omega

/-- The precondition says that every word of the table is below 8. -/
theorem experts_lt {x g wgu wd te nu} (h : Cert.Pre_experts.fn (F := F) x g wgu wd te nu = fun _ => 1#1) (i : S73.Idx) : (te i).toNat < 8 := by
  have h' := congrFun h (Shape.Idx.first Cert.Pre_experts.Facts.h_S_)
  have hi := Host.reduce_andi_all _ _ _ _ _ h' i
  have h2 := IntOp.andi_eq_one.mp hi
  exact word_lt h2.1 h2.2

variable (m : (ℓ : Loc nD τ sig) → Buf (Elt F) ℓ)

/-- The first table is the program's argument. -/
theorem tbl_zero : tbl m 0 = m (((0 : Dev nD).tc : Thread nD τ).loc main_arg4) :=
  V_of m 0 main_arg4 (by decide) (by decide) (by decide)

/-- The element of the table that the index maps load. -/
theorem at_eq (i : grid0.Coords) :
    (Rect.unit (s := S73) ![(BitVec.ofNat 32 (i 0).val).toNat] S1.size (k0_off1_inb i)).emb (Shape.Idx.first (numel1_S1.symm ▸ Nat.one_pos))
      = (ix1 (i 0 : Fin 73) : S73.Idx) := by
  have h0 : (i 0).val < 73 := (i 0).isLt
  funext a
  match a with
  | ⟨0, _⟩ =>
    apply Fin.ext
    show (BitVec.ofNat 32 (i 0).val).toNat + 1 * 0 = (i 0).val
    rw [BitVec.toNat_ofNat]; omega

/-- The word of the first table that the grid's point `i` reads. -/
def teW (pf : pre0.Contents (Elt F)) (i : grid0.Coords) : BitVec 32 := (pf 0 : S73.Idx → BitVec 32) (ix1 (i 0 : Fin 73))

/-- The gate's block. -/
theorem ix_gate (pf : pre0.Contents (Elt F)) (i : grid0.Coords) :
    cc0_transform_2 k0_off1_inb numel1_S1 pf i = ![(teW pf i).toNat, 0, (i 1).val] := by
  have h1 : (i 1).val < 7 := (i 1).isLt
  funext a
  match a with
  | ⟨0, _⟩ => exact congrArg (fun j => ((pf 0 : S73.Idx → BitVec 32) j).toNat) (at_eq i)
  | ⟨1, _⟩ => rfl
  | ⟨2, _⟩ => show (BitVec.ofNat 32 (i 1).val).toNat = (i 1).val; rw [BitVec.toNat_ofNat]; omega

/-- The up projection's block. -/
theorem ix_up (pf : pre0.Contents (Elt F)) (i : grid0.Coords) :
    cc0_transform_3 k0_off1_inb numel1_S1 pf i = ![(teW pf i).toNat, 0, 7 + (i 1).val] := by
  have h1 : (i 1).val < 7 := (i 1).isLt
  funext a
  match a with
  | ⟨0, _⟩ => exact congrArg (fun j => ((pf 0 : S73.Idx → BitVec 32) j).toNat) (at_eq i)
  | ⟨1, _⟩ => rfl
  | ⟨2, _⟩ =>
    show (7#32 + BitVec.ofNat 32 (i 1).val).toNat = 7 + (i 1).val
    rw [BitVec.toNat_add, BitVec.toNat_ofNat, BitVec.toNat_ofNat]; omega

/-- The down projection's block. -/
theorem ix_down (pf : pre0.Contents (Elt F)) (i : grid0.Coords) :
    cc0_transform_4 k0_off1_inb numel1_S1 pf i = ![(teW pf i).toNat, (i 1).val, 0] := by
  have h1 : (i 1).val < 7 := (i 1).isLt
  funext a
  match a with
  | ⟨0, _⟩ => exact congrArg (fun j => ((pf 0 : S73.Idx → BitVec 32) j).toNat) (at_eq i)
  | ⟨1, _⟩ => show (BitVec.ofNat 32 (i 1).val).toNat = (i 1).val; rw [BitVec.toNat_ofNat]; omega
  | ⟨2, _⟩ => rfl

/-- Words below 8 pick blocks inside the weights. -/
theorem ok_of (h : ∀ i : S73.Idx, ((m (((0 : Dev nD).tc : Thread nD τ).loc main_arg4) : S73.Idx → BitVec 32) i).toNat < 8) : Ok m := by
  have hw : ∀ i : grid0.Coords, (teW (tbl m) i).toNat < 8 := fun i => by unfold teW; rw [tbl_zero]; exact h _
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩ <;>
    have h0 := hw i <;> have h1 : (i 1).val < 7 := (i 1).isLt
  · rw [ix_gate]
    match a with
    | ⟨0, _⟩ => show ((teW (tbl m) i).toNat + 1) * 1 ≤ 8; omega
    | ⟨1, _⟩ => show (0 + 1) * 1024 ≤ 1024; omega
    | ⟨2, _⟩ => show ((i 1).val + 1) * 512 ≤ 7168; omega
  · rw [ix_up]
    match a with
    | ⟨0, _⟩ => show ((teW (tbl m) i).toNat + 1) * 1 ≤ 8; omega
    | ⟨1, _⟩ => show (0 + 1) * 1024 ≤ 1024; omega
    | ⟨2, _⟩ => show (7 + (i 1).val + 1) * 512 ≤ 7168; omega
  · rw [ix_down]
    match a with
    | ⟨0, _⟩ => show ((teW (tbl m) i).toNat + 1) * 1 ≤ 8; omega
    | ⟨1, _⟩ => show ((i 1).val + 1) * 512 ≤ 3584; omega
    | ⟨2, _⟩ => show (0 + 1) * 1024 ≤ 1024; omega

end Cert.Ffn

end
-- ==== Proof.FfnFrame.lean ====
module

public import proofs.«01_k».proof.Proof.FfnOut
public import proofs.«01_k».proof.Proof.FfnOk
public import proofs.«01_k».proof.Proof.Gen.Kernel2
public import proofs.«01_k».proof.Defs

@[expose] public section

set_option maxRecDepth 16384

/-!
The frame of the experts' feed-forward kernel as printed. Its idealization has the same text, so the run of the one is
the run of the other.
-/

noncomputable section

namespace Cert.Ffn

open Idealize.ShloMosaic Idealize.ShloMosaic.TcCoe Idealize.SL.Sem

attribute [local instance] Cert.Kernel2.Gen.facts Cert.Kernel2Ideal.Gen.facts

/-- The two programs call the same body with the same operands. -/
theorem defs₀_same : @Cert.Kernel2.defs₀ Bits _ _ = @Cert.Kernel2Ideal.defs₀ Bits _ _ :=
  congrArg Defs.onTc (funext fun l => funext fun a => match l, a with
    | 0, (_, _) => rfl)

/-- The two programs have the same table of bodies. -/
theorem defs_same : @Cert.Kernel2.defs Bits _ _ = @Cert.Kernel2Ideal.defs Bits _ _ :=
  congrArg (Pipeline.defs Cert.Kernel2Ideal.pcfgs) defs₀_same

/-- The two programs have the same entry. -/
theorem main_same : @Cert.Kernel2.main Bits _ _ = @Cert.Kernel2Ideal.main Bits _ _ := rfl

/-- Where the tables are admissible, the kernel runs, leaves its arguments and ends with every counter at zero. -/
theorem frame_of_ok {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) (hO : Ok m) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0) :=
  (θ_run Cert.Kernel2Ideal.defs _ _).mono (fun _ h => ⟨fun c => (h.1 c).2, h.2⟩) (run_all m ρ hO)

/-- The kernel as printed runs, leaves its arguments and ends with every counter at zero. -/
theorem frame_bits : Cert.quiescent_Kernel2 (hKernel2 := Cert.Kernel2.Gen.facts) (hPre_experts := Cert.Pre_experts.Gen.facts) := by
  intro m ρ h
  have hr := frame_of_ok (F := Bits) m ρ (ok_of m fun i => experts_lt (h 0) i)
  rw [← defs_same, ← main_same] at hr
  exact hr

end Cert.Ffn

end
-- ==== Proof.FfnSpec.lean ====
module

public import Idealize.ShloMosaic.PureOps.Ideal.Laws

@[expose] public section

/-!
The experts' feed-forward layer of one row, as a formula over the extended reals: the row is normalised by its root mean
square, projected to a gate and an up value for each of the 3584 hidden units, and the hidden units are projected down.
-/

noncomputable section

namespace Cert.Ffn

open Idealize.ShloMosaic

/-- Entry `d` of the row `x` normalised by its root mean square and scaled by `g`. -/
def rowNorm (x g : Fin 1024 → EReal) (d : Fin 1024) : EReal :=
  x d * Ideal.rsqrt (Ideal.div (∑ k, x k * x k) (Ideal.ofBits .f32 0x44800000#32) + Ideal.ofBits .f32 0x358637BD#32) * g d

/-- A gate value through `x ↦ x / (1 + e⁻ˣ)`, times an up value. -/
def glu (gate up : EReal) : EReal := gate * Ideal.div 1 (1 + Ideal.exp (-gate)) * up

/-- The hidden unit whose gate weights are `u` and whose up weights are `v`. -/
def hid (h u v : Fin 1024 → EReal) : EReal := glu (∑ k, h k * u k) (∑ k, h k * v k)

/-- Hidden unit `f` and its contribution to output `d`, under the weights `wgu` (gates, then ups) and `wd`. -/
def term (h : Fin 1024 → EReal) (wgu : Fin 1024 → Fin 7168 → EReal) (wd : Fin 3584 → Fin 1024 → EReal) (d : Fin 1024) (f : Fin 3584) : EReal :=
  hid h (fun k => wgu k ⟨f.val, by omega⟩) (fun k => wgu k ⟨3584 + f.val, by omega⟩) * wd f d

/-- Output `d` of a row. -/
def rowOut (x g : Fin 1024 → EReal) (wgu : Fin 1024 → Fin 7168 → EReal) (wd : Fin 3584 → Fin 1024 → EReal) (d : Fin 1024) : EReal :=
  ∑ f, term (rowNorm x g) wgu wd d f

/-- Hidden unit `i` of block `j` of 512 (of seven blocks). -/
def unit (j : ℕ) (i : Fin 512) : Fin 3584 := ⟨j % 7 * 512 + i.val, by omega⟩

/-- The sum over the hidden units is the sum over seven blocks of 512. -/
theorem sum_blocks (T : Fin 3584 → EReal) : ∑ j ∈ Finset.range 7, ∑ i : Fin 512, T (unit j i) = ∑ f, T f := by
  rw [Finset.sum_range, ← Fintype.sum_prod_type' (fun (j : Fin 7) (i : Fin 512) => T (unit j.val i))]
  refine Fintype.sum_equiv (finProdFinEquiv (m := 7) (n := 512)) _ _ fun p => congrArg T (Fin.ext ?_)
  have h := p.1.isLt
  show p.1.val % 7 * 512 + p.2.val = p.2.val + 512 * p.1.val
  omega

end Cert.Ffn

end
-- ==== Proof.FfnVal.lean ====
module

public import proofs.«01_k».proof.Proof.FfnOut
public import proofs.«01_k».proof.Proof.FfnOk
public import proofs.«01_k».proof.Proof.FfnSpec
public import Idealize.ShloMosaic.Lib.Pointwise
public import Idealize.ShloMosaic.Lib.Pipeline.ValueKit.Basic

@[expose] public section

set_option maxRecDepth 16384

/-!
What the experts' kernel computes, over the extended reals: its expressions at an index, the blocks its windows show as parts of
the arguments, and so the output array in the words of the formula.
-/

noncomputable section

namespace Cert.Ffn

open Cert.Kernel2Ideal Cert.Kernel2Ideal.Gen
open Idealize.ShloMosaic Idealize.ShloMosaic.TcCoe Idealize.ShloMosaic.Tactic
open Idealize.SL.Sem

/-! ## The body's expressions -/

theorem pay1_apply (x : Vec Ideal S512x1024 .f32) (g : Vec Ideal S1x1024 .f32) (r : Fin 512) (d : Fin 1024) :
    k0_pay1 (F := Ideal) x g (ix2 r d) = rowNorm (fun k => x (ix2 r k)) (fun k => g (ix2 0 k)) d := by
  pointwise [k0_pay1]; rfl

theorem pay2_apply (r : Fin 512) (d : Fin 1024) : k0_pay2 (F := Ideal) (ix2 r d) = 0 := by
  pointwise [k0_pay2]

theorem pay4_apply (r : Fin 512) (d : Fin 1024) : k0_pay4 (F := Ideal) (ix2 r d) = 0 := by
  pointwise [k0_pay4]

theorem pay3_apply (n : Vec Ideal S512x1024 .bf16) (wg wu : Vec Ideal S1x1024x512 .bf16) (b : Vec Ideal S512x1024 .f32)
    (wo : Vec Ideal S1x512x1024 .bf16) (r : Fin 512) (d : Fin 1024) :
    k0_pay3 (F := Ideal) n wg wu b wo (ix2 r d)
      = b (ix2 r d) + ∑ i : Fin 512, hid (fun k => n (ix2 r k)) (fun k => wg (ix3 0 k i)) (fun k => wu (ix3 0 k i)) * wo (ix3 0 i d) := by
  pointwise [k0_pay3]; simp only [zero_sub]; rfl

/-! ## The blocks -/

variable (m : (ℓ : Loc nD τ sig) → Buf (Elt Ideal) ℓ) (c : Dev nD)

/-- The arguments, as plain functions. -/
def xA (p : Fin 37376) (k : Fin 1024) : EReal := (m ((c : Thread nD τ).loc main_arg0) : S37376x1024.Idx → EReal) (ix2 p k)
def gA (k : Fin 1024) : EReal := (m ((c : Thread nD τ).loc main_arg1) : S1024.Idx → EReal) (ix1 k)
def wguA (e : Fin 8) (k : Fin 1024) (f : Fin 7168) : EReal := (m ((c : Thread nD τ).loc main_arg2) : S8x1024x7168.Idx → EReal) (ix3 e k f)
def wdA (e : Fin 8) (f : Fin 3584) (d : Fin 1024) : EReal := (m ((c : Thread nD τ).loc main_arg3) : S8x3584x1024.Idx → EReal) (ix3 e f d)
def teA (r : Fin 73) : BitVec 32 := (m ((c : Thread nD τ).loc main_arg4) : S73.Idx → BitVec 32) (ix1 r)
def nuA : BitVec 32 := (m ((c : Thread nD τ).loc main_arg5) : S1.Idx → BitVec 32) (ix1 0)

theorem V_v0 (i : S8x1024x7168.Idx) : (V m c main_v0 : S8x1024x7168.Idx → EReal) i = (m ((c : Thread nD τ).loc main_arg2) : S8x1024x7168.Idx → EReal) i := by
  have h : V m c main_v0 = truncf (F := Ideal) .bf16 (m ((c : Thread nD τ).loc main_arg2) : S8x1024x7168.Idx → EReal) bitsLt_bf16_f32 := by
    show StableHlo.after hostOps0 _ (Proc.devRef .tc main_v0) = _; after_results
  rw [h]; rfl
theorem V_v1 (i : S8x3584x1024.Idx) : (V m c main_v1 : S8x3584x1024.Idx → EReal) i = (m ((c : Thread nD τ).loc main_arg3) : S8x3584x1024.Idx → EReal) i := by
  have h : V m c main_v1 = truncf (F := Ideal) .bf16 (m ((c : Thread nD τ).loc main_arg3) : S8x3584x1024.Idx → EReal) bitsLt_bf16_f32 := by
    show StableHlo.after hostOps0 _ (Proc.devRef .tc main_v1) = _; after_results
  rw [h]; rfl
theorem V_v2 (k : Fin 1024) : (V m c main_v2 : S1x1024.Idx → EReal) (ix2 0 k) = gA m c k := by
  have h : V m c main_v2 = shapeCast S1x1024 (m ((c : Thread nD τ).loc main_arg1) : S1024.Idx → EReal) shapeCasts_S1024_S1x1024 := by
    show StableHlo.after hostOps0 _ (Proc.devRef .tc main_v2) = _; after_results; rfl
  rw [h]
  pointwise []; rfl

variable (hO : Ok m)

/-- The tile and the block of hidden units of a grid point. -/
def tileOf (t : Fin (cfgM m hO).N) : Fin 73 := ⟨t.val / 7, by have := lt_of_lt_of_eq t.isLt N_0; omega⟩

/-- The word that point `t` picks the weights by. -/
theorem te_pt (t : Fin (cfgM m hO).N) : teW (tbl m) (grid0.coords t) = teA m c (tileOf m hO t) := by
  obtain rfl : c = 0 := Subsingleton.elim _ _
  unfold teW; rw [tbl_zero]
  exact congrArg (fun r : Fin 73 => teA m 0 r) (Fin.ext (coord0 m hO t))

/-- The rows' block. -/
theorem blk_x (t : Fin (cfgM m hO).N) (r : Fin 512) (d : Fin 1024) :
    iblk m hO c 0 t (ix2 r d) = xA m c ⟨(tileOf m hO t).val * 512 + r.val, by omega⟩ d := by
  show (V m c main_arg0 : S37376x1024.Idx → EReal) _ = _
  rw [V_of m c main_arg0 (by decide) (by decide) (by decide)]
  refine congrArg (m ((c : Thread nD τ).loc main_arg0) : S37376x1024.Idx → EReal) (funext fun a => Fin.ext ?_)
  refine (((cfgM m hO).win 0).rect_emb_val t (ix2 r d) a).trans ?_
  have h0 := coord0 m hO t
  have hN := lt_of_lt_of_eq t.isLt N_0
  match a with
  | ⟨0, _⟩ =>
    show (BitVec.ofNat 32 (grid0.coords t 0).val).toNat * 512 + r.val = t.val / 7 * 512 + r.val
    rw [h0, BitVec.toNat_ofNat]; omega
  | ⟨1, _⟩ => show 0 * 1024 + d.val = d.val; omega

/-- The scale's block. -/
theorem blk_g (t : Fin (cfgM m hO).N) (d : Fin 1024) : iblk m hO c 1 t (ix2 0 d) = gA m c d := by
  refine Eq.trans ?_ (V_v2 m c d)
  show (V m c main_v2 : S1x1024.Idx → EReal) _ = _
  refine congrArg (V m c main_v2 : S1x1024.Idx → EReal) (funext fun a => Fin.ext ?_)
  refine (((cfgM m hO).win 1).rect_emb_val t (ix2 0 d) a).trans ?_
  match a with
  | ⟨0, _⟩ => rfl
  | ⟨1, _⟩ => show 0 * 1024 + d.val = d.val; omega

variable {m} in
/-- The gates' block. -/
theorem blk_gate (t : Fin (cfgM m hO).N) (e : Fin 8) (he : (teA m c (tileOf m hO t)).toNat = e.val) (k : Fin 1024) (i : Fin 512) :
    iblk m hO c 2 t (ix3 0 k i) = wguA m c e k ⟨(unit (t.val % 7) i).val, by omega⟩ := by
  show (V m c main_v0 : S8x1024x7168.Idx → EReal) _ = _
  refine (V_v0 m c _).trans (congrArg (m ((c : Thread nD τ).loc main_arg2) : S8x1024x7168.Idx → EReal) (funext fun a => Fin.ext ?_))
  have h := ix_gate (tbl m) (grid0.coords t)
  rw [te_pt m c hO t, coord1] at h
  have hv : _ = cc0_transform_2 k0_off1_inb numel1_S1 (tbl m) (grid0.coords t) a * S1x1024x512.size a + (((ix3 0 k i) : S1x1024x512.Idx) a).val :=
    ((cfgM m hO).win 2).rect_emb_val t (ix3 0 k i) a
  rw [h] at hv
  refine hv.trans ?_
  clear hv h
  match a with
  | ⟨0, _⟩ => show (teA m c (tileOf m hO t)).toNat * 1 + 0 = e.val; omega
  | ⟨1, _⟩ => show 0 * 1024 + k.val = k.val; omega
  | ⟨2, _⟩ => show t.val % 7 * 512 + i.val = t.val % 7 % 7 * 512 + i.val; omega

variable {m} in
/-- The ups' block. -/
theorem blk_up (t : Fin (cfgM m hO).N) (e : Fin 8) (he : (teA m c (tileOf m hO t)).toNat = e.val) (k : Fin 1024) (i : Fin 512) :
    iblk m hO c 3 t (ix3 0 k i) = wguA m c e k ⟨3584 + (unit (t.val % 7) i).val, by omega⟩ := by
  show (V m c main_v0 : S8x1024x7168.Idx → EReal) _ = _
  refine (V_v0 m c _).trans (congrArg (m ((c : Thread nD τ).loc main_arg2) : S8x1024x7168.Idx → EReal) (funext fun a => Fin.ext ?_))
  have h := ix_up (tbl m) (grid0.coords t)
  rw [te_pt m c hO t, coord1] at h
  have hv : _ = cc0_transform_3 k0_off1_inb numel1_S1 (tbl m) (grid0.coords t) a * S1x1024x512.size a + (((ix3 0 k i) : S1x1024x512.Idx) a).val :=
    ((cfgM m hO).win 3).rect_emb_val t (ix3 0 k i) a
  rw [h] at hv
  refine hv.trans ?_
  clear hv h
  match a with
  | ⟨0, _⟩ => show (teA m c (tileOf m hO t)).toNat * 1 + 0 = e.val; omega
  | ⟨1, _⟩ => show 0 * 1024 + k.val = k.val; omega
  | ⟨2, _⟩ =>
    show (7 + t.val % 7) * 512 + i.val = 3584 + (t.val % 7 % 7 * 512 + i.val); omega

variable {m} in
/-- The down projection's block. -/
theorem blk_down (t : Fin (cfgM m hO).N) (e : Fin 8) (he : (teA m c (tileOf m hO t)).toNat = e.val) (i : Fin 512) (d : Fin 1024) :
    iblk m hO c 4 t (ix3 0 i d) = wdA m c e (unit (t.val % 7) i) d := by
  show (V m c main_v1 : S8x3584x1024.Idx → EReal) _ = _
  refine (V_v1 m c _).trans (congrArg (m ((c : Thread nD τ).loc main_arg3) : S8x3584x1024.Idx → EReal) (funext fun a => Fin.ext ?_))
  have h := ix_down (tbl m) (grid0.coords t)
  rw [te_pt m c hO t, coord1] at h
  have hv : _ = cc0_transform_4 k0_off1_inb numel1_S1 (tbl m) (grid0.coords t) a * S1x512x1024.size a + (((ix3 0 i d) : S1x512x1024.Idx) a).val :=
    ((cfgM m hO).win 4).rect_emb_val t (ix3 0 i d) a
  rw [h] at hv
  refine hv.trans ?_
  clear hv h
  match a with
  | ⟨0, _⟩ => show (teA m c (tileOf m hO t)).toNat * 1 + 0 = e.val; omega
  | ⟨1, _⟩ => show t.val % 7 * 512 + i.val = t.val % 7 % 7 * 512 + i.val; omega
  | ⟨2, _⟩ => show 0 * 1024 + d.val = d.val; omega

/-! ## The output -/

theorem pt_num (n : ℕ) (h : n < 511) : (pt m hO n).val = n := Nat.mod_eq_of_lt h

variable {m} in
/-- The running sum of a tile. -/
theorem acc_apply (q : Fin 73) (e : Fin 8) (he : (teA m c q).toNat = e.val) (r : Fin 512) (d : Fin 1024) (j : ℕ) (hj : j ≤ 7) :
    acc m hO c q.val j (ix2 r d) = ∑ l ∈ Finset.range j, ∑ i : Fin 512,
      term (rowNorm (xA m c ⟨q.val * 512 + r.val, by omega⟩) (gA m c)) (wguA m c e) (wdA m c e) d (unit l i) := by
  have hq := q.isLt
  induction j with
  | zero => exact pay2_apply r d
  | succ j ih =>
    have ev : (pt m hO (7 * q.val + j)).val = 7 * q.val + j := pt_num m hO _ (by omega)
    have et : tileOf m hO (pt m hO (7 * q.val + j)) = q := Fin.ext (by show (pt m hO (7 * q.val + j)).val / 7 = _; rw [ev]; omega)
    have ej : (pt m hO (7 * q.val + j)).val % 7 = j := by rw [ev]; omega
    have ev0 : (pt m hO (7 * q.val)).val = 7 * q.val := pt_num m hO _ (by omega)
    have et0 : tileOf m hO (pt m hO (7 * q.val)) = q := Fin.ext (by show (pt m hO (7 * q.val)).val / 7 = _; rw [ev0]; omega)
    have hn : (fun k => nrm m hO c q.val (ix2 r k)) = rowNorm (xA m c ⟨q.val * 512 + r.val, by omega⟩) (gA m c) := by
      funext k
      refine (pay1_apply _ _ r k).trans (congrArg₂ (fun x g => rowNorm x g k) (funext fun l => ?_) (funext fun l => blk_g m c hO _ l))
      exact (blk_x m c hO _ r l).trans (congrArg (fun p => xA m c p l) (Fin.ext (congrArg (fun z : Fin 73 => z.val * 512 + r.val) et0)))
    rw [Finset.sum_range_succ, ← ih (by omega)]
    refine (pay3_apply _ _ _ _ _ r d).trans (congrArg (acc m hO c q.val j (ix2 r d) + ·) (Finset.sum_congr rfl fun i _ => ?_))
    rw [hn]
    have he' : (teA m c (tileOf m hO (pt m hO (7 * q.val + j)))).toNat = e.val := by rw [et]; exact he
    refine congrArg₂ (· * ·) (congrArg₂ (hid _) (funext fun k => (blk_gate c hO _ e he' k i).trans ?_) (funext fun k => (blk_up c hO _ e he' k i).trans ?_))
      ((blk_down c hO _ e he' i d).trans ?_)
    · exact congrArg (wguA m c e k) (Fin.ext (by show (unit _ i).val = _; rw [ej]))
    · exact congrArg (wguA m c e k) (Fin.ext (by show 3584 + (unit _ i).val = _; rw [ej]))
    · rw [ej]

/-- The word of the second table. -/
theorem word_eq : word m c = nuA m c := by
  obtain rfl : c = 0 := Subsingleton.elim _ _
  have h : tbl m 1 = m (((0 : Dev nD) : Thread nD τ).loc main_arg5) := V_of m 0 main_arg5 (by decide) (by decide) (by decide)
  unfold word wd
  rw [h]
  show (m (((0 : Dev nD) : Thread nD τ).loc main_arg5) : S1.Idx → BitVec 32) _ = _
  exact congrArg (m (((0 : Dev nD) : Thread nD τ).loc main_arg5) : S1.Idx → BitVec 32) (funext fun a => match a with | ⟨0, _⟩ => Subsingleton.elim (α := Fin 1) _ _)

variable {m} in
/-- The output array: in a tile in use, the layer of each row under its tile's expert; elsewhere zero. -/
theorem outArr_apply (q : Fin 73) (e : Fin 8) (he : (teA m c q).toNat = e.val) (r : Fin 512) (d : Fin 1024) (p : Fin 37376)
    (hp : p.val = q.val * 512 + r.val) :
    outArr m hO c (ix2 p d) = if IntOp.cmpi .slt (BitVec.ofNat 32 q.val) (nuA m c) = 1#1 then
      rowOut (xA m c p) (gA m c) (wguA m c e) (wdA m c e) d else 0 := by
  rw [outArr_eq m hO c _ q.val r d hp rfl]
  unfold outBlk UsedN
  rw [word_eq]
  refine (apply_ite (fun X : Vec Ideal S512x1024 .f32 => X (ix2 r d)) _ _ _).trans (if_congr Iff.rfl ?_ (pay4_apply r d))
  refine (acc_apply c hO q e he r d 7 le_rfl).trans ((sum_blocks _).trans ?_)
  rw [show (⟨q.val * 512 + r.val, by omega⟩ : Fin 37376) = p from Fin.ext hp.symm]
  rfl

end Cert.Ffn

end
-- ==== Proof.FfnRef.lean ====
module

public import proofs.«01_k».proof.Proof.Gen.Reference2Ideal.Read
public import proofs.«01_k».proof.Proof.FfnSpec
public import Idealize.ShloMosaic.Lib.Pointwise

@[expose] public section

set_option maxRecDepth 16384

/-!
What the reference of the experts' layer computes, over the extended reals, at each index: the layer of the row under the expert
that its tile names, or zero in a tile that is not in use.
-/

noncomputable section

namespace Cert.Ffn

open Cert.Reference2Ideal Cert.Reference2Ideal.Gen Cert.Reference2Ideal.Read
open Idealize.ShloMosaic

variable (x0 : S37376x1024.Idx → EReal) (x1 : S1024.Idx → EReal) (x2 : S8x1024x7168.Idx → EReal) (x3 : S8x3584x1024.Idx → EReal)
  (x4 : S73.Idx → BitVec 32) (x5 : S1.Idx → BitVec 32)

theorem zero_bits : Ideal.ofBits .f32 0x00000000#32 = 0 := by simp [Ideal.ofBits, Ideal.ieee]
theorem one_bits : Ideal.ofBits .f32 0x3F800000#32 = 1 := by
  simp [Ideal.ofBits, Ideal.ieee]; rw [← EReal.coe_mul]; norm_num

/-- The normalised rows. -/
theorem ref_norm (p : Fin 37376) (k : Fin 1024) :
    val_main_v12 (F := Ideal) x0 x1 (ix2 p k) = rowNorm (fun l => x0 (ix2 p l)) (fun l => x1 (ix1 l)) k := by
  rw [val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + ∑ l, x0 _ * x0 _) (Ideal.ofBits .f32 0x44800000#32)
    + Ideal.ofBits .f32 0x358637BD#32) * x1 _ = _
  rw [zero_bits, zero_add]
  unfold rowNorm
  congr 1
  · congr 3
    refine congrArg₂ Ideal.div (Finset.sum_congr rfl fun l _ => ?_) rfl
    have e : idx_main_v1 (idx_main_v2 (idx_main_v8 (ix2 p k))) l = ix2 p l := eq_ix2 _
    rw [e]
  · exact congrArg x1 (eq_ix1 _)

/-- The projections. -/
theorem ref_proj (e : Fin 8) (p : Fin 37376) (f : Fin 7168) :
    val_main_v25 (F := Ideal) x0 x1 x2 (ix3 e p f)
      = ∑ k, rowNorm (fun l => x0 (ix2 p l)) (fun l => x1 (ix1 l)) k * x2 (ix3 e k f) := by
  rw [val_main_v25_apply, val_main_v24_apply]
  refine Finset.sum_congr rfl fun k _ => ?_
  rw [show ridx_main_v24 (idx_main_v25 (ix3 e p f)) k = ix2 p k from eq_ix2 _, ref_norm,
    show lidx_main_v24 (idx_main_v25 (ix3 e p f)) k = ix3 e k f from eq_ix3 _]
  exact mul_comm _ _

/-- The hidden units. -/
theorem ref_hid (e : Fin 8) (p : Fin 37376) (f : Fin 3584) :
    val_main_v29 (F := Ideal) x0 x1 x2 (ix3 e p f)
      = hid (rowNorm (fun l => x0 (ix2 p l)) (fun l => x1 (ix1 l))) (fun k => x2 (ix3 e k ⟨f.val, by omega⟩))
          (fun k => x2 (ix3 e k ⟨3584 + f.val, by omega⟩)) := by
  have hg : val_main_v26 (F := Ideal) x0 x1 x2 (ix3 e p f)
      = ∑ k, rowNorm (fun l => x0 (ix2 p l)) (fun l => x1 (ix1 l)) k * x2 (ix3 e k ⟨f.val, by omega⟩) := by
    rw [val_main_v26_apply, show idx_main_v26 (ix3 e p f) = ix3 e p ⟨f.val, by omega⟩ from eq_ix3 _]
    exact ref_proj x0 x1 x2 e p ⟨f.val, by omega⟩
  have hu : val_main_v28 (F := Ideal) x0 x1 x2 (ix3 e p f)
      = ∑ k, rowNorm (fun l => x0 (ix2 p l)) (fun l => x1 (ix1 l)) k * x2 (ix3 e k ⟨3584 + f.val, by omega⟩) := by
    rw [val_main_v28_apply, show idx_main_v28 (ix3 e p f) = ix3 e p ⟨3584 + f.val, by omega⟩ from eq_ix3 _]
    exact ref_proj x0 x1 x2 e p ⟨3584 + f.val, by omega⟩
  rw [val_main_v29_apply, val_main_v27_apply, val_main_call2_v5_apply, val_main_call2_v3_apply, val_main_call2_v1_apply,
    val_main_call2_v0_apply, hg, hu, val_main_call2_v4_apply, val_main_call2_v2_apply]
  show _ * Ideal.div (Ideal.ofBits .f32 0x3F800000#32) (Ideal.ofBits .f32 0x3F800000#32 + Ideal.exp (-_)) * _ = _
  rw [one_bits]
  rfl

/-- Each expert's output for each row. -/
theorem ref_y (e : Fin 8) (p : Fin 37376) (d : Fin 1024) :
    val_main_v30 (F := Ideal) x0 x1 x2 x3 (ix3 e p d)
      = rowOut (fun l => x0 (ix2 p l)) (fun l => x1 (ix1 l)) (fun k f => x2 (ix3 e k f)) (fun f d => x3 (ix3 e f d)) d := by
  rw [val_main_v30_apply]
  refine Finset.sum_congr rfl fun f _ => ?_
  rw [show lidx_main_v30 (ix3 e p d) f = ix3 e p f from eq_ix3 _, ref_hid,
    show ridx_main_v30 (ix3 e p d) f = ix3 e f d from eq_ix3 _]
  rfl

/-- A comparison for equality as a number. -/
theorem bit_val (a b : BitVec 32) : (FloatOps.uitofp .f32 (IntOp.cmpi .eq a b) : Ideal .f32) = if a = b then (1 : EReal) else 0 := by
  by_cases h : a = b
  · subst h; simp [IntOp.cmpi, FloatOps.uitofp]
  · simp [IntOp.cmpi, FloatOps.uitofp, h]

/-- The weight of an expert for a row: one for the expert that the row's tile names if the tile is in use, else zero. -/
theorem ref_comb (e : Fin 8) (q : Fin 73) (p : Fin 37376) (d : Fin 1024) (hq : p.val / 512 = q.val) :
    val_main_v33 (F := Ideal) x4 x5 (ix3 e p d)
      = if IntOp.cmpi .slt (BitVec.ofNat 32 q.val) (x5 (ix1 0)) = 1#1 then
          if x4 (ix1 q) = BitVec.ofNat 32 e.val then 1 else 0 else 0 := by
  have e15 : idx_main_v14 (idx_main_v15 (ix1 p)) = ix1 q := (eq_ix1 _).trans (congrArg ix1 (Fin.ext hq))
  have e21 : idx_main_v20 (idx_main_v21 (ix1 p)) = ix1 q := (eq_ix1 _).trans (congrArg ix1 (Fin.ext hq))
  have e16 : ∀ z, idx_main_v16 (ix2 p z) = ix1 p := fun _ => eq_ix1 _
  rw [val_main_v33_apply, val_main_v32_apply, val_main_v31_apply,
    show idx_main_v31 (idx_main_v32 (idx_main_v33 (ix3 e p d))) = ix2 p e from eq_ix2 _,
    val_main_v23_apply, val_main_call1_v1_apply, val_main_v19_apply, val_main_v22_apply, val_main_call0_v4_apply,
    val_main_call0_v2_apply, val_main_call0_v0_apply, val_main_v21_apply, val_main_v20_apply,
    val_main_call0_v3_apply, val_main_call0_v1_apply, val_main_v16_apply, val_main_v15_apply, val_main_v14_apply, val_main_v13_apply,
    val_main_v18_apply, val_main_v17_apply, val_main_call1_v2_apply]
  rw [show idx_main_v14 (idx_main_v15 (idx_main_v16 (idx_main_call1_v1 (ix2 p e)))) = ix1 q from e15,
    show idx_main_v20 (idx_main_v21 (idx_main_call0_v0 (idx_main_call0_v2 (ix2 p e)))) = ix1 q from e21,
    show idx_main_v17 (idx_main_v18 (idx_main_call1_v1 (ix2 p e))) = ix1 0 from eq_ix1 _]
  show (if IntOp.cmpi .slt (BitVec.ofNat 32 q.val) (x5 (ix1 0)) = 1#1 then
    (FloatOps.uitofp .f32 (IntOp.cmpi .eq (x4 (ix1 q)) (BitVec.ofNat 32 e.val)) : Ideal .f32) else Ideal.ofBits .f32 0x00000000#32) = _
  rw [zero_bits, bit_val]

/-- The sum over the experts of weight times output: the output of the expert that the tile names, or zero. -/
theorem ref_out (e : Fin 8) (q : Fin 73) (p : Fin 37376) (d : Fin 1024) (hq : p.val / 512 = q.val) (he : (x4 (ix1 q)).toNat = e.val) :
    val_main_v35 (F := Ideal) x0 x1 x2 x3 x4 x5 (ix2 p d)
      = if IntOp.cmpi .slt (BitVec.ofNat 32 q.val) (x5 (ix1 0)) = 1#1 then
          rowOut (fun l => x0 (ix2 p l)) (fun l => x1 (ix1 l)) (fun k f => x2 (ix3 e k f)) (fun f d => x3 (ix3 e f d)) d else 0 := by
  rw [val_main_v35_apply]
  have ht : ∀ k : Fin 8, val_main_v34 (F := Ideal) x0 x1 x2 x3 x4 x5 (idx_main_v35 (ix2 p d) k)
      = if k = e then (if IntOp.cmpi .slt (BitVec.ofNat 32 q.val) (x5 (ix1 0)) = 1#1 then
          rowOut (fun l => x0 (ix2 p l)) (fun l => x1 (ix1 l)) (fun k f => x2 (ix3 e k f)) (fun f d => x3 (ix3 e f d)) d else 0) else 0 := by
    intro k
    rw [show idx_main_v35 (ix2 p d) k = ix3 k p d from eq_ix3 _, val_main_v34_apply, ref_comb x4 x5 k q p d hq, ref_y]
    show (if _ then if _ then (1 : EReal) else 0 else 0) * _ = _
    have hk : x4 (ix1 q) = BitVec.ofNat 32 k.val ↔ k = e := by
      rw [← BitVec.toNat_inj, he, BitVec.toNat_ofNat, Fin.ext_iff]
      have := k.isLt
      omega
    rw [if_congr hk rfl rfl]
    by_cases h : k = e
    · subst h
      rw [if_pos rfl, if_pos rfl]
      split
      · exact one_mul _
      · exact zero_mul _
    · rw [if_neg h, if_neg h, ite_self, zero_mul]
  rw [Finset.sum_congr rfl fun k _ => ht k, Finset.sum_ite_eq' Finset.univ e, if_pos (Finset.mem_univ e)]
  exact (congrArg (· + _) zero_bits).trans (zero_add _)

end Cert.Ffn

end
-- ==== Proof.FfnEq.lean ====
module

public import proofs.«01_k».proof.Proof.FfnVal
public import proofs.«01_k».proof.Proof.FfnRef
public import proofs.«01_k».proof.Defs

@[expose] public section

set_option maxRecDepth 16384

/-!
The two runs of the experts' feed-forward side by side: where every tile names an expert, the kernel's array is the
reference's.
-/

noncomputable section

namespace Cert.Ffn

open Cert.Kernel2Ideal Cert.Kernel2Ideal.Gen
open Idealize.ShloMosaic Idealize.ShloMosaic.TcCoe Idealize.ShloMosaic.Tactic

/-- The precondition is all that the launch needs. -/
theorem ok_pre (m : (ℓ : Loc nD τ sig) → Buf (Elt Ideal) ℓ) (h : Cert.Pre_Kernel2Ideal m) : Ok m :=
  ok_of m fun i => experts_lt (h 0) i

/-- The kernel's array is the reference's. -/
theorem arrays_eq (m : (ℓ : Loc nD τ sig) → Buf (Elt Ideal) ℓ) (h : Cert.Pre_Kernel2Ideal m) (hO : Ok m) (c : Dev nD) :
    Cert.Reference2Ideal.Read.val_main_v35 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      = outArr m hO c := by
  funext y
  obtain ⟨p, d, rfl⟩ : ∃ (p : Fin 37376) (d : Fin 1024), y = ix2 p d := ⟨_, _, eq_ix2 y⟩
  have hp := p.isLt
  have hq : p.val / 512 < 73 := by omega
  have he : (teA m c ⟨p.val / 512, hq⟩).toNat < 8 := experts_lt (h c) (ix1 ⟨p.val / 512, hq⟩)
  refine (ref_out _ _ _ _ _ _ ⟨_, he⟩ ⟨p.val / 512, hq⟩ p d rfl rfl).trans
    (outArr_apply c hO ⟨p.val / 512, hq⟩ ⟨_, he⟩ rfl ⟨p.val % 512, Nat.mod_lt _ (by norm_num)⟩ d p ?_).symm
  show p.val = p.val / 512 * 512 + p.val % 512
  omega

end Cert.Ffn

end
-- ==== Proof.ProjStep.lean ====
module

public import proofs.«01_k».proof.Proof.Gen.Kernel3Ideal.Frame
public import proofs.«01_k».proof.Proof.Gen.Kernel3Ideal.Points
public import proofs.«01_k».proof.Proof.Gen.Kernel3Ideal.Skeleton
public import Idealize.ShloMosaic.Lib.Pipeline.Value

@[expose] public section

set_option maxRecDepth 16384

/-!
One run of the projection's body: what it leaves in the scratch and in the output block, as the body's own expressions of its blocks.
-/

noncomputable section

namespace Cert.Proj

open Cert.Kernel3Ideal Cert.Kernel3Ideal.Gen
open Idealize.ShloMosaic Idealize.ShloMosaic.TcCoe Idealize.ShloMosaic.Tactic
open Idealize.SL Idealize.SL.Sem

variable {F : FTy → Type} [FloatOps F]

theorem off_zero : (![0, 0] : Fin 2 → ℕ) = fun _ => 0 := funext fun a => by fin_cases a <;> rfl

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1024x512 .bf16) (h4 : a4.IsWhole) (a5 : Memref sig .tc .vmem S512x512 .f32) (h5 : a5.IsWhole)
  (a6 : Memref sig .tc .vmem S512x1024 .bf16) (h6 : a6.IsWhole)
  (x : Vec F S512x1024 .f32) (g : Vec F S1x1024 .f32) (w : Vec F S1024x512 .bf16) (s : Vec F S512x1024 .bf16)

/-- The first column block of a row block leaves the normalised rows in the scratch. -/
theorem scratch_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero off_zero]
  simp only [View.readAt_eq_ld, h2.read_unread, h3.read_unread, View.ld_unit_zero (S := S512x1024) off_zero,
    View.ld_unit_zero (S := S1x1024) off_zero, shapeCast_self]

/-- The first column block's output is the product of the rows it has just normalised. -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off_zero, View.readCov_unit_zero (S := S512x1024) _ off_zero]
  simp only [View.readAt_eq_ld, h2.read_unread, h3.read_unread, h4.read_unread, View.ld_unit_zero (S := S512x1024) off_zero,
    View.ld_unit_zero (S := S1x1024) off_zero, View.ld_unit_zero (S := S1024x512) off_zero, shapeCast_self]

/-- A later column block's output is the product of the rows that the scratch holds. -/
theorem out_later (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_unit_zero off_zero]
  simp only [View.readAt_eq_ld, h4.read_unread, h6.read_unread, View.ld_unit_zero (S := S512x1024) off_zero,
    View.ld_unit_zero (S := S1024x512) off_zero, shapeCast_self]

end Cert.Proj

end
-- ==== Proof.ProjVal.lean ====
module

public import proofs.«01_k».proof.Proof.ProjStep
public import proofs.«01_k».proof.Proof.FfnSpec
public import Idealize.ShloMosaic.Lib.Pointwise
public import Idealize.ShloMosaic.Lib.Pipeline.ValueKit.Basic
public import Idealize.ShloMosaic.Lib.Pipeline.Covers
public import Idealize.ShloMosaic.Lib.Claim

@[expose] public section

set_option maxRecDepth 16384

/-!
What the projection's run leaves, over the extended reals: the scratch holds the normalised rows of the row block, every output
block is their product with a block of columns, and so the output array is the projection of every row.
-/

noncomputable section

namespace Cert.Proj

open Cert.Kernel3Ideal Cert.Kernel3Ideal.Gen
open Idealize.ShloMosaic Idealize.ShloMosaic.TcCoe Idealize.ShloMosaic.Tactic
open Idealize.SL Idealize.SL.Sem
open Idealize.ShloMosaic.Pipeline (Dat Cfg Window)

/-! ## The body's expressions -/

theorem pay1_apply (x : Vec Ideal S512x1024 .f32) (g : Vec Ideal S1x1024 .f32) (r : Fin 512) (d : Fin 1024) :
    k0_pay1 (F := Ideal) x g (ix2 r d) = Ffn.rowNorm (fun k => x (ix2 r k)) (fun k => g (ix2 0 k)) d := by
  pointwise [k0_pay1]; rfl

theorem pay2_apply (n : Vec Ideal S512x1024 .bf16) (w : Vec Ideal S1024x512 .bf16) (r : Fin 512) (e : Fin 512) :
    k0_pay2 (F := Ideal) n w (ix2 r e) = ∑ k : Fin 1024, n (ix2 r k) * w (ix2 k e) := by
  pointwise [k0_pay2]

/-! ## The blocks -/

variable (m : (ℓ : Loc nD τ sig) → Buf (Elt Ideal) ℓ) (c : Dev nD)

/-- The arguments, as plain functions: row `p` of the flattened batch, the scale, the weights. -/
def xA (p : Fin 16384) (k : Fin 1024) : EReal :=
  (m ((c : Thread nD τ).loc main_arg0) : S2x8192x1024.Idx → EReal) (ix3 ⟨p.val / 8192, by omega⟩ ⟨p.val % 8192, by omega⟩ k)
def gA (k : Fin 1024) : EReal := (m ((c : Thread nD τ).loc main_arg1) : S1024.Idx → EReal) (ix1 k)
def wA (k : Fin 1024) (j : Fin 3072) : EReal := (m ((c : Thread nD τ).loc main_arg2) : S1024x3072.Idx → EReal) (ix2 k j)

theorem V_v0 (p : Fin 16384) (k : Fin 1024) : (V m c main_v0 : S16384x1024.Idx → EReal) (ix2 p k) = xA m c p k := by
  have h : V m c main_v0 = shapeCast S16384x1024 (m ((c : Thread nD τ).loc main_arg0) : S2x8192x1024.Idx → EReal) shapeCasts_S2x8192x1024_S16384x1024 := by
    show StableHlo.after hostOps0 _ (Proc.devRef .tc main_v0) = _; after_results; rfl
  rw [h]
  exact shapeCast_apply (s := S2x8192x1024) _ _ _ _ (by
    show (S2x8192x1024.rowMajor (ix3 ⟨p.val / 8192, by omega⟩ ⟨p.val % 8192, by omega⟩ k)).val = (S16384x1024.rowMajor (ix2 p k)).val
    rw [Shape.rowMajor_val_three, Shape.rowMajor_val_two]
    show (p.val / 8192 * 8192 + p.val % 8192) * 1024 + k.val = p.val * 1024 + k.val
    omega)
theorem V_v1 (i : S1024x3072.Idx) : (V m c main_v1 : S1024x3072.Idx → EReal) i = (m ((c : Thread nD τ).loc main_arg2) : S1024x3072.Idx → EReal) i := by
  have h : V m c main_v1 = truncf (F := Ideal) .bf16 (m ((c : Thread nD τ).loc main_arg2) : S1024x3072.Idx → EReal) bitsLt_bf16_f32 := by
    show StableHlo.after hostOps0 _ (Proc.devRef .tc main_v1) = _; after_results
  rw [h]; rfl
theorem V_v2 (k : Fin 1024) : (V m c main_v2 : S1x1024.Idx → EReal) (ix2 0 k) = gA m c k := by
  have h : V m c main_v2 = shapeCast S1x1024 (m ((c : Thread nD τ).loc main_arg1) : S1024.Idx → EReal) shapeCasts_S1024_S1x1024 := by
    show StableHlo.after hostOps0 _ (Proc.devRef .tc main_v2) = _; after_results; rfl
  rw [h]
  pointwise []; rfl

/-- The blocks' places, by the point. -/
theorem idx0 : ∀ t : Fin grid0.N, cc0_transform_0 (grid0.coords t) = ![t.val / 6, 0] := by decide +kernel
theorem idx2 : ∀ t : Fin grid0.N, cc0_transform_2 (grid0.coords t) = ![0, t.val % 6] := by decide +kernel
theorem idx3 : ∀ t : Fin grid0.N, cc0_transform_3 (grid0.coords t) = ![t.val / 6, t.val % 6] := by decide +kernel

theorem lt_192 (t : Fin cfg0.N) : t.val < 192 := lt_of_lt_of_eq t.isLt N_0

/-- The rows' block. -/
theorem blk_x (t : Fin cfg0.N) (r : Fin 512) (d : Fin 1024) :
    iblk m c 0 t (ix2 r d) = xA m c ⟨t.val / 6 * 512 + r.val, by have := lt_192 t; omega⟩ d := by
  refine Eq.trans ?_ (V_v0 m c _ d)
  show (V m c main_v0 : S16384x1024.Idx → EReal) _ = _
  refine congrArg (V m c main_v0 : S16384x1024.Idx → EReal) (funext fun a => Fin.ext ?_)
  refine ((cfg0.win 0).rect_emb_val t (ix2 r d) a).trans ?_
  match a with
  | ⟨0, _⟩ =>
    show cc0_transform_0 (grid0.coords t) 0 * 512 + r.val = _
    rw [idx0 t]; rfl
  | ⟨1, _⟩ =>
    show cc0_transform_0 (grid0.coords t) 1 * 1024 + d.val = _
    rw [idx0 t]; show 0 * 1024 + d.val = d.val; omega

/-- The scale's block. -/
theorem blk_g (t : Fin cfg0.N) (d : Fin 1024) : iblk m c 1 t (ix2 0 d) = gA m c d := by
  refine Eq.trans ?_ (V_v2 m c d)
  show (V m c main_v2 : S1x1024.Idx → EReal) _ = _
  refine congrArg (V m c main_v2 : S1x1024.Idx → EReal) (funext fun a => Fin.ext ?_)
  refine ((cfg0.win 1).rect_emb_val t (ix2 0 d) a).trans ?_
  match a with
  | ⟨0, _⟩ => rfl
  | ⟨1, _⟩ => show 0 * 1024 + d.val = d.val; omega

/-- The weights' block. -/
theorem blk_w (t : Fin cfg0.N) (k : Fin 1024) (e : Fin 512) :
    iblk m c 2 t (ix2 k e) = wA m c k ⟨t.val % 6 * 512 + e.val, by omega⟩ := by
  refine Eq.trans ?_ (V_v1 m c _)
  show (V m c main_v1 : S1024x3072.Idx → EReal) _ = _
  refine congrArg (V m c main_v1 : S1024x3072.Idx → EReal) (funext fun a => Fin.ext ?_)
  refine ((cfg0.win 2).rect_emb_val t (ix2 k e) a).trans ?_
  match a with
  | ⟨0, _⟩ =>
    show cc0_transform_2 (grid0.coords t) 0 * 1024 + k.val = _
    rw [idx2 t]; show 0 * 1024 + k.val = k.val; omega
  | ⟨1, _⟩ =>
    show cc0_transform_2 (grid0.coords t) 1 * 512 + e.val = _
    rw [idx2 t]; rfl

/-! ## The run -/

/-- Entry `k` of the normalised row `p`. -/
def normA (p : Fin 16384) (k : Fin 1024) : EReal := Ffn.rowNorm (fun l => xA m c p l) (fun l => gA m c l) k

/-- The output array: every normalised row times the weights. -/
def outArr : S16384x3072.Idx → EReal := fun i => ∑ k : Fin 1024, normA m c (i 0) k * wA m c k (i 1)

/-- The normalised rows of the block of point `t`. -/
theorem norm_blk (t : Fin cfg0.N) (r : Fin 512) (d : Fin 1024) :
    k0_pay1 (F := Ideal) (iblk m c 0 t) (iblk m c 1 t) (ix2 r d) = normA m c ⟨t.val / 6 * 512 + r.val, by have := lt_192 t; omega⟩ d := by
  rw [pay1_apply]
  simp only [blk_x, blk_g]
  rfl

/-- After every point the scratch holds the normalised rows of the point's row block. -/
theorem scratch_at : ∀ (n : ℕ) (hn : n < cfg0.N) (r : Fin 512) (d : Fin 1024),
    (outsAt0 m c n hn).2 (ix2 r d) = normA m c ⟨n / 6 * 512 + r.val, by have h : n < 192 := lt_192 ⟨n, hn⟩; omega⟩ d := by
  intro n
  induction n with
  | zero =>
    intro hn r d
    rw [outsAt0_A m c ⟨0, hn⟩ (Nat.zero_mod _)]
    dsimp only
    rw [scratch_first]
    exact norm_blk m c ⟨0, hn⟩ r d
  | succ n ih =>
    intro hn r d
    by_cases h0 : (n + 1) % 6 = 0
    · rw [outsAt0_A m c ⟨n + 1, hn⟩ h0]
      dsimp only
      rw [scratch_first]
      exact norm_blk m c ⟨n + 1, hn⟩ r d
    · rw [outsAt0_B m c ⟨n + 1, hn⟩ h0]
      show (outsAt0 m c n _).2 (ix2 r d) = _
      rw [ih]
      congr 1
      apply Fin.ext
      show n / 6 * 512 + r.val = (n + 1) / 6 * 512 + r.val
      omega

/-- After every point the output block holds the products. -/
theorem out_at (t : Fin cfg0.N) (r : Fin 512) (e : Fin 512) :
    (outsAt0 m c t.val t.isLt).1 (ix2 r e)
      = ∑ k : Fin 1024, normA m c ⟨t.val / 6 * 512 + r.val, by have := lt_192 t; omega⟩ k * wA m c k ⟨t.val % 6 * 512 + e.val, by omega⟩ := by
  by_cases h0 : t.val % 6 = 0
  · rw [outsAt0_A m c t h0]
    dsimp only
    rw [out_first, pay2_apply]
    exact Finset.sum_congr rfl fun k _ => congrArg₂ (· * ·) (norm_blk m c t r k) (blk_w m c t k e)
  · have hp : t.val / 6 = (t.val - 1) / 6 := by omega
    rw [outsAt0_B m c t h0]
    dsimp only
    rw [out_later, pay2_apply]
    refine Finset.sum_congr rfl fun k _ => congrArg₂ (· * ·) ?_ (blk_w m c t k e)
    rw [scratch_at]
    congr 1
    apply Fin.ext
    show (t.val - 1) / 6 * 512 + r.val = t.val / 6 * 512 + r.val
    rw [hp]

/-- The output's blocks cover the array. -/
theorem covers3 : (cfg0.win 3).Covers := by
  refine Window.covers_of_index_surj (cfg0.win 3) rfl (by decide) fun β => ?_
  have h0 : (β 0).val < 32 := (β 0).isLt
  have h1 : (β 1).val < 6 := (β 1).isLt
  refine ⟨⟨(β 0).val * 6 + (β 1).val, ?_⟩, fun a => ?_⟩
  · show _ < grid0.N
    rw [N_0]; omega
  · have h := idx3 ⟨(β 0).val * 6 + (β 1).val, by rw [N_0]; omega⟩
    match a with
    | ⟨0, _⟩ =>
      show cc0_transform_3 (grid0.coords _) 0 = (β 0).val
      rw [h]
      show ((β 0).val * 6 + (β 1).val) / 6 = _
      omega
    | ⟨1, _⟩ =>
      show cc0_transform_3 (grid0.coords _) 1 = (β 1).val
      rw [h]
      show ((β 0).val * 6 + (β 1).val) % 6 = _
      omega

/-- The array after the write-backs. -/
theorem arr_out : (dats m 0 c).arrAt 3 cfg0.N = outArr m c := by
  refine Dat.arrAt_eq_of_covers (dats m 0 c) 3 _ covers3 fun t _ y => ?_
  obtain ⟨r, e, rfl⟩ : ∃ (r : Fin 512) (e : Fin 512), y = ix2 r e := ⟨_, _, eq_ix2 y⟩
  show (dats m 0 c).after 3 t (ix2 r e) = outArr m c (((cfg0.win 3).blk t).view.emb (ix2 r e))
  rw [after0_3]
  refine (out_at m c t r e).trans ?_
  have e0 : (((cfg0.win 3).blk t).view.emb (ix2 r e)) 0 = (⟨t.val / 6 * 512 + r.val, by have := lt_192 t; omega⟩ : Fin 16384) := by
    refine Fin.ext (((cfg0.win 3).rect_emb_val t (ix2 r e) 0).trans ?_)
    show cc0_transform_3 (grid0.coords t) 0 * 512 + r.val = _
    rw [idx3 t]; rfl
  have e1 : (((cfg0.win 3).blk t).view.emb (ix2 r e)) 1 = (⟨t.val % 6 * 512 + e.val, by omega⟩ : Fin 3072) := by
    refine Fin.ext (((cfg0.win 3).rect_emb_val t (ix2 r e) 1).trans ?_)
    show cc0_transform_3 (grid0.coords t) 1 * 512 + e.val = _
    rw [idx3 t]; rfl
  unfold outArr
  rw [e0, e1]

/-- The run: the output array holds `outArr`, the arguments are unchanged, every counter is zero. -/
theorem run_all (ρ : Dev nD → PrngReg) : θ_run defs (onTc (τ := τ) (main (F := Ideal))) ⟨m, fun _ => 0, ρ⟩ (fun r => (∀ c : Dev nD,
      r.2.mem ((c.tc : Thread nD τ).loc main_v3) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => ⟨((hr.1 c).1 3).trans (arr_out m c),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c)⟩, hr.2⟩)
    (run_main_quiescent m ρ)

end Cert.Proj

end
-- ==== Proof.ProjRef.lean ====
module

public import proofs.«01_k».proof.Proof.Gen.Reference3Ideal.Read
public import proofs.«01_k».proof.Proof.FfnRef

@[expose] public section

set_option maxRecDepth 16384

/-!
What the reference of the attention layer's input projection computes, over the extended reals, at each index.
-/

noncomputable section

namespace Cert.Proj

open Cert.Reference3Ideal Cert.Reference3Ideal.Gen Cert.Reference3Ideal.Read
open Idealize.ShloMosaic

variable (x0 : S2x8192x1024.Idx → EReal) (x1 : S1024.Idx → EReal) (x2 : S1024x3072.Idx → EReal)

/-- The normalised rows. -/
theorem ref_norm (b : Fin 2) (s : Fin 8192) (k : Fin 1024) :
    val_main_v12 (F := Ideal) x0 x1 (ix3 b s k) = Ffn.rowNorm (fun l => x0 (ix3 b s l)) (fun l => x1 (ix1 l)) k := by
  rw [val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + ∑ l, x0 _ * x0 _) (Ideal.ofBits .f32 0x44800000#32)
    + Ideal.ofBits .f32 0x358637BD#32) * x1 _ = _
  rw [Ffn.zero_bits, zero_add]
  unfold Ffn.rowNorm
  congr 1
  · congr 3
    refine congrArg₂ Ideal.div (Finset.sum_congr rfl fun l _ => ?_) rfl
    have e : idx_main_v1 (idx_main_v2 (idx_main_v8 (ix3 b s k))) l = ix3 b s l := eq_ix3 _
    rw [e]
  · exact congrArg x1 (eq_ix1 _)

/-- The projection: row `p` of the flattened batch is row `p % 8192` of sequence `p / 8192`. -/
theorem ref_out (p : Fin 16384) (j : Fin 3072) :
    val_main_v14 (F := Ideal) x0 x1 x2 (ix2 p j)
      = ∑ k, Ffn.rowNorm (fun l => x0 (ix3 ⟨p.val / 8192, by omega⟩ ⟨p.val % 8192, by omega⟩ l)) (fun l => x1 (ix1 l)) k * x2 (ix2 k j) := by
  have e : idx_main_v14 (ix2 p j) = ix3 ⟨p.val / 8192, by omega⟩ ⟨p.val % 8192, by omega⟩ j := by
    refine (eq_ix3 _).trans ?_
    congr 1 <;> apply Fin.ext
    · show (p.val * 3072 + j.val) / 25165824 = p.val / 8192
      omega
    · show (p.val * 3072 + j.val) / 3072 % 8192 = p.val % 8192
      omega
    · show (p.val * 3072 + j.val) % 3072 = j.val
      omega
  rw [val_main_v14_apply, e, val_main_v13_apply]
  refine Finset.sum_congr rfl fun k _ => ?_
  rw [show lidx_main_v13 (ix3 ⟨p.val / 8192, by omega⟩ ⟨p.val % 8192, by omega⟩ j) k = ix3 ⟨p.val / 8192, by omega⟩ ⟨p.val % 8192, by omega⟩ k from eq_ix3 _,
    ref_norm]
  exact congrArg _ (congrArg x2 (eq_ix2 _))

end Cert.Proj

end
-- ==== Proof.ProjEq.lean ====
module

public import proofs.«01_k».proof.Proof.ProjVal
public import proofs.«01_k».proof.Proof.ProjRef

@[expose] public section

/-!
The projection's two arrays agree.
-/

noncomputable section

namespace Cert.Proj

open Cert.Kernel3Ideal Cert.Kernel3Ideal.Gen
open Idealize.ShloMosaic Idealize.ShloMosaic.TcCoe

variable (m : (ℓ : Loc nD τ sig) → Buf (Elt Ideal) ℓ) (c : Dev nD)

/-- From the same arguments the reference's array is the kernel's. -/
theorem arrays_eq : Cert.Reference3Ideal.Read.val_main_v14 (F := Ideal) (m ((c.tc : Thread nD τ).loc main_arg0))
    (m ((c.tc : Thread nD τ).loc main_arg1)) (m ((c.tc : Thread nD τ).loc main_arg2)) = outArr m c := by
  funext y
  obtain ⟨p, j, rfl⟩ : ∃ (p : Fin 16384) (j : Fin 3072), y = ix2 p j := ⟨_, _, eq_ix2 y⟩
  exact ref_out _ _ _ p j

end Cert.Proj

end
-- ==== Proof.DenseSetup.lean ====
module

public import proofs.«01_k».proof.Proof.Gen.Kernel7Ideal.Launch
public import proofs.«01_k».proof.Proof.Gen.Kernel7Ideal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-!
The dense feed-forward kernel up to its one region: what the host leaves in the arrays, the two tables and the pipeline
at their contents, and the blocks the input windows show.
-/

noncomputable section

namespace Cert.Dense

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host operations, then the region. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub host_fresh main_chain

/-- A buffer no host operation writes is as it was at the start. -/
theorem V_of (c : Dev nD) (b : Ref sig .tc) (h : ∀ b' ∈ [main_v0, main_v1, main_c, main_v2, main_c_0, main_v3, main_v4], b ≠ b') :
    V m c b = m ((c : Thread nD τ).loc b) :=
  StableHlo.after_of_forall_not_mem (b := Proc.devRef .tc b) _ _ (List.forall_iff_forall_mem.mp (by
    simp only [hostOps0, List.Forall, StableHlo.unary_writes, StableHlo.nullary_writes, StableHlo.reshape_writes, Finset.mem_singleton]
    refine ⟨?_, ?_, ?_, ?_, ?_, ?_, ?_⟩ <;> exact StableHlo.devRef_ne_of_ne (h _ (by simp))))

/-- The tables' contents when the region is entered. -/
def tbl : pre0.Contents (Elt F) := fun j => V m (0 : Dev nD) (pre0.ref j)

/-- There is one device. -/
theorem V_pre (c : Dev nD) (j : Fin 2) : V m c (pre0.ref j) = tbl m j := by
  obtain rfl : c = 0 := Subsingleton.elim _ _; rfl

/-- The tables name blocks inside the weights. -/
abbrev Ok : Prop := ok0 (F := F) (tbl m)

/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev tbM0 : Memref sig .tc .smem S32 .i32 := Memref.whole main_v2
abbrev tbM1 : Memref sig .tc .smem S1 .i32 := Memref.whole main_v3

/-- A table held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves the region hands the body, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide, bigSep_insert (by decide), bigSep_singleton]
  rfl

/-- The scratch operands. -/
abbrev scM0 : Memref sig .tc .vmem S512x1024 .bf16 := Memref.whole cc0_scratch0
abbrev scM1 : Memref sig .tc .vmem S512x1024 .f32 := Memref.whole cc0_scratch1

/-- The region's own buffers: the two scratch operands, each at something, and the generator's register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

variable (hO : Ok m)

/-- Window `w`'s block at point `t`, read off its array as the region finds it. -/
def iblk (c : Dev nD) (w : Fin 6) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window shows its block at every point. -/
theorem before_of {c : Dev nD} (dat : Dat τ (Elt F) Unit ℕ (UR sig nD τ) ℕ (cfgM m hO) c) (w : Fin 6) (hw : w.val < 5)
    (hA : dat.A w = V m c (Pipeline.arrRef spec0 w)) (hafter : ∀ t, dat.after w t = iblk m hO c w t) (t : Fin (cfgM m hO).N) (d) :
    dat.before w t d = iblk m hO c w t := by
  obtain ⟨w, h⟩ := w
  match w, h with
  | 0, _ | 1, _ | 2, _ | 3, _ | 4, _ =>
    exact (dat.before_in_eq_fetched _ rfl (fun _ => rfl) (fun _ _ _ => rfl) (fun t => by rw [hafter]; unfold Dat.blockOf iblk; rw [hA]; try rfl) t d).trans
      (by unfold Dat.fetched Dat.blockOf iblk; rw [hA]; try rfl)
  | 5, _ => exact absurd (show 5 < 5 from hw) (by decide)

end Cert.Dense

end
-- ==== Proof.DenseBody.lean ====
module

public import proofs.«01_k».proof.Proof.DenseSetup
public import proofs.«01_k».proof.Proof.FfnBody
public import Idealize.ShloMosaic.Lib.VecWindow

@[expose] public section

set_option maxRecDepth 16384

/-!
One run of the dense feed-forward body, on any memrefs: what the normalised rows, the running sum and the output block are
afterwards, as functions of what the body found.
-/

noncomputable section

namespace Cert.Dense

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word the body reads from the second table: the number of tiles in use. -/
def wd (c : Dev nD) (f : Buf (Elt F) (tbM1.view.loc (c : Thread nD τ))) : BitVec 32 :=
  tbM1.view.readAt (Elt F) (Rect.unit (s := S1) ![0] S1.size inb_S1_S1_0).toLoadRect f (Shape.Idx.first (by decide))

/-- Whether the tile of grid point `i` is in use, by the word `w`. -/
abbrev Used (i : grid0.Coords) (w : BitVec 32) : Prop := Scalar.cmpi .slt (BitVec.ofNat 32 (i 0).val) w = 1#1

/-- The normalised rows after the body. -/
def nextN (i : grid0.Coords) (w : BitVec 32) (x : Vec F S512x1024 .f32) (g : Vec F S1x1024 .f32) (a : Vec F S512x1024 .bf16) : Vec F S512x1024 .bf16 :=
  if Used i w ∧ (i 1).val = 0 then k0_pay1 x g else a

/-- The running sum after the body. -/
def nextA (i : grid0.Coords) (w : BitVec 32) (n : Vec F S512x1024 .bf16) (wg wu : Vec F S1x1024x512 .bf16) (wo : Vec F S1x512x1024 .bf16) (b : Vec F S512x1024 .f32) : Vec F S512x1024 .f32 :=
  if Used i w then k0_pay3 n wg wu (if (i 1).val = 0 then k0_pay2 else b) wo else b

/-- The output block after the body: the rows plus the running sum, in a tile not in use the rows alone. -/
def nextO (i : grid0.Coords) (w : BitVec 32) (x b Y : Vec F S512x1024 .f32) : Vec F S512x1024 .f32 :=
  if (i 1).val = 6 then (if Used i w then k0_pay4 x b else x) else Y

/-- The second coordinate compared with a number. -/
theorem coord_iff (i : grid0.Coords) : (Scalar.cmpi .eq (BitVec.ofNat 32 (i 1).val) 0#32 = 1#1 ↔ (i 1).val = 0)
    ∧ (Scalar.cmpi .eq (BitVec.ofNat 32 (i 1).val) 6#32 = 1#1 ↔ (i 1).val = 6) := by
  have h : (i 1).val < 7 := (i 1).isLt
  generalize (i 1).val = n at h
  constructor <;> (revert n; decide)

theorem cond3_iff (i : grid0.Coords) (w : BitVec 32) : k0_cond3 i w = 1#1 ↔ Used i w ∧ (i 1).val = 6 :=
  (Ffn.and_iff _ _).trans (and_congr_right fun _ => (coord_iff i).2)
theorem cond4_iff (i : grid0.Coords) (w : BitVec 32) : k0_cond4 i w = 1#1 ↔ ¬Used i w ∧ (i 1).val = 6 :=
  (Ffn.not_iff _ _).trans (and_congr_right fun _ => (coord_iff i).2)

set_option maxHeartbeats 1600000 in
/-- The body, run. -/
theorem body_run (c : Dev nD) (i : grid0.Coords) (arg4 : Memref sig .tc .vmem S512x1024 .f32) (harg4 : arg4.IsWhole) (arg5 : Memref sig .tc .vmem S1x1024 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole)
    (x4 : Vec F S512x1024 .f32) (x5 : Vec F S1x1024 .f32) (x6 x7 : Vec F S1x1024x512 .bf16) (x8 : Vec F S1x512x1024 .bf16)
    (f : Buf (Elt F) (tbM1.view.loc (c : Thread nD τ))) (d9 : Vec F S512x1024 .f32) (d10 : Vec F S512x1024 .bf16) (d11 : Vec F S512x1024 .f32)
    (aN : Vec F S512x1024 .bf16) (aA : Vec F S512x1024 .f32) (aO : Vec F S512x1024 .f32)
    (hN : nextN i (wd c f) x4 x5 d10 = aN) (hA : nextA i (wd c f) aN x6 x7 x8 d11 = aA) (hO : nextO i (wd c f) x4 aA d9 = aO)
    (K : PUnit → sProp 𝕄) :
    iprop(tbPt c tbM1 f ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ owns (c : Thread nD τ) arg9 fullShare d9 ∗ owns (c : Thread nD τ) arg10 fullShare d10 ∗ owns (c : Thread nD τ) arg11 fullShare d11
        ∗ (iprop(tbPt c tbM1 f ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare aO ∗ owns (c : Thread nD τ) arg10 fullShare aN ∗ owns (c : Thread nD τ) arg11 fullShare aA) -∗ K ⟨⟩))
      ⊢ wp frame (wpE (defs₀ (F := F)) Variants.none c none) Set.univ (cc0_swiglu_ffn i tbM0 (Memref.isWhole_whole _) tbM1 (Memref.isWhole_whole _) arg4 harg4 arg5 harg5 arg6 harg6 arg7 harg7 arg8 harg8 arg9 harg9 arg10 harg10 arg11 harg11) K := by
  simp only [cc0_swiglu_ffn_eq_skeleton]; unfold cc0_swiglu_ffn_skel
  unfold owns
  iintro ⟨HT, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  have e5 : (Scalar.cmpi .ne (Scalar.extui (Scalar.andi (Scalar.cmpi .slt (BitVec.ofNat 32 (i 0).val) (wd c f)) (Scalar.cmpi .eq (BitVec.ofNat 32 (i 1).val) 0#32)) : BitVec 32) 0#32 = 1#1)
      ↔ (Used i (wd c f) ∧ (i 1).val = 0) := (Ffn.and_iff _ _).trans (and_congr_right fun _ => (coord_iff i).1)
  have e7 : (Scalar.cmpi .ne (Scalar.extui (Scalar.cmpi .slt (BitVec.ofNat 32 (i 0).val) (wd c f)) : BitVec 32) 0#32 = 1#1) ↔ Used i (wd c f) := Ffn.one_iff _
  have e3 := cond3_iff i (wd c f)
  have e4 := cond4_iff i (wd c f)
  sl_exec
  sl_step
  iapply Hk
  isplitl [HT]; · iexact HT
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  have e5' : body_run.sl.v5 c i f = 1#1 ↔ (Used i (wd c f) ∧ (i 1).val = 0) := e5
  have e7' : body_run.sl.v7 c i f = 1#1 ↔ Used i (wd c f) := e7
  have e3' : k0_cond3 i (body_run.sl.r c f) = 1#1 ↔ Used i (wd c f) ∧ (i 1).val = 6 := e3
  have e4' : k0_cond4 i (body_run.sl.r c f) = 1#1 ↔ ¬Used i (wd c f) ∧ (i 1).val = 6 := e4
  have rN : body_run.sl.v16 c i arg4 harg4 arg5 harg5 arg10 harg10 x4 x5 f d10 = aN := by
    rw [← hN]; unfold nextN body_run.sl.v16
    rw [View.readAt_full]
    by_cases h : body_run.sl.v5 c i f = 1#1
    · rw [dif_pos h, if_pos (e5'.mp h), View.read_writes_full, View.readAt_full, View.readAt_full, hf4, hf5]
    · rw [dif_neg h, if_neg (fun h' => h (e5'.mpr h')), hf10]
  have rB (hu : Used i (wd c f)) : body_run.sl.v32 c i arg11 harg11 f d11 = if (i 1).val = 0 then k0_pay2 else d11 := by
    unfold body_run.sl.v32
    rw [View.readAt_full]
    by_cases h : body_run.sl.v5 c i f = 1#1
    · rw [dif_pos h, if_pos (e5'.mp h).2, View.read_writes_full]
    · rw [dif_neg h, if_neg (fun h' => h (e5'.mpr ⟨hu, h'⟩)), hf11]
  have rA : body_run.sl.v17 c i arg4 harg4 arg5 harg5 arg6 harg6 arg7 harg7 arg8 harg8 arg10 harg10 arg11 harg11 x4 x5 x6 x7 x8 f d10 d11 = aA := by
    rw [← hA]; unfold nextA body_run.sl.v17
    rw [View.readAt_full]
    by_cases h : body_run.sl.v7 c i f = 1#1
    · rw [dif_pos h, if_pos (e7'.mp h), View.read_writes_full, rN, rB (e7'.mp h), View.readAt_full, View.readAt_full, View.readAt_full, hf6, hf7, hf8]
    · rw [dif_neg h, if_neg (fun h' => h (e7'.mpr h')), dif_neg (fun h' => h (e7'.mpr (e5'.mp h').1)), hf11]
  isplitl [H9]
  · iexists _; isplitr; swap; · iexact H9
    ipureintro
    rw [← hO]; unfold nextO
    by_cases h6 : (i 1).val = 6
    · rw [if_pos h6]
      by_cases hu : Used i (wd c f)
      · rw [dif_neg (fun h => (e4'.mp h).1 hu), dif_pos (e3'.mpr ⟨hu, h6⟩), if_pos hu, View.read_writes_full, View.readAt_full, hf4, rA]
      · rw [dif_pos (e4'.mpr ⟨hu, h6⟩), if_neg hu, View.read_writes_full, View.readAt_full, hf4]
    · rw [if_neg h6, dif_neg (fun h => h6 (e4'.mp h).2), dif_neg (fun h => h6 (e3'.mp h).2), hf9]
  isplitl [H10]
  · iexists _; isplitr; swap; · iexact H10
    ipureintro
    exact (View.readAt_full _ _ _).symm.trans rN
  iexists _; isplitr; swap; · iexact H11
  ipureintro
  exact (View.readAt_full _ _ _).symm.trans rA

end Cert.Dense

end
-- ==== Proof.DenseRun.lean ====
module

public import proofs.«01_k».proof.Proof.DenseBody
public import Idealize.ShloMosaic.Lib.Pipeline.DatRel
public import Idealize.ShloMosaic.Lib.Pipeline.ArrRel

@[expose] public section

set_option maxRecDepth 16384

/-!
The dense feed-forward kernel run over its grid: tile `r` of 512 rows takes seven points, one for each 512 hidden units, the
running sum in scratch between them.
-/

noncomputable section

namespace Cert.Dense

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- Grid point number `n`. -/
def pt (n : ℕ) : Fin (cfgM m hO).N := ⟨n % 224, lt_of_lt_of_eq (Nat.mod_lt _ (by decide)) N_0.symm⟩

theorem pt_val (t : Fin (cfgM m hO).N) : pt m hO t.val = t :=
  Fin.ext (Nat.mod_eq_of_lt (lt_of_lt_of_eq t.isLt N_0))

/-- The word the body reads. -/
abbrev word (c : Dev nD) : BitVec 32 := wd (F := F) c (tbl m 1)

/-- Whether tile `r` is in use. -/
abbrev UsedN (c : Dev nD) (r : ℕ) : Prop := Scalar.cmpi .slt (BitVec.ofNat 32 r) (word m c) = 1#1

/-- The normalised rows of tile `r`. -/
def nrm (c : Dev nD) (r : ℕ) : Vec F S512x1024 .bf16 := k0_pay1 (iblk m hO c 0 (pt m hO (7 * r))) (iblk m hO c 1 (pt m hO (7 * r)))

/-- The running sum of tile `r` after `k` blocks of hidden units. -/
def acc (c : Dev nD) (r : ℕ) : ℕ → Vec F S512x1024 .f32
  | 0 => k0_pay2
  | k + 1 => k0_pay3 (nrm m hO c r) (iblk m hO c 2 (pt m hO (7 * r + k))) (iblk m hO c 3 (pt m hO (7 * r + k))) (acc c r k) (iblk m hO c 4 (pt m hO (7 * r + k)))

/-- The output block of tile `r`. -/
def outBlk (c : Dev nD) (r : ℕ) : Vec F S512x1024 .f32 :=
  if UsedN m c r then k0_pay4 (iblk m hO c 0 (pt m hO (7 * r + 6))) (acc m hO c r 7) else iblk m hO c 0 (pt m hO (7 * r + 6))

theorem coord0 (t : Fin (cfgM m hO).N) : (grid0.coords t 0).val = t.val / 7 := by
  have h : (grid0.coords t 0).val = t.val / 7 % 32 := Pipeline.Grid.coords_val (G := grid0) t 0 (by decide) rfl
  have hN : t.val < 224 := lt_of_lt_of_eq t.isLt N_0
  omega
theorem coord1 (t : Fin (cfgM m hO).N) : (grid0.coords t 1).val = t.val % 7 := by
  have h : (grid0.coords t 1).val = t.val / 1 % 7 := Pipeline.Grid.coords_val (G := grid0) t 1 (by decide) rfl
  omega

/-- What is known of the scratch before point `n`: within a tile in use, its normalised rows and its running sum. -/
def St (c : Dev nD) (n : ℕ) (a : Vec F S512x1024 .bf16) (b : Vec F S512x1024 .f32) : Prop :=
  n % 7 ≠ 0 → UsedN m c (n / 7) → a = nrm m hO c (n / 7) ∧ b = acc m hO c (n / 7) (n % 7)

/-- The invariant before point `n`. -/
def Phi (c : Dev nD) (n : ℕ) : sProp 𝕄 :=
  iprop(∃ a b, ⌜St m hO c n a b⌝ ∗ owns (c : Thread nD τ) scM0 fullShare a ∗ owns (c : Thread nD τ) scM1 fullShare b
    ∗ (∃ r, prngReg c r) ∗ tbPt c tbM0 (tbl m 0) ∗ tbPt c tbM1 (tbl m 1))

/-- The output window is the one told only by a relation. -/
def fgt : Fin 6 → Bool := fun w => w.val == 5

/-- What is known of the output window after point `t`: at a tile's last point, the tile's output block. -/
def Rl (c : Dev nD) : (w : Fin (cfgM m hO).W) → Fin (cfgM m hO).N → (((cfgM m hO).win w).block.Idx → Elt F ((cfgM m hO).win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => t.val % 7 = 6 → X = outBlk m hO c (t.val / 7)

/-- The proof data of the pipeline on core `c`. -/
def dats (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := cfgM m hO) ⟨5, h⟩ t
  Φ t := Phi m hO c t.val
  q := Pipeline.shareOf spec0
  owed _ := 0

theorem A_eq (c : Dev nD) (w : Fin (cfgM m hO).W) : (dats m hO c).A w = V m c (Pipeline.arrRef spec0 w) := rfl

theorem after_0 (c : Dev nD) (t : Fin (cfgM m hO).N) : (dats m hO c).after 0 t = iblk m hO c 0 t := rfl
theorem after_1 (c : Dev nD) (t : Fin (cfgM m hO).N) : (dats m hO c).after 1 t = iblk m hO c 1 t := rfl
theorem after_2 (c : Dev nD) (t : Fin (cfgM m hO).N) : (dats m hO c).after 2 t = iblk m hO c 2 t := rfl
theorem after_3 (c : Dev nD) (t : Fin (cfgM m hO).N) : (dats m hO c).after 3 t = iblk m hO c 3 t := rfl
theorem after_4 (c : Dev nD) (t : Fin (cfgM m hO).N) : (dats m hO c).after 4 t = iblk m hO c 4 t := rfl

theorem before_0 (c : Dev nD) (t : Fin (cfgM m hO).N) (d) : (dats m hO c).before 0 t d = iblk m hO c 0 t :=
  before_of m hO (dats m hO c) 0 (by decide) (A_eq m hO c 0) (after_0 m hO c) t d
theorem before_1 (c : Dev nD) (t : Fin (cfgM m hO).N) (d) : (dats m hO c).before 1 t d = iblk m hO c 1 t :=
  before_of m hO (dats m hO c) 1 (by decide) (A_eq m hO c 1) (after_1 m hO c) t d
theorem before_2 (c : Dev nD) (t : Fin (cfgM m hO).N) (d) : (dats m hO c).before 2 t d = iblk m hO c 2 t :=
  before_of m hO (dats m hO c) 2 (by decide) (A_eq m hO c 2) (after_2 m hO c) t d
theorem before_3 (c : Dev nD) (t : Fin (cfgM m hO).N) (d) : (dats m hO c).before 3 t d = iblk m hO c 3 t :=
  before_of m hO (dats m hO c) 3 (by decide) (A_eq m hO c 3) (after_3 m hO c) t d
theorem before_4 (c : Dev nD) (t : Fin (cfgM m hO).N) (d) : (dats m hO c).before 4 t d = iblk m hO c 4 t :=
  before_of m hO (dats m hO c) 4 (by decide) (A_eq m hO c 4) (after_4 m hO c) t d

/-- The relational proof data. -/
abbrev rdat (c : Dev nD) : RDat τ (Elt F) Unit ℕ (UR sig nD τ) ℕ (cfgM m hO) c := (dats m hO c).toRRel fgt (Rl m hO c)

/-- The windows' staging buffers at point `t`. -/
abbrev ms0 (t : Fin (cfgM m hO).N) : Memref sig .tc .vmem S512x1024 .f32 := spec0_0.stage ((cfgM m hO).slots t 0)
abbrev ms1 (t : Fin (cfgM m hO).N) : Memref sig .tc .vmem S1x1024 .f32 := spec0_1.stage ((cfgM m hO).slots t 1)
abbrev ms2 (t : Fin (cfgM m hO).N) : Memref sig .tc .vmem S1x1024x512 .bf16 := spec0_2.stage ((cfgM m hO).slots t 2)
abbrev ms3 (t : Fin (cfgM m hO).N) : Memref sig .tc .vmem S1x1024x512 .bf16 := spec0_3.stage ((cfgM m hO).slots t 3)
abbrev ms4 (t : Fin (cfgM m hO).N) : Memref sig .tc .vmem S1x512x1024 .bf16 := spec0_4.stage ((cfgM m hO).slots t 4)
abbrev ms5 (t : Fin (cfgM m hO).N) : Memref sig .tc .vmem S512x1024 .f32 := spec0_5.stage ((cfgM m hO).slots t 5)

/-- The body at point `t`. -/
abbrev bodyAt (t : Fin (cfgM m hO).N) : Prog (TpuEff nD τ sig (Elt F) Λ₀ .tc) PUnit :=
  cc0_swiglu_ffn (grid0.coords t) tbM0 (Memref.isWhole_whole _) tbM1 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    scM0 (Memref.isWhole_whole _) scM1 (Memref.isWhole_whole _)

/-- What the body is called with at point `t`, -/
def bodyPre (c : Dev nD) (t : Fin (cfgM m hO).N) : sProp 𝕄 :=
  iprop((dats m hO c).Φ t.castSucc ∗ (dats m hO c).owesAt () t.castSucc
    ∗ (∃ d, owns (c : Thread nD τ) (ms0 m hO t) fullShare ((dats m hO c).before 0 t d))
    ∗ (∃ d, owns (c : Thread nD τ) (ms1 m hO t) fullShare ((dats m hO c).before 1 t d))
    ∗ (∃ d, owns (c : Thread nD τ) (ms2 m hO t) fullShare ((dats m hO c).before 2 t d))
    ∗ (∃ d, owns (c : Thread nD τ) (ms3 m hO t) fullShare ((dats m hO c).before 3 t d))
    ∗ (∃ d, owns (c : Thread nD τ) (ms4 m hO t) fullShare ((dats m hO c).before 4 t d))
    ∗ (∃ Y, ⌜(rdat m hO c).Finds 5 t Y⌝ ∗ owns (c : Thread nD τ) (ms5 m hO t) fullShare Y))

/-- and what it returns. -/
def bodyPost (c : Dev nD) (t : Fin (cfgM m hO).N) : sProp 𝕄 :=
  iprop((dats m hO c).Φ t.succ ∗ (dats m hO c).owesAt () t.succ
    ∗ owns (c : Thread nD τ) (ms0 m hO t) fullShare ((dats m hO c).after 0 t)
    ∗ owns (c : Thread nD τ) (ms1 m hO t) fullShare ((dats m hO c).after 1 t)
    ∗ owns (c : Thread nD τ) (ms2 m hO t) fullShare ((dats m hO c).after 2 t)
    ∗ owns (c : Thread nD τ) (ms3 m hO t) fullShare ((dats m hO c).after 3 t)
    ∗ owns (c : Thread nD τ) (ms4 m hO t) fullShare ((dats m hO c).after 4 t)
    ∗ (∃ X, ⌜Rl m hO c 5 t X⌝ ∗ owns (c : Thread nD τ) (ms5 m hO t) fullShare X))

section Step

variable (c : Dev nD) (t : Fin (cfgM m hO).N) (a : Vec F S512x1024 .bf16) (b Y : Vec F S512x1024 .f32)

/-- The normalised rows after point `t`. -/
abbrev aN : Vec F S512x1024 .bf16 := nextN (grid0.coords t) (word m c) (iblk m hO c 0 t) (iblk m hO c 1 t) a
/-- The running sum after point `t`. -/
abbrev aA : Vec F S512x1024 .f32 := nextA (grid0.coords t) (word m c) (aN m hO c t a) (iblk m hO c 2 t) (iblk m hO c 3 t) (iblk m hO c 4 t) b
/-- The output block after point `t`. -/
abbrev aO : Vec F S512x1024 .f32 := nextO (grid0.coords t) (word m c) (iblk m hO c 0 t) (aA m hO c t a b) Y

/-- One point carries the tile's rows and its running sum on. -/
theorem step (h : St m hO c t.val a b) (hu : UsedN m c (t.val / 7)) :
    aN m hO c t a = nrm m hO c (t.val / 7) ∧ aA m hO c t a b = acc m hO c (t.val / 7) (t.val % 7 + 1) := by
  have hU : Used (grid0.coords t) (word m c) := by unfold Used; rw [coord0]; exact hu
  have e1 := coord1 m hO t
  have eN : aN m hO c t a = nrm m hO c (t.val / 7) := by
    unfold aN nextN
    by_cases h0 : t.val % 7 = 0
    · rw [if_pos ⟨hU, e1.trans h0⟩]; unfold nrm
      rw [show 7 * (t.val / 7) = t.val by omega, pt_val]
    · rw [if_neg fun h' => h0 (e1.symm.trans h'.2)]; exact (h h0 hu).1
  refine ⟨eN, ?_⟩
  unfold aA nextA
  rw [if_pos hU, eN]
  show _ = k0_pay3 _ _ _ _ _
  rw [show 7 * (t.val / 7) + t.val % 7 = t.val by omega, pt_val, e1]
  by_cases h0 : t.val % 7 = 0
  · rw [if_pos h0, h0]; rfl
  · rw [if_neg h0, (h h0 hu).2]

theorem st_next (h : St m hO c t.val a b) : St m hO c (t.val + 1) (aN m hO c t a) (aA m hO c t a b) := by
  intro h7 hu
  have e : (t.val + 1) / 7 = t.val / 7 := by omega
  have e' : (t.val + 1) % 7 = t.val % 7 + 1 := by omega
  rw [e] at hu ⊢; rw [e']
  exact step m hO c t a b h hu

theorem out_next (h : St m hO c t.val a b) : Rl m hO c 5 t (aO m hO c t a b Y) := by
  show t.val % 7 = 6 → aO m hO c t a b Y = outBlk m hO c (t.val / 7)
  intro h6
  have e1 := coord1 m hO t
  unfold aO nextO outBlk
  rw [if_pos (e1.trans h6), show 7 * (t.val / 7) + 6 = t.val by omega, pt_val]
  by_cases hu : UsedN m c (t.val / 7)
  · rw [if_pos (show Used (grid0.coords t) (word m c) by unfold Used; rw [coord0]; exact hu), if_pos hu, (step m hO c t a b h hu).2, h6]
  · rw [if_neg (show ¬Used (grid0.coords t) (word m c) by unfold Used; rw [coord0]; exact hu), if_neg hu]

end Step

/-- The body at any point, in the obligation's shape. -/
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2, before_3, before_4, after_0, after_1, after_2, after_3, after_4]
  rw [show (dats m hO c).owesAt () t.succ = (dats m hO c).owesAt () t.castSucc from rfl,
    show (dats m hO c).Φ t.succ = Phi m hO c (t.val + 1) from rfl, show (dats m hO c).Φ t.castSucc = Phi m hO c t.val from rfl]
  unfold Phi bodyAt
  iintro ⟨⟨%a, %b, %hst, HA, HB, Hg, HT0, HT1⟩, Ho, ⟨%_, H0⟩, ⟨%_, H1⟩, ⟨%_, H2⟩, ⟨%_, H3⟩, ⟨%_, H4⟩, ⟨%Y, -, H5⟩⟩
  iapply (body_run c (grid0.coords t) _ _ _ _ _ _ _ _ _ _ _ _ _ _ _ _ (iblk m hO c 0 t) (iblk m hO c 1 t) (iblk m hO c 2 t) (iblk m hO c 3 t) (iblk m hO c 4 t)
    (tbl m 1) Y a b (aN m hO c t a) (aA m hO c t a b) (aO m hO c t a b Y) rfl rfl rfl _)
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [HA]; · iexact HA
  isplitl [HB]; · iexact HB
  iintro ⟨HT1, H0, H1, H2, H3, H4, H5, HA, HB⟩
  isplitl [HT0 HT1 HA HB Hg]
  · iexists _, _; isplitr; swap
    · isplitl [HA]; · iexact HA
      isplitl [HB]; · iexact HB
      isplitl [Hg]; · iexact Hg
      isplitl [HT0]; · iexact HT0
      iexact HT1
    ipureintro; exact st_next m hO c t a b hst
  isplitl [Ho]; · iexact Ho
  isplitl [H0]; · iexact H0
  isplitl [H1]; · iexact H1
  isplitl [H2]; · iexact H2
  isplitl [H3]; · iexact H3
  isplitl [H4]; · iexact H4
  iexists _; isplitr; swap; · iexact H5
  ipureintro; exact out_next m hO c t a b Y hst

/-- The body table's row at point `t` is the body. -/
theorem defs₀_row (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem body_obligation (c : Dev nD) : BodyObligationRel (dats m hO c) (defs₀ (F := F)) Variants.none () Set.univ fgt (Rl m hO c) := fun t => by
  rw [bigSep_W0, bigSep_W0, defs₀_row]
  exact triple_restated (sound_body m hO c t) rfl .rfl fun _ => .rfl

/-- What the launch hands the region is the invariant before the first point, -/
theorem hin (c : Dev nD) : iprop(Pipeline.ΦA spec0 c ∗ Pipeline.ΦT pre0 (tbl m) c) ⊢ (dats m hO c).Φ 0 := by
  rw [show (dats m hO c).Φ 0 = Phi m hO c 0 from rfl, PhiA_eq, PhiT_eq]
  unfold Phi
  iintro ⟨⟨⟨⟨%a, HA⟩, ⟨%b, HB⟩⟩, Hg⟩, HT0, HT1⟩
  iexists a, b; isplitr; swap
  · isplitl [HA]; · iexact HA
    isplitl [HB]; · iexact HB
    isplitl [Hg]; · iexact Hg
    isplitl [HT0]; · iexact HT0
    iexact HT1
  ipureintro; intro h; exact absurd rfl h

/-- and the invariant after the last point gives it back. -/
theorem hout (c : Dev nD) : (dats m hO c).Φ (Fin.last (cfgM m hO).N) ⊢ Pipeline.ΦA spec0 c := by
  rw [show (dats m hO c).Φ (Fin.last (cfgM m hO).N) = Phi m hO c (Fin.last (cfgM m hO).N).val from rfl, PhiA_eq]
  unfold Phi
  iintro ⟨%a, %b, -, HA, HB, Hg, -, -⟩
  isplitr [Hg]
  · isplitl [HA]; · iexists _; iexact HA
    iexists _; iexact HB
  iexact Hg

-- the launch theorem's implicit arguments are found by unifying its conclusion with this one, which unfolds plain definitions in types
set_option backward.isDefEq.respectTransparency.types false in
/-- The run: every array ends at something the relational data allow, and every counter at zero. -/
theorem run_main : θ_run defs (onTc (τ := τ) (main (F := F))) ⟨m, fun _ => 0, ρ⟩
    (fun r => Pipeline.RDat.FramePost (cfgM m hO) (rdat m hO) (V m) r ∧ r.2.sem = fun _ => 0) :=
  Pipeline.RDat.θ_run_frameP_track_shared (pcfgs (F := F)) (fun _ => adm m hO) (0 : Fin 1) launch₀0 defs₀ Variants.none (rdat m hO) m ρ main
    (fun c => (body_obligation m hO c).toRRel) (fun _ _ _ => rfl) (fun _ _ => rfl) (V m) (hmain m)
    (A_eq m hO) (V_pre m) (hin m hO) (hout m hO) (fun r => Pipeline.RDat.FramePost (cfgM m hO) (rdat m hO) (V m) r ∧ r.2.sem = fun _ => 0) (fun _ h => h)

end Cert.Dense

end
-- ==== Proof.DenseOut.lean ====
module

public import proofs.«01_k».proof.Proof.DenseRun
public import Idealize.ShloMosaic.Lib.Pipeline.Covers
public import Idealize.ShloMosaic.Lib.Pipeline.Kit
public import Idealize.ShloMosaic.Lib.Claim
public import Idealize.ShloMosaic.Lib.Pointwise

@[expose] public section

set_option maxRecDepth 16384

/-!
What the run of the dense feed-forward kernel leaves: the output array at every index, and the arguments unchanged.
-/

noncomputable section

namespace Cert.Dense

open Cert.Kernel7Ideal Cert.Kernel7Ideal.Gen
open Idealize.ShloMosaic Idealize.ShloMosaic.TcCoe Idealize.ShloMosaic.Tactic
open Idealize.SL Idealize.SL.Sem
open Idealize.ShloMosaic.Pipeline (Dat RDat Cfg Window)

variable {F : FTy → Type} [FloatOps F]

variable (m : (ℓ : Loc nD τ sig) → Buf (Elt F) ℓ) (ρ : Dev nD → PrngReg) (hO : Ok m)

/-- The output array. -/
def outArr (c : Dev nD) : S16384x1024.Idx → Elt F .f32 := fun i =>
  outBlk m hO c ((i 0).val / 512) (ix2 (⟨(i 0).val % 512, Nat.mod_lt _ (by decide)⟩ : Fin 512) (i 1 : Fin 1024))

/-- The array at row `512 k + r` is row `r` of tile `k`. -/
theorem outArr_eq (c : Dev nD) (i : S16384x1024.Idx) (k : ℕ) (r : Fin 512) (e : Fin 1024) (h0 : (i 0).val = k * 512 + r.val)
    (h1 : (i 1).val = e.val) : outArr m hO c i = outBlk m hO c k (ix2 r e) := by
  have hr' : r.val < 512 := r.isLt
  have hk : (i 0).val / 512 = k := by omega
  have hr : (⟨(i 0).val % 512, Nat.mod_lt _ (by decide)⟩ : Fin 512) = r := Fin.ext (by show _ % 512 = _; omega)
  have he : (i 1 : Fin 1024) = e := Fin.ext h1
  unfold outArr
  rw [hk, hr, he]

/-- The output window's index map: the tile. -/
theorem idx5 (t : Fin (cfgM m hO).N) : cc0_transform_5 (grid0.coords t) = ![t.val / 7, 0] := by
  have hN : t.val < 224 := lt_of_lt_of_eq t.isLt N_0
  funext a
  match a with
  | ⟨0, _⟩ =>
    show (BitVec.ofNat 32 (grid0.coords t 0).val).toNat = t.val / 7
    rw [coord0, BitVec.toNat_ofNat]; omega
  | ⟨1, _⟩ => rfl

/-- The output window is written back at the last point of each tile. -/
theorem flush5 (t : Fin (cfgM m hO).N) (h : ((cfgM m hO).win 5).flush t = true) : t.val % 7 = 6 :=
  (by decide +kernel : ∀ t : Fin grid0.N, Pipeline.Window.flushOf grid0 true cc0_transform_5 t = true → t.val % 7 = 6) t h

/-- The output's blocks cover the array. -/
theorem covers5 : ((cfgM m hO).win 5).Covers := by
  refine Window.covers_of_index_surj ((cfgM m hO).win 5) rfl (show ∀ a : Fin 2, 0 < S512x1024.size a from by decide) fun β => ?_
  have h0 : (β (0 : Fin 2)).val < 32 := lt_of_lt_of_eq (β (0 : Fin 2)).isLt (show (16384 + 512 - 1) / 512 = 32 by decide)
  have h1 : (β (1 : Fin 2)).val < 1 := lt_of_lt_of_eq (β (1 : Fin 2)).isLt (show (1024 + 1024 - 1) / 1024 = 1 by decide)
  refine ⟨⟨(β (0 : Fin 2)).val * 7, ?_⟩, fun a => ?_⟩
  · show _ < grid0.N
    rw [N_0]; omega
  · have h := idx5 m hO ⟨(β (0 : Fin 2)).val * 7, by show _ < grid0.N; rw [N_0]; omega⟩
    match a with
    | ⟨0, _⟩ => exact (congrFun h (0 : Fin 2)).trans (show (β (0 : Fin 2)).val * 7 / 7 = (β (0 : Fin 2)).val by omega)
    | ⟨1, _⟩ => exact (congrFun h (1 : Fin 2)).trans (show 0 = (β (1 : Fin 2)).val by omega)

/-- The array after the write-backs, for any contents that the relation allows. -/
theorem arr_out (c : Dev nD) (after : (w' : Fin (cfgM m hO).W) → Fin (cfgM m hO).N → ((cfgM m hO).win w').block.Idx → Elt F ((cfgM m hO).win w').elt)
    (h : ∀ u : Fin (cfgM m hO).N, ((cfgM m hO).win 5).flush u = true → (rdat m hO c).Leaves 5 u (after 5 u)) :
    ((rdat m hO c).withAfter after).arrAt 5 (cfgM m hO).N = outArr m hO c := by
  refine Dat.arrAt_eq_of_covers ((rdat m hO c).withAfter after) 5 _ (covers5 m hO) fun t hf y => ?_
  have h6 := flush5 m hO t hf
  have hl := Dat.toRRel_leaves (dats m hO c) (fgt := fgt) (Rl := Rl m hO c) (w := 5) rfl (h t hf)
  have hl' : t.val % 7 = 6 → after 5 t = outBlk m hO c (t.val / 7) := hl
  have hv := hl' h6
  have hN : t.val < 224 := lt_of_lt_of_eq t.isLt N_0
  obtain ⟨r, e, rfl⟩ : ∃ (r : Fin 512) (e : Fin 1024), y = ix2 r e := ⟨_, _, eq_ix2 y⟩
  refine (congrFun hv (ix2 r e)).trans (outArr_eq m hO c _ (t.val / 7) r e ?_ ?_).symm
  · refine (((cfgM m hO).win 5).rect_emb_val t (ix2 r e) (0 : Fin 2)).trans ?_
    show cc0_transform_5 (grid0.coords t) (0 : Fin 2) * 512 + r.val = _
    rw [idx5 m hO t]; rfl
  · refine (((cfgM m hO).win 5).rect_emb_val t (ix2 r e) (1 : Fin 2)).trans ?_
    show cc0_transform_5 (grid0.coords t) (1 : Fin 2) * 1024 + e.val = _
    rw [idx5 m hO t]; show 0 * 1024 + e.val = _; omega

/-- A buffer that is neither a window's array nor written by the host ends as it began. -/
theorem rest (c : Dev nD) (b : Ref sig .tc) (hs : b.isScoped = false) (ha : ∀ w : Fin 6, (spec0 w).arr.view.ref ≠ b)
    (h : ∀ b' ∈ [main_v0, main_v1, main_c, main_v2, main_c_0, main_v3, main_v4], b ≠ b') {r : PUnit × MemSt nD τ sig (Elt F)}
    (hr : Pipeline.RDat.FramePost (cfgM m hO) (rdat m hO) (V m) r) : r.2.mem ((c.tc : Thread nD τ).loc b) = m ((c.tc : Thread nD τ).loc b) :=
  ((hr c).2 b (Pipeline.mem_restRefs_of (win := spec0) b hs ha)).trans (V_of m c b h)

/-- The run: the output array holds `outArr`, the arguments are unchanged, every counter is zero. -/
theorem run_all : θ_run defs (onTc (τ := τ) (main (F := F))) ⟨m, fun _ => 0, ρ⟩ (fun r => (∀ c : Dev nD,
      r.2.mem ((c.tc : Thread nD τ).loc main_v5) = outArr m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => ⟨by
      obtain ⟨after, hL, hA⟩ := RDat.FramePost.exists_exact hr.1 c
      exact (hA 5).trans (arr_out m hO c after fun u hu => hL 5 u hu),
      (RDat.FramePost.arr_in hr.1 c 0 rfl).trans ((A_eq m hO c 0).trans (V_of m c main_arg0 (by decide))),
      rest m hO c main_arg1 rfl (by decide) (by decide) hr.1,
      rest m hO c main_arg2 rfl (by decide) (by decide) hr.1,
      rest m hO c main_arg3 rfl (by decide) (by decide) hr.1⟩, hr.2⟩)
    (run_main m ρ hO)

end Cert.Dense

end
-- ==== Proof.DenseOk.lean ====
module

public import proofs.«01_k».proof.Proof.DenseSetup
public import Idealize.ShloMosaic.Lib.Pointwise
public import Idealize.ShloMosaic.Lib.Affine

@[expose] public section

set_option maxRecDepth 16384

/-!
The two tables of the dense feed-forward kernel are constants: every block that they pick lies inside the weights.
-/

noncomputable section

namespace Cert.Dense

open Cert.Kernel7Ideal Cert.Kernel7Ideal.Gen
open Idealize.ShloMosaic Idealize.ShloMosaic.TcCoe Idealize.ShloMosaic.Tactic

variable {F : FTy → Type} [FloatOps F]

variable (m : (ℓ : Loc nD τ sig) → Buf (Elt F) ℓ)

/-- The first table is zero everywhere: every tile has the one expert there is. -/
theorem tbl_zero (i : S32.Idx) : (tbl m 0 : S32.Idx → BitVec 32) i = 0#32 := by
  have h : tbl m 0 = (broadcastInDim S32 ![] bcast_S_S32 (constantI S_ 32 0#32) : S32.Idx → BitVec 32) := by
    show StableHlo.after hostOps0 _ (Proc.devRef .tc main_v2) = _; after_results
  rw [h]; rfl

/-- The second table is the number of tiles. -/
theorem tbl_one (i : S1.Idx) : (tbl m 1 : S1.Idx → BitVec 32) i = 32#32 := by
  have h : tbl m 1 = (broadcastInDim S1 ![] bcast_S_S1 (constantI S_ 32 32#32) : S1.Idx → BitVec 32) := by
    show StableHlo.after hostOps0 _ (Proc.devRef .tc main_v3) = _; after_results
  rw [h]; rfl

/-- The element of the table that the index maps load. -/
theorem at_eq (i : grid0.Coords) :
    (Rect.unit (s := S32) ![(BitVec.ofNat 32 (i 0).val).toNat] S1.size (k0_off1_inb i)).emb (Shape.Idx.first (numel1_S1.symm ▸ Nat.one_pos))
      = (ix1 (i 0 : Fin 32) : S32.Idx) := by
  have h0 : (i 0).val < 32 := (i 0).isLt
  funext a
  match a with
  | ⟨0, _⟩ =>
    apply Fin.ext
    show (BitVec.ofNat 32 (i 0).val).toNat + 1 * 0 = (i 0).val
    rw [BitVec.toNat_ofNat]; omega

/-- The word of the first table that the grid's point `i` reads. -/
def teW (pf : pre0.Contents (Elt F)) (i : grid0.Coords) : BitVec 32 := (pf 0 : S32.Idx → BitVec 32) (ix1 (i 0 : Fin 32))

/-- The gate's block. -/
theorem ix_gate (pf : pre0.Contents (Elt F)) (i : grid0.Coords) :
    cc0_transform_2 k0_off1_inb numel1_S1 pf i = ![(teW pf i).toNat, 0, (i 1).val] := by
  have h1 : (i 1).val < 7 := (i 1).isLt
  funext a
  match a with
  | ⟨0, _⟩ => exact congrArg (fun j => ((pf 0 : S32.Idx → BitVec 32) j).toNat) (at_eq i)
  | ⟨1, _⟩ => rfl
  | ⟨2, _⟩ => show (BitVec.ofNat 32 (i 1).val).toNat = (i 1).val; rw [BitVec.toNat_ofNat]; omega

/-- The up projection's block. -/
theorem ix_up (pf : pre0.Contents (Elt F)) (i : grid0.Coords) :
    cc0_transform_3 k0_off1_inb numel1_S1 pf i = ![(teW pf i).toNat, 0, 7 + (i 1).val] := by
  have h1 : (i 1).val < 7 := (i 1).isLt
  funext a
  match a with
  | ⟨0, _⟩ => exact congrArg (fun j => ((pf 0 : S32.Idx → BitVec 32) j).toNat) (at_eq i)
  | ⟨1, _⟩ => rfl
  | ⟨2, _⟩ =>
    show (7#32 + BitVec.ofNat 32 (i 1).val).toNat = 7 + (i 1).val
    rw [BitVec.toNat_add, BitVec.toNat_ofNat, BitVec.toNat_ofNat]; omega

/-- The down projection's block. -/
theorem ix_down (pf : pre0.Contents (Elt F)) (i : grid0.Coords) :
    cc0_transform_4 k0_off1_inb numel1_S1 pf i = ![(teW pf i).toNat, (i 1).val, 0] := by
  have h1 : (i 1).val < 7 := (i 1).isLt
  funext a
  match a with
  | ⟨0, _⟩ => exact congrArg (fun j => ((pf 0 : S32.Idx → BitVec 32) j).toNat) (at_eq i)
  | ⟨1, _⟩ => show (BitVec.ofNat 32 (i 1).val).toNat = (i 1).val; rw [BitVec.toNat_ofNat]; omega
  | ⟨2, _⟩ => rfl

/-- The zero table picks blocks inside the weights. -/
theorem ok_all : Ok m := by
  have hw : ∀ i : grid0.Coords, (teW (tbl m) i).toNat < 1 := fun i => by unfold teW; rw [tbl_zero]; decide
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩ <;>
    have h0 := hw i <;> have h1 : (i 1).val < 7 := (i 1).isLt
  · rw [ix_gate]
    match a with
    | ⟨0, _⟩ => show ((teW (tbl m) i).toNat + 1) * 1 ≤ 1; omega
    | ⟨1, _⟩ => show (0 + 1) * 1024 ≤ 1024; omega
    | ⟨2, _⟩ => show ((i 1).val + 1) * 512 ≤ 7168; omega
  · rw [ix_up]
    match a with
    | ⟨0, _⟩ => show ((teW (tbl m) i).toNat + 1) * 1 ≤ 1; omega
    | ⟨1, _⟩ => show (0 + 1) * 1024 ≤ 1024; omega
    | ⟨2, _⟩ => show (7 + (i 1).val + 1) * 512 ≤ 7168; omega
  · rw [ix_down]
    match a with
    | ⟨0, _⟩ => show ((teW (tbl m) i).toNat + 1) * 1 ≤ 1; omega
    | ⟨1, _⟩ => show ((i 1).val + 1) * 512 ≤ 3584; omega
    | ⟨2, _⟩ => show (0 + 1) * 1024 ≤ 1024; omega

end Cert.Dense

end
-- ==== Proof.DenseFrame.lean ====
module

public import proofs.«01_k».proof.Proof.DenseOut
public import proofs.«01_k».proof.Proof.DenseOk
public import proofs.«01_k».proof.Proof.Gen.Kernel7
public import proofs.«01_k».proof.Defs

@[expose] public section

set_option maxRecDepth 16384

/-!
The frame of the dense feed-forward kernel as printed. Its idealization has the same text, so the run of the one is
the run of the other.
-/

noncomputable section

namespace Cert.Dense

open Idealize.ShloMosaic Idealize.ShloMosaic.TcCoe Idealize.SL.Sem

attribute [local instance] Cert.Kernel7.Gen.facts Cert.Kernel7Ideal.Gen.facts

/-- The two programs call the same body with the same operands. -/
theorem defs₀_same : @Cert.Kernel7.defs₀ Bits _ _ = @Cert.Kernel7Ideal.defs₀ Bits _ _ :=
  congrArg Defs.onTc (funext fun l => funext fun a => match l, a with
    | 0, (_, _) => rfl)

/-- The two programs have the same table of bodies. -/
theorem defs_same : @Cert.Kernel7.defs Bits _ _ = @Cert.Kernel7Ideal.defs Bits _ _ :=
  congrArg (Pipeline.defs Cert.Kernel7Ideal.pcfgs) defs₀_same

/-- The two programs have the same entry. -/
theorem main_same : @Cert.Kernel7.main Bits _ _ = @Cert.Kernel7Ideal.main Bits _ _ := rfl

/-- The kernel runs, leaves its arguments and ends with every counter at zero. -/
theorem frame_all {F : FTy → Type} [FloatOps F] (m : (ℓ : Loc Cert.Kernel7Ideal.nD Cert.Kernel7Ideal.τ Cert.Kernel7Ideal.sig) → Buf (Elt F) ℓ)
    (ρ : Dev Cert.Kernel7Ideal.nD → PrngReg) :
    θ_run (Cert.Kernel7Ideal.defs (F := F)) (onTc (τ := Cert.Kernel7Ideal.τ) (Cert.Kernel7Ideal.main (F := F))) ⟨m, fun _ => 0, ρ⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0) :=
  (θ_run Cert.Kernel7Ideal.defs _ _).mono (fun _ h => ⟨fun c => (h.1 c).2, h.2⟩) (run_all m ρ (ok_all m))

/-- The kernel as printed runs, leaves its arguments and ends with every counter at zero. -/
theorem frame_bits : Cert.quiescent_Kernel7 (hKernel7 := Cert.Kernel7.Gen.facts) := by
  intro m ρ _
  have hr := frame_all (F := Bits) m ρ
  rw [← defs_same, ← main_same] at hr
  exact hr

end Cert.Dense

end
-- ==== Proof.DenseVal.lean ====
module

public import proofs.«01_k».proof.Proof.DenseOut
public import proofs.«01_k».proof.Proof.DenseOk
public import proofs.«01_k».proof.Proof.FfnSpec
public import Idealize.ShloMosaic.Lib.Pointwise
public import Idealize.ShloMosaic.Lib.Pipeline.ValueKit.Basic

@[expose] public section

set_option maxRecDepth 16384

/-!
What the dense feed-forward kernel computes, over the extended reals: its expressions at an index, the blocks its windows show as parts of
the arguments, and so the output array in the words of the formula.
-/

noncomputable section

namespace Cert.Dense

open Cert.Ffn (rowNorm hid term rowOut unit sum_blocks)

open Cert.Kernel7Ideal Cert.Kernel7Ideal.Gen
open Idealize.ShloMosaic Idealize.ShloMosaic.TcCoe Idealize.ShloMosaic.Tactic
open Idealize.SL.Sem

/-! ## The body's expressions -/

theorem pay1_apply (x : Vec Ideal S512x1024 .f32) (g : Vec Ideal S1x1024 .f32) (r : Fin 512) (d : Fin 1024) :
    k0_pay1 (F := Ideal) x g (ix2 r d) = rowNorm (fun k => x (ix2 r k)) (fun k => g (ix2 0 k)) d := by
  pointwise [k0_pay1]; rfl

theorem pay2_apply (r : Fin 512) (d : Fin 1024) : k0_pay2 (F := Ideal) (ix2 r d) = 0 := by
  pointwise [k0_pay2]

theorem pay4_apply (x b : Vec Ideal S512x1024 .f32) (r : Fin 512) (d : Fin 1024) : k0_pay4 (F := Ideal) x b (ix2 r d) = x (ix2 r d) + b (ix2 r d) := by
  pointwise [k0_pay4]

theorem pay3_apply (n : Vec Ideal S512x1024 .bf16) (wg wu : Vec Ideal S1x1024x512 .bf16) (b : Vec Ideal S512x1024 .f32)
    (wo : Vec Ideal S1x512x1024 .bf16) (r : Fin 512) (d : Fin 1024) :
    k0_pay3 (F := Ideal) n wg wu b wo (ix2 r d)
      = b (ix2 r d) + ∑ i : Fin 512, hid (fun k => n (ix2 r k)) (fun k => wg (ix3 0 k i)) (fun k => wu (ix3 0 k i)) * wo (ix3 0 i d) := by
  pointwise [k0_pay3]; simp only [zero_sub]; rfl

/-! ## The blocks -/

variable (m : (ℓ : Loc nD τ sig) → Buf (Elt Ideal) ℓ) (c : Dev nD)

/-- The arguments, as plain functions. -/
def xA (p : Fin 16384) (k : Fin 1024) : EReal := (m ((c : Thread nD τ).loc main_arg0) : S16384x1024.Idx → EReal) (ix2 p k)
def gA (k : Fin 1024) : EReal := (m ((c : Thread nD τ).loc main_arg1) : S1024.Idx → EReal) (ix1 k)
def wguA (k : Fin 1024) (f : Fin 7168) : EReal := (m ((c : Thread nD τ).loc main_arg2) : S1x1024x7168.Idx → EReal) (ix3 0 k f)
def wdA (f : Fin 3584) (d : Fin 1024) : EReal := (m ((c : Thread nD τ).loc main_arg3) : S1x3584x1024.Idx → EReal) (ix3 0 f d)
theorem V_v0 (i : S1x1024x7168.Idx) : (V m c main_v0 : S1x1024x7168.Idx → EReal) i = (m ((c : Thread nD τ).loc main_arg2) : S1x1024x7168.Idx → EReal) i := by
  have h : V m c main_v0 = truncf (F := Ideal) .bf16 (m ((c : Thread nD τ).loc main_arg2) : S1x1024x7168.Idx → EReal) bitsLt_bf16_f32 := by
    show StableHlo.after hostOps0 _ (Proc.devRef .tc main_v0) = _; after_results
  rw [h]; rfl
theorem V_v1 (i : S1x3584x1024.Idx) : (V m c main_v1 : S1x3584x1024.Idx → EReal) i = (m ((c : Thread nD τ).loc main_arg3) : S1x3584x1024.Idx → EReal) i := by
  have h : V m c main_v1 = truncf (F := Ideal) .bf16 (m ((c : Thread nD τ).loc main_arg3) : S1x3584x1024.Idx → EReal) bitsLt_bf16_f32 := by
    show StableHlo.after hostOps0 _ (Proc.devRef .tc main_v1) = _; after_results
  rw [h]; rfl
theorem V_v4 (k : Fin 1024) : (V m c main_v4 : S1x1024.Idx → EReal) (ix2 0 k) = gA m c k := by
  have h : V m c main_v4 = shapeCast S1x1024 (m ((c : Thread nD τ).loc main_arg1) : S1024.Idx → EReal) shapeCasts_S1024_S1x1024 := by
    show StableHlo.after hostOps0 _ (Proc.devRef .tc main_v4) = _; after_results; rfl
  rw [h]
  pointwise []; rfl

variable (hO : Ok m)

/-- The tile and the block of hidden units of a grid point. -/
def tileOf (t : Fin (cfgM m hO).N) : Fin 32 := ⟨t.val / 7, by have := lt_of_lt_of_eq t.isLt N_0; omega⟩

/-- The word that point `t` picks the weights by. -/
theorem te_pt (t : Fin (cfgM m hO).N) : teW (tbl m) (grid0.coords t) = 0#32 := tbl_zero m _

/-- The rows' block. -/
theorem blk_x (t : Fin (cfgM m hO).N) (r : Fin 512) (d : Fin 1024) :
    iblk m hO c 0 t (ix2 r d) = xA m c ⟨(tileOf m hO t).val * 512 + r.val, by omega⟩ d := by
  show (V m c main_arg0 : S16384x1024.Idx → EReal) _ = _
  rw [V_of m c main_arg0 (by decide)]
  refine congrArg (m ((c : Thread nD τ).loc main_arg0) : S16384x1024.Idx → EReal) (funext fun a => Fin.ext ?_)
  refine (((cfgM m hO).win 0).rect_emb_val t (ix2 r d) a).trans ?_
  have h0 := coord0 m hO t
  have hN := lt_of_lt_of_eq t.isLt N_0
  match a with
  | ⟨0, _⟩ =>
    show (BitVec.ofNat 32 (grid0.coords t 0).val).toNat * 512 + r.val = t.val / 7 * 512 + r.val
    rw [h0, BitVec.toNat_ofNat]; omega
  | ⟨1, _⟩ => show 0 * 1024 + d.val = d.val; omega

/-- The scale's block. -/
theorem blk_g (t : Fin (cfgM m hO).N) (d : Fin 1024) : iblk m hO c 1 t (ix2 0 d) = gA m c d := by
  refine Eq.trans ?_ (V_v4 m c d)
  show (V m c main_v4 : S1x1024.Idx → EReal) _ = _
  refine congrArg (V m c main_v4 : S1x1024.Idx → EReal) (funext fun a => Fin.ext ?_)
  refine (((cfgM m hO).win 1).rect_emb_val t (ix2 0 d) a).trans ?_
  match a with
  | ⟨0, _⟩ => rfl
  | ⟨1, _⟩ => show 0 * 1024 + d.val = d.val; omega

variable {m} in
/-- The gates' block. -/
theorem blk_gate (t : Fin (cfgM m hO).N) (k : Fin 1024) (i : Fin 512) :
    iblk m hO c 2 t (ix3 0 k i) = wguA m c k ⟨(unit (t.val % 7) i).val, by omega⟩ := by
  show (V m c main_v0 : S1x1024x7168.Idx → EReal) _ = _
  refine (V_v0 m c _).trans (congrArg (m ((c : Thread nD τ).loc main_arg2) : S1x1024x7168.Idx → EReal) (funext fun a => Fin.ext ?_))
  have h := ix_gate (tbl m) (grid0.coords t)
  rw [te_pt m hO t, coord1] at h
  have hv : _ = cc0_transform_2 k0_off1_inb numel1_S1 (tbl m) (grid0.coords t) a * S1x1024x512.size a + (((ix3 0 k i) : S1x1024x512.Idx) a).val :=
    ((cfgM m hO).win 2).rect_emb_val t (ix3 0 k i) a
  rw [h] at hv
  refine hv.trans ?_
  clear hv h
  match a with
  | ⟨0, _⟩ => rfl
  | ⟨1, _⟩ => show 0 * 1024 + k.val = k.val; omega
  | ⟨2, _⟩ => show t.val % 7 * 512 + i.val = t.val % 7 % 7 * 512 + i.val; omega

variable {m} in
/-- The ups' block. -/
theorem blk_up (t : Fin (cfgM m hO).N) (k : Fin 1024) (i : Fin 512) :
    iblk m hO c 3 t (ix3 0 k i) = wguA m c k ⟨3584 + (unit (t.val % 7) i).val, by omega⟩ := by
  show (V m c main_v0 : S1x1024x7168.Idx → EReal) _ = _
  refine (V_v0 m c _).trans (congrArg (m ((c : Thread nD τ).loc main_arg2) : S1x1024x7168.Idx → EReal) (funext fun a => Fin.ext ?_))
  have h := ix_up (tbl m) (grid0.coords t)
  rw [te_pt m hO t, coord1] at h
  have hv : _ = cc0_transform_3 k0_off1_inb numel1_S1 (tbl m) (grid0.coords t) a * S1x1024x512.size a + (((ix3 0 k i) : S1x1024x512.Idx) a).val :=
    ((cfgM m hO).win 3).rect_emb_val t (ix3 0 k i) a
  rw [h] at hv
  refine hv.trans ?_
  clear hv h
  match a with
  | ⟨0, _⟩ => rfl
  | ⟨1, _⟩ => show 0 * 1024 + k.val = k.val; omega
  | ⟨2, _⟩ =>
    show (7 + t.val % 7) * 512 + i.val = 3584 + (t.val % 7 % 7 * 512 + i.val); omega

variable {m} in
/-- The down projection's block. -/
theorem blk_down (t : Fin (cfgM m hO).N) (i : Fin 512) (d : Fin 1024) :
    iblk m hO c 4 t (ix3 0 i d) = wdA m c (unit (t.val % 7) i) d := by
  show (V m c main_v1 : S1x3584x1024.Idx → EReal) _ = _
  refine (V_v1 m c _).trans (congrArg (m ((c : Thread nD τ).loc main_arg3) : S1x3584x1024.Idx → EReal) (funext fun a => Fin.ext ?_))
  have h := ix_down (tbl m) (grid0.coords t)
  rw [te_pt m hO t, coord1] at h
  have hv : _ = cc0_transform_4 k0_off1_inb numel1_S1 (tbl m) (grid0.coords t) a * S1x512x1024.size a + (((ix3 0 i d) : S1x512x1024.Idx) a).val :=
    ((cfgM m hO).win 4).rect_emb_val t (ix3 0 i d) a
  rw [h] at hv
  refine hv.trans ?_
  clear hv h
  match a with
  | ⟨0, _⟩ => rfl
  | ⟨1, _⟩ => show t.val % 7 * 512 + i.val = t.val % 7 % 7 * 512 + i.val; omega
  | ⟨2, _⟩ => show 0 * 1024 + d.val = d.val; omega

/-! ## The output -/

theorem pt_num (n : ℕ) (h : n < 224) : (pt m hO n).val = n := Nat.mod_eq_of_lt h

variable {m} in
/-- The running sum of a tile. -/
theorem acc_apply (q : Fin 32) (r : Fin 512) (d : Fin 1024) (j : ℕ) (hj : j ≤ 7) :
    acc m hO c q.val j (ix2 r d) = ∑ l ∈ Finset.range j, ∑ i : Fin 512,
      term (rowNorm (xA m c ⟨q.val * 512 + r.val, by omega⟩) (gA m c)) (wguA m c) (wdA m c) d (unit l i) := by
  have hq := q.isLt
  induction j with
  | zero => exact pay2_apply r d
  | succ j ih =>
    have ev : (pt m hO (7 * q.val + j)).val = 7 * q.val + j := pt_num m hO _ (by omega)
    have et : tileOf m hO (pt m hO (7 * q.val + j)) = q := Fin.ext (by show (pt m hO (7 * q.val + j)).val / 7 = _; rw [ev]; omega)
    have ej : (pt m hO (7 * q.val + j)).val % 7 = j := by rw [ev]; omega
    have ev0 : (pt m hO (7 * q.val)).val = 7 * q.val := pt_num m hO _ (by omega)
    have et0 : tileOf m hO (pt m hO (7 * q.val)) = q := Fin.ext (by show (pt m hO (7 * q.val)).val / 7 = _; rw [ev0]; omega)
    have hn : (fun k => nrm m hO c q.val (ix2 r k)) = rowNorm (xA m c ⟨q.val * 512 + r.val, by omega⟩) (gA m c) := by
      funext k
      refine (pay1_apply _ _ r k).trans (congrArg₂ (fun x g => rowNorm x g k) (funext fun l => ?_) (funext fun l => blk_g m c hO _ l))
      exact (blk_x m c hO _ r l).trans (congrArg (fun p => xA m c p l) (Fin.ext (congrArg (fun z : Fin 32 => z.val * 512 + r.val) et0)))
    rw [Finset.sum_range_succ, ← ih (by omega)]
    refine (pay3_apply _ _ _ _ _ r d).trans (congrArg (acc m hO c q.val j (ix2 r d) + ·) (Finset.sum_congr rfl fun i _ => ?_))
    rw [hn]
    refine congrArg₂ (· * ·) (congrArg₂ (hid _) (funext fun k => (blk_gate c hO _ k i).trans ?_) (funext fun k => (blk_up c hO _ k i).trans ?_))
      ((blk_down c hO _ i d).trans ?_)
    · exact congrArg (wguA m c k) (Fin.ext (by show (unit _ i).val = _; rw [ej]))
    · exact congrArg (wguA m c k) (Fin.ext (by show 3584 + (unit _ i).val = _; rw [ej]))
    · rw [ej]

/-- The word of the second table. -/
theorem word_eq : word m c = 32#32 := tbl_one m _

variable {m} in
/-- The output array: each row plus its layer. -/
theorem outArr_apply (q : Fin 32) (r : Fin 512) (d : Fin 1024) (p : Fin 16384) (hp : p.val = q.val * 512 + r.val) :
    outArr m hO c (ix2 p d) = xA m c p d + rowOut (xA m c p) (gA m c) (wguA m c) (wdA m c) d := by
  have hq := q.isLt
  have hu : UsedN m c q.val := by
    unfold UsedN; rw [word_eq]
    exact (by decide : ∀ q : Fin 32, Scalar.cmpi .slt (BitVec.ofNat 32 q.val) (32#32) = 1#1) q
  have ev : (pt m hO (7 * q.val + 6)).val = 7 * q.val + 6 := pt_num m hO _ (by omega)
  have et : (tileOf m hO (pt m hO (7 * q.val + 6))).val = q.val := by show (pt m hO (7 * q.val + 6)).val / 7 = _; rw [ev]; omega
  rw [outArr_eq m hO c _ q.val r d hp rfl]
  unfold outBlk
  rw [if_pos hu]
  refine (pay4_apply _ _ r d).trans (congrArg₂ (· + ·) ((blk_x m c hO _ r d).trans (congrArg (fun p => xA m c p d) (Fin.ext ?_))) ?_)
  · show (tileOf m hO (pt m hO (7 * q.val + 6))).val * 512 + r.val = p.val
    rw [et, hp]
  refine (acc_apply c hO q r d 7 le_rfl).trans ((sum_blocks _).trans ?_)
  rw [show (⟨q.val * 512 + r.val, by omega⟩ : Fin 16384) = p from Fin.ext hp.symm]
  rfl

end Cert.Dense

end
-- ==== Proof.DenseRef.lean ====
module

public import proofs.«01_k».proof.Proof.Gen.Reference7Ideal.Read
public import proofs.«01_k».proof.Proof.FfnRef

@[expose] public section

set_option maxRecDepth 16384

/-!
What the reference of the dense layer computes, over the extended reals, at each index: the row plus the layer of the row.
-/

noncomputable section

namespace Cert.Dense

open Cert.Reference7Ideal Cert.Reference7Ideal.Gen Cert.Reference7Ideal.Read
open Cert.Ffn (rowNorm hid rowOut zero_bits one_bits)
open Idealize.ShloMosaic

variable (x0 : S16384x1024.Idx → EReal) (x1 : S1024.Idx → EReal) (x2 : S1x1024x7168.Idx → EReal) (x3 : S1x3584x1024.Idx → EReal)

/-- The normalised rows. -/
theorem ref_norm (p : Fin 16384) (k : Fin 1024) :
    val_main_v12 (F := Ideal) x0 x1 (ix2 p k) = rowNorm (fun l => x0 (ix2 p l)) (fun l => x1 (ix1 l)) k := by
  rw [val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + ∑ l, x0 _ * x0 _) (Ideal.ofBits .f32 0x44800000#32)
    + Ideal.ofBits .f32 0x358637BD#32) * x1 _ = _
  rw [zero_bits, zero_add]
  unfold rowNorm
  congr 1
  · congr 3
    refine congrArg₂ Ideal.div (Finset.sum_congr rfl fun l _ => ?_) rfl
    have e : idx_main_v1 (idx_main_v2 (idx_main_v8 (ix2 p k))) l = ix2 p l := eq_ix2 _
    rw [e]
  · exact congrArg x1 (eq_ix1 _)

/-- The one layer's projection weights as a matrix, -/
theorem ref_wgu (k : Fin 1024) (f : Fin 7168) : val_main_v13 (F := Ideal) x2 (ix2 k f) = x2 (ix3 0 k f) := by
  rw [val_main_v13_apply]
  refine congrArg x2 ((eq_ix3 _).trans ?_)
  congr 1 <;> apply Fin.ext
  · show (k.val * 7168 + f.val) / 7168 % 1024 = k.val
    omega
  · show (k.val * 7168 + f.val) % 7168 = f.val
    omega

/-- and its down projection's. -/
theorem ref_wd (f : Fin 3584) (d : Fin 1024) : val_main_v19 (F := Ideal) x3 (ix2 f d) = x3 (ix3 0 f d) := by
  rw [val_main_v19_apply]
  refine congrArg x3 ((eq_ix3 _).trans ?_)
  congr 1 <;> apply Fin.ext
  · show (f.val * 1024 + d.val) / 1024 % 3584 = f.val
    omega
  · show (f.val * 1024 + d.val) % 1024 = d.val
    omega

/-- The projections. -/
theorem ref_proj (p : Fin 16384) (f : Fin 7168) :
    val_main_v14 (F := Ideal) x0 x1 x2 (ix2 p f)
      = ∑ k, rowNorm (fun l => x0 (ix2 p l)) (fun l => x1 (ix1 l)) k * x2 (ix3 0 k f) := by
  rw [val_main_v14_apply]
  refine Finset.sum_congr rfl fun k _ => ?_
  rw [show lidx_main_v14 (ix2 p f) k = ix2 p k from eq_ix2 _, ref_norm,
    show ridx_main_v14 (ix2 p f) k = ix2 k f from eq_ix2 _, ref_wgu]

/-- The hidden units. -/
theorem ref_hid (p : Fin 16384) (f : Fin 3584) :
    val_main_v18 (F := Ideal) x0 x1 x2 (ix2 p f)
      = hid (rowNorm (fun l => x0 (ix2 p l)) (fun l => x1 (ix1 l))) (fun k => x2 (ix3 0 k ⟨f.val, by omega⟩))
          (fun k => x2 (ix3 0 k ⟨3584 + f.val, by omega⟩)) := by
  have hg : val_main_v15 (F := Ideal) x0 x1 x2 (ix2 p f)
      = ∑ k, rowNorm (fun l => x0 (ix2 p l)) (fun l => x1 (ix1 l)) k * x2 (ix3 0 k ⟨f.val, by omega⟩) := by
    rw [val_main_v15_apply, show idx_main_v15 (ix2 p f) = ix2 p ⟨f.val, by omega⟩ from eq_ix2 _]
    exact ref_proj x0 x1 x2 p ⟨f.val, by omega⟩
  have hu : val_main_v17 (F := Ideal) x0 x1 x2 (ix2 p f)
      = ∑ k, rowNorm (fun l => x0 (ix2 p l)) (fun l => x1 (ix1 l)) k * x2 (ix3 0 k ⟨3584 + f.val, by omega⟩) := by
    rw [val_main_v17_apply, show idx_main_v17 (ix2 p f) = ix2 p ⟨3584 + f.val, by omega⟩ from eq_ix2 _]
    exact ref_proj x0 x1 x2 p ⟨3584 + f.val, by omega⟩
  rw [val_main_v18_apply, val_main_v16_apply, val_main_call0_v5_apply, val_main_call0_v3_apply, val_main_call0_v1_apply,
    val_main_call0_v0_apply, hg, hu, val_main_call0_v4_apply, val_main_call0_v2_apply]
  show _ * Ideal.div (Ideal.ofBits .f32 0x3F800000#32) (Ideal.ofBits .f32 0x3F800000#32 + Ideal.exp (-_)) * _ = _
  rw [one_bits]
  rfl

/-- Each row plus its layer. -/
theorem ref_out (p : Fin 16384) (d : Fin 1024) :
    val_main_v21 (F := Ideal) x0 x1 x2 x3 (ix2 p d)
      = x0 (ix2 p d) + rowOut (fun l => x0 (ix2 p l)) (fun l => x1 (ix1 l)) (fun k f => x2 (ix3 0 k f)) (fun f d => x3 (ix3 0 f d)) d := by
  rw [val_main_v21_apply, val_main_v20_apply]
  refine congrArg (x0 (ix2 p d) + ·) (Finset.sum_congr rfl fun f _ => ?_)
  rw [show lidx_main_v20 (ix2 p d) f = ix2 p f from eq_ix2 _, ref_hid,
    show ridx_main_v20 (ix2 p d) f = ix2 f d from eq_ix2 _, ref_wd]
  rfl

end Cert.Dense

end
-- ==== Proof.DenseEq.lean ====
module

public import proofs.«01_k».proof.Proof.DenseVal
public import proofs.«01_k».proof.Proof.DenseRef
public import proofs.«01_k».proof.Defs

@[expose] public section

set_option maxRecDepth 16384

/-!
The two runs of the dense feed-forward side by side: the kernel's array is the reference's.
-/

noncomputable section

namespace Cert.Dense

open Cert.Kernel7Ideal Cert.Kernel7Ideal.Gen
open Idealize.ShloMosaic Idealize.ShloMosaic.TcCoe Idealize.ShloMosaic.Tactic

/-- The kernel's array, under its own tables. -/
abbrev arr (m : (ℓ : Loc nD τ sig) → Buf (Elt Ideal) ℓ) (c : Dev nD) := outArr m (ok_all m) c

/-- The kernel's array is the reference's. -/
theorem arrays_eq (m : (ℓ : Loc nD τ sig) → Buf (Elt Ideal) ℓ) (c : Dev nD) :
    Cert.Reference7Ideal.Read.val_main_v21 (F := Ideal) (m ((c.tc : Thread nD τ).loc main_arg0)) (m ((c.tc : Thread nD τ).loc main_arg1))
        (m ((c.tc : Thread nD τ).loc main_arg2)) (m ((c.tc : Thread nD τ).loc main_arg3))
      = arr m c := by
  funext y
  obtain ⟨p, d, rfl⟩ : ∃ (p : Fin 16384) (d : Fin 1024), y = ix2 p d := ⟨_, _, eq_ix2 y⟩
  have hp := p.isLt
  have hq : p.val / 512 < 32 := by omega
  refine (ref_out _ _ _ _ p d).trans
    (outArr_apply c (ok_all m) ⟨p.val / 512, hq⟩ ⟨p.val % 512, Nat.mod_lt _ (by norm_num)⟩ d p ?_).symm
  show p.val = p.val / 512 * 512 + p.val % 512
  omega

end Cert.Dense

end
-- ==== Proof.ProjGStep.lean ====
module

public import proofs.«01_k».proof.Proof.Gen.Kernel4Ideal.Frame
public import proofs.«01_k».proof.Proof.Gen.Kernel4Ideal.Points
public import proofs.«01_k».proof.Proof.Gen.Kernel4Ideal.Skeleton
public import Idealize.ShloMosaic.Lib.Pipeline.Value

@[expose] public section

set_option maxRecDepth 16384

/-!
One run of the body of the gated delta layer's input projection of the prompt: what it leaves in the scratch and in the output block, as the body's own expressions of its blocks.
-/

noncomputable section

namespace Cert.ProjG

open Cert.Kernel4Ideal Cert.Kernel4Ideal.Gen
open Idealize.ShloMosaic Idealize.ShloMosaic.TcCoe Idealize.ShloMosaic.Tactic
open Idealize.SL Idealize.SL.Sem

variable {F : FTy → Type} [FloatOps F]

theorem off_zero : (![0, 0] : Fin 2 → ℕ) = fun _ => 0 := funext fun a => by fin_cases a <;> rfl

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1024x128 .bf16) (h4 : a4.IsWhole) (a5 : Memref sig .tc .vmem S512x128 .f32) (h5 : a5.IsWhole)
  (a6 : Memref sig .tc .vmem S512x1024 .bf16) (h6 : a6.IsWhole)
  (x : Vec F S512x1024 .f32) (g : Vec F S1x1024 .f32) (w : Vec F S1024x128 .bf16) (s : Vec F S512x1024 .bf16)

/-- The first column block of a row block leaves the normalised rows in the scratch. -/
theorem scratch_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero off_zero]
  simp only [View.readAt_eq_ld, h2.read_unread, h3.read_unread, View.ld_unit_zero (S := S512x1024) off_zero,
    View.ld_unit_zero (S := S1x1024) off_zero, shapeCast_self]

/-- The first column block's output is the product of the rows it has just normalised. -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off_zero, View.readCov_unit_zero (S := S512x1024) _ off_zero]
  simp only [View.readAt_eq_ld, h2.read_unread, h3.read_unread, h4.read_unread, View.ld_unit_zero (S := S512x1024) off_zero,
    View.ld_unit_zero (S := S1x1024) off_zero, View.ld_unit_zero (S := S1024x128) off_zero, shapeCast_self]

/-- A later column block's output is the product of the rows that the scratch holds. -/
theorem out_later (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_unit_zero off_zero]
  simp only [View.readAt_eq_ld, h4.read_unread, h6.read_unread, View.ld_unit_zero (S := S512x1024) off_zero,
    View.ld_unit_zero (S := S1024x128) off_zero, shapeCast_self]

end Cert.ProjG

end
-- ==== Proof.ProjGVal.lean ====
module

public import proofs.«01_k».proof.Proof.ProjGStep
public import proofs.«01_k».proof.Proof.FfnSpec
public import Idealize.ShloMosaic.Lib.KernelVsHost
public import Idealize.ShloMosaic.Lib.Pointwise
public import Idealize.ShloMosaic.Lib.Pipeline.ValueKit.Basic
public import Idealize.ShloMosaic.Lib.Pipeline.Covers
public import Idealize.ShloMosaic.Lib.Claim

@[expose] public section

set_option maxRecDepth 16384

/-!
What the run of the gated delta layer's input projection of the prompt leaves, over the extended reals: the scratch holds the normalised rows of the row block, every output
block is their product with a block of columns, and so the output array is the projection of every row.
-/

noncomputable section

namespace Cert.ProjG

open Cert.Kernel4Ideal Cert.Kernel4Ideal.Gen
open Idealize.ShloMosaic Idealize.ShloMosaic.TcCoe Idealize.ShloMosaic.Tactic
open Idealize.SL Idealize.SL.Sem
open Idealize.ShloMosaic.Pipeline (Dat Cfg Window)

/-! ## The body's expressions -/

theorem pay1_apply (x : Vec Ideal S512x1024 .f32) (g : Vec Ideal S1x1024 .f32) (r : Fin 512) (d : Fin 1024) :
    k0_pay1 (F := Ideal) x g (ix2 r d) = Ffn.rowNorm (fun k => x (ix2 r k)) (fun k => g (ix2 0 k)) d := by
  pointwise [k0_pay1]; rfl

theorem pay2_apply (n : Vec Ideal S512x1024 .bf16) (w : Vec Ideal S1024x128 .bf16) (r : Fin 512) (e : Fin 128) :
    k0_pay2 (F := Ideal) n w (ix2 r e) = ∑ k : Fin 1024, n (ix2 r k) * w (ix2 k e) := by
  pointwise [k0_pay2]

/-! ## The blocks -/

variable (m : (ℓ : Loc nD τ sig) → Buf (Elt Ideal) ℓ) (c : Dev nD)

/-- The arguments, as plain functions: row `p` of the flattened batch, the scale, the weights. -/
def xA (p : Fin 16384) (k : Fin 1024) : EReal :=
  (m ((c : Thread nD τ).loc main_arg0) : S2x8192x1024.Idx → EReal) (ix3 ⟨p.val / 8192, by omega⟩ ⟨p.val % 8192, by omega⟩ k)
def gA (k : Fin 1024) : EReal := (m ((c : Thread nD τ).loc main_arg1) : S1024.Idx → EReal) (ix1 k)
/-- The weights, padded with zero columns. -/
def wA (k : Fin 1024) (j : Fin 4224) : EReal :=
  if h : j.val < 4112 then (m ((c : Thread nD τ).loc main_arg2) : S1024x4112.Idx → EReal) (ix2 k ⟨j.val, h⟩) else 0

theorem V_x (p : Fin 16384) (k : Fin 1024) : (V m c main_v1 : S16384x1024.Idx → EReal) (ix2 p k) = xA m c p k := by
  have h : V m c main_v1 = shapeCast S16384x1024 (m ((c : Thread nD τ).loc main_arg0) : S2x8192x1024.Idx → EReal) shapeCasts_S2x8192x1024_S16384x1024 := by
    show StableHlo.after (List.flatten [hostOps0, hostOps0_1, hostOps0_2]) _ (Proc.devRef .tc main_v1) = _
    simp only [List.flatten_cons, List.flatten_nil, List.append_nil, List.cons_append, List.nil_append]
    after_results; rfl
  rw [h]
  exact shapeCast_apply (s := S2x8192x1024) _ _ _ _ (by
    show (S2x8192x1024.rowMajor (ix3 ⟨p.val / 8192, by omega⟩ ⟨p.val % 8192, by omega⟩ k)).val = (S16384x1024.rowMajor (ix2 p k)).val
    rw [Shape.rowMajor_val_three, Shape.rowMajor_val_two]
    show (p.val / 8192 * 8192 + p.val % 8192) * 1024 + k.val = p.val * 1024 + k.val
    omega)
theorem V_w (k : Fin 1024) (j : Fin 4224) : (V m c main_v2 : S1024x4224.Idx → EReal) (ix2 k j) = wA m c k j := by
  have h : V m c main_v2 = truncf (F := Ideal) .bf16 (pad S1024x4224 ![0, 0] ![0, 112] ![0, 0] (m ((c : Thread nD τ).loc main_arg2) : S1024x4112.Idx → EReal) (sitofp (F := Ideal) .f32 (constantI S_ 32 0#32)) pads_S1024x4112_S1024x4224_000_01120 h_S_) bitsLt_bf16_f32 := by
    show StableHlo.after (List.flatten [hostOps0, hostOps0_1, hostOps0_2]) _ (Proc.devRef .tc main_v2) = _
    simp only [List.flatten_cons, List.flatten_nil, List.append_nil, List.cons_append, List.nil_append]
    after_results; rfl
  rw [h]
  unfold wA
  by_cases hj : j.val < 4112
  · rw [dif_pos hj]
    refine (pad_apply_of_inside (s := S1024x4112) ![0, 0] ![0, 112] ![0, 0] _ _ pads_S1024x4112_S1024x4224_000_01120 _ _ (ix2 k ⟨j.val, hj⟩) fun a => ?_)
    match a with
    | ⟨0, _⟩ => show k.val = 0 + k.val * (0 + 1); omega
    | ⟨1, _⟩ => show j.val = 0 + j.val * (0 + 1); omega
  · rw [dif_neg hj]
    refine (pad_apply_of_not_inside (s := S1024x4112) ![0, 0] ![0, 112] ![0, 0] _ _ pads_S1024x4112_S1024x4224_000_01120 _ _ 1 fun ha => hj ?_).trans ?_
    · have h2 : (j.val - 0) / (0 + 1) < 4112 := ha.2.2
      omega
    · show (((0#32 : BitVec 32).toInt : ℝ) : EReal) = 0
      simp
theorem V_g (k : Fin 1024) : (V m c main_v3 : S1x1024.Idx → EReal) (ix2 0 k) = gA m c k := by
  have h : V m c main_v3 = shapeCast S1x1024 (m ((c : Thread nD τ).loc main_arg1) : S1024.Idx → EReal) shapeCasts_S1024_S1x1024 := by
    show StableHlo.after (List.flatten [hostOps0, hostOps0_1, hostOps0_2]) _ (Proc.devRef .tc main_v3) = _
    simp only [List.flatten_cons, List.flatten_nil, List.append_nil, List.cons_append, List.nil_append]
    after_results; rfl
  rw [h]
  pointwise []; rfl

/-- The blocks' places, by the point. -/
theorem idx0 : ∀ t : Fin grid0.N, cc0_transform_0 (grid0.coords t) = ![t.val / 33, 0] := by decide +kernel
theorem idx2 : ∀ t : Fin grid0.N, cc0_transform_2 (grid0.coords t) = ![0, t.val % 33] := by decide +kernel
theorem idx3 : ∀ t : Fin grid0.N, cc0_transform_3 (grid0.coords t) = ![t.val / 33, t.val % 33] := by decide +kernel

theorem lt_1056 (t : Fin cfg0.N) : t.val < 1056 := lt_of_lt_of_eq t.isLt N_0

/-- The rows' block. -/
theorem blk_x (t : Fin cfg0.N) (r : Fin 512) (d : Fin 1024) :
    iblk m c 0 t (ix2 r d) = xA m c ⟨t.val / 33 * 512 + r.val, by have := lt_1056 t; omega⟩ d := by
  refine Eq.trans ?_ (V_x m c _ d)
  show (V m c main_v1 : S16384x1024.Idx → EReal) _ = _
  refine congrArg (V m c main_v1 : S16384x1024.Idx → EReal) (funext fun a => Fin.ext ?_)
  refine ((cfg0.win 0).rect_emb_val t (ix2 r d) a).trans ?_
  match a with
  | ⟨0, _⟩ =>
    show cc0_transform_0 (grid0.coords t) 0 * 512 + r.val = _
    rw [idx0 t]; rfl
  | ⟨1, _⟩ =>
    show cc0_transform_0 (grid0.coords t) 1 * 1024 + d.val = _
    rw [idx0 t]; show 0 * 1024 + d.val = d.val; omega

/-- The scale's block. -/
theorem blk_g (t : Fin cfg0.N) (d : Fin 1024) : iblk m c 1 t (ix2 0 d) = gA m c d := by
  refine Eq.trans ?_ (V_g m c d)
  show (V m c main_v3 : S1x1024.Idx → EReal) _ = _
  refine congrArg (V m c main_v3 : S1x1024.Idx → EReal) (funext fun a => Fin.ext ?_)
  refine ((cfg0.win 1).rect_emb_val t (ix2 0 d) a).trans ?_
  match a with
  | ⟨0, _⟩ => rfl
  | ⟨1, _⟩ => show 0 * 1024 + d.val = d.val; omega

/-- The weights' block. -/
theorem blk_w (t : Fin cfg0.N) (k : Fin 1024) (e : Fin 128) :
    iblk m c 2 t (ix2 k e) = wA m c k ⟨t.val % 33 * 128 + e.val, by omega⟩ := by
  refine Eq.trans ?_ (V_w m c k _)
  show (V m c main_v2 : S1024x4224.Idx → EReal) _ = _
  refine congrArg (V m c main_v2 : S1024x4224.Idx → EReal) (funext fun a => Fin.ext ?_)
  refine ((cfg0.win 2).rect_emb_val t (ix2 k e) a).trans ?_
  match a with
  | ⟨0, _⟩ =>
    show cc0_transform_2 (grid0.coords t) 0 * 1024 + k.val = _
    rw [idx2 t]; show 0 * 1024 + k.val = k.val; omega
  | ⟨1, _⟩ =>
    show cc0_transform_2 (grid0.coords t) 1 * 128 + e.val = _
    rw [idx2 t]; rfl

/-! ## The run -/

/-- Entry `k` of the normalised row `p`. -/
def normA (p : Fin 16384) (k : Fin 1024) : EReal := Ffn.rowNorm (fun l => xA m c p l) (fun l => gA m c l) k

/-- The output array: every normalised row times the weights. -/
def outArr : S16384x4224.Idx → EReal := fun i => ∑ k : Fin 1024, normA m c (i 0) k * wA m c k (i 1)

/-- The normalised rows of the block of point `t`. -/
theorem norm_blk (t : Fin cfg0.N) (r : Fin 512) (d : Fin 1024) :
    k0_pay1 (F := Ideal) (iblk m c 0 t) (iblk m c 1 t) (ix2 r d) = normA m c ⟨t.val / 33 * 512 + r.val, by have := lt_1056 t; omega⟩ d := by
  rw [pay1_apply]
  simp only [blk_x, blk_g]
  rfl

/-- After every point the scratch holds the normalised rows of the point's row block. -/
theorem scratch_at : ∀ (n : ℕ) (hn : n < cfg0.N) (r : Fin 512) (d : Fin 1024),
    (outsAt0 m c n hn).2 (ix2 r d) = normA m c ⟨n / 33 * 512 + r.val, by have h : n < 1056 := lt_1056 ⟨n, hn⟩; omega⟩ d := by
  intro n
  induction n with
  | zero =>
    intro hn r d
    rw [outsAt0_A m c ⟨0, hn⟩ (Nat.zero_mod _)]
    dsimp only
    rw [scratch_first]
    exact norm_blk m c ⟨0, hn⟩ r d
  | succ n ih =>
    intro hn r d
    by_cases h0 : (n + 1) % 33 = 0
    · rw [outsAt0_A m c ⟨n + 1, hn⟩ h0]
      dsimp only
      rw [scratch_first]
      exact norm_blk m c ⟨n + 1, hn⟩ r d
    · rw [outsAt0_B m c ⟨n + 1, hn⟩ h0]
      show (outsAt0 m c n _).2 (ix2 r d) = _
      rw [ih]
      congr 1
      apply Fin.ext
      show n / 33 * 512 + r.val = (n + 1) / 33 * 512 + r.val
      omega

/-- After every point the output block holds the products. -/
theorem out_at (t : Fin cfg0.N) (r : Fin 512) (e : Fin 128) :
    (outsAt0 m c t.val t.isLt).1 (ix2 r e)
      = ∑ k : Fin 1024, normA m c ⟨t.val / 33 * 512 + r.val, by have := lt_1056 t; omega⟩ k * wA m c k ⟨t.val % 33 * 128 + e.val, by omega⟩ := by
  by_cases h0 : t.val % 33 = 0
  · rw [outsAt0_A m c t h0]
    dsimp only
    rw [out_first, pay2_apply]
    exact Finset.sum_congr rfl fun k _ => congrArg₂ (· * ·) (norm_blk m c t r k) (blk_w m c t k e)
  · have hp : t.val / 33 = (t.val - 1) / 33 := by omega
    rw [outsAt0_B m c t h0]
    dsimp only
    rw [out_later, pay2_apply]
    refine Finset.sum_congr rfl fun k _ => congrArg₂ (· * ·) ?_ (blk_w m c t k e)
    rw [scratch_at]
    congr 1
    apply Fin.ext
    show (t.val - 1) / 33 * 512 + r.val = t.val / 33 * 512 + r.val
    rw [hp]

/-- The output's blocks cover the array. -/
theorem covers3 : (cfg0.win 3).Covers := by
  refine Window.covers_of_index_surj (cfg0.win 3) rfl (by decide) fun β => ?_
  have h0 : (β 0).val < 32 := (β 0).isLt
  have h1 : (β 1).val < 33 := (β 1).isLt
  refine ⟨⟨(β 0).val * 33 + (β 1).val, ?_⟩, fun a => ?_⟩
  · show _ < grid0.N
    rw [N_0]; omega
  · have h := idx3 ⟨(β 0).val * 33 + (β 1).val, by rw [N_0]; omega⟩
    match a with
    | ⟨0, _⟩ =>
      show cc0_transform_3 (grid0.coords _) 0 = (β 0).val
      rw [h]
      show ((β 0).val * 33 + (β 1).val) / 33 = _
      omega
    | ⟨1, _⟩ =>
      show cc0_transform_3 (grid0.coords _) 1 = (β 1).val
      rw [h]
      show ((β 0).val * 33 + (β 1).val) % 33 = _
      omega

/-- The array after the write-backs. -/
theorem arr_out : (dats m 0 c).arrAt 3 cfg0.N = outArr m c := by
  refine Dat.arrAt_eq_of_covers (dats m 0 c) 3 _ covers3 fun t _ y => ?_
  obtain ⟨r, e, rfl⟩ : ∃ (r : Fin 512) (e : Fin 128), y = ix2 r e := ⟨_, _, eq_ix2 y⟩
  show (dats m 0 c).after 3 t (ix2 r e) = outArr m c (((cfg0.win 3).blk t).view.emb (ix2 r e))
  rw [after0_3]
  refine (out_at m c t r e).trans ?_
  have e0 : (((cfg0.win 3).blk t).view.emb (ix2 r e)) 0 = (⟨t.val / 33 * 512 + r.val, by have := lt_1056 t; omega⟩ : Fin 16384) := by
    refine Fin.ext (((cfg0.win 3).rect_emb_val t (ix2 r e) 0).trans ?_)
    show cc0_transform_3 (grid0.coords t) 0 * 512 + r.val = _
    rw [idx3 t]; rfl
  have e1 : (((cfg0.win 3).blk t).view.emb (ix2 r e)) 1 = (⟨t.val % 33 * 128 + e.val, by omega⟩ : Fin 4224) := by
    refine Fin.ext (((cfg0.win 3).rect_emb_val t (ix2 r e) 1).trans ?_)
    show cc0_transform_3 (grid0.coords t) 1 * 128 + e.val = _
    rw [idx3 t]; rfl
  unfold outArr
  rw [e0, e1]

/-- The run: the output array holds `outArr`, the arguments are unchanged, every counter is zero. -/
theorem run_all (ρ : Dev nD → PrngReg) : θ_run defs (onTc (τ := τ) (main (F := Ideal))) ⟨m, fun _ => 0, ρ⟩ (fun r => (∀ c : Dev nD,
      r.2.mem ((c.tc : Thread nD τ).loc main_v4) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => ⟨((hr.1 c).1 3).trans (arr_out m c),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c)⟩, hr.2⟩)
    (run_main_quiescent m ρ)

end Cert.ProjG

end
-- ==== Proof.ProjGRef.lean ====
module

public import proofs.«01_k».proof.Proof.Gen.Reference4Ideal.Read
public import proofs.«01_k».proof.Proof.FfnRef
public import Idealize.ShloMosaic.Lib.Pipeline.Value

@[expose] public section

set_option maxRecDepth 16384

/-!
What the reference of the gated delta layer's input projection of the prompt computes, over the extended reals, at each index.
-/

noncomputable section

namespace Cert.ProjG

open Cert.Reference4Ideal Cert.Reference4Ideal.Gen Cert.Reference4Ideal.Read
open Idealize.ShloMosaic

variable (x0 : S2x8192x1024.Idx → EReal) (x1 : S1024.Idx → EReal) (x2 : S1024x4112.Idx → EReal)

/-- The normalised rows. -/
theorem ref_norm (b : Fin 2) (s : Fin 8192) (k : Fin 1024) :
    val_main_v12 (F := Ideal) x0 x1 (ix3 b s k) = Ffn.rowNorm (fun l => x0 (ix3 b s l)) (fun l => x1 (ix1 l)) k := by
  rw [val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + ∑ l, x0 _ * x0 _) (Ideal.ofBits .f32 0x44800000#32)
    + Ideal.ofBits .f32 0x358637BD#32) * x1 _ = _
  rw [Ffn.zero_bits, zero_add]
  unfold Ffn.rowNorm
  congr 1
  · congr 3
    refine congrArg₂ Ideal.div (Finset.sum_congr rfl fun l _ => ?_) rfl
    have e : idx_main_v1 (idx_main_v2 (idx_main_v8 (ix3 b s k))) l = ix3 b s l := eq_ix3 _
    rw [e]
  · exact congrArg x1 (eq_ix1 _)

/-- The projection: row `p` of the flattened batch is row `p % 8192` of sequence `p / 8192`. -/
theorem ref_proj (p : Fin 16384) (j : Fin 4112) :
    val_main_v14 (F := Ideal) x0 x1 x2 (ix2 p j)
      = ∑ k, Ffn.rowNorm (fun l => x0 (ix3 ⟨p.val / 8192, by omega⟩ ⟨p.val % 8192, by omega⟩ l)) (fun l => x1 (ix1 l)) k * x2 (ix2 k j) := by
  have e : idx_main_v14 (ix2 p j) = ix3 ⟨p.val / 8192, by omega⟩ ⟨p.val % 8192, by omega⟩ j := by
    refine (eq_ix3 _).trans ?_
    congr 1 <;> apply Fin.ext
    · show (p.val * 4112 + j.val) / 33685504 = p.val / 8192
      omega
    · show (p.val * 4112 + j.val) / 4112 % 8192 = p.val % 8192
      omega
    · show (p.val * 4112 + j.val) % 4112 = j.val
      omega
  rw [val_main_v14_apply, e, val_main_v13_apply]
  refine Finset.sum_congr rfl fun k _ => ?_
  rw [show lidx_main_v13 (ix3 ⟨p.val / 8192, by omega⟩ ⟨p.val % 8192, by omega⟩ j) k = ix3 ⟨p.val / 8192, by omega⟩ ⟨p.val % 8192, by omega⟩ k from eq_ix3 _,
    ref_norm]
  exact congrArg _ (congrArg x2 (eq_ix2 _))

/-- The projection with its zero columns is the projection under weights with zero columns. -/
theorem ref_out (p : Fin 16384) (j : Fin 4224) :
    val_main_v16 (F := Ideal) x0 x1 x2 (ix2 p j)
      = ∑ k, Ffn.rowNorm (fun l => x0 (ix3 ⟨p.val / 8192, by omega⟩ ⟨p.val % 8192, by omega⟩ l)) (fun l => x1 (ix1 l)) k * (if h : j.val < 4112 then x2 (ix2 k ⟨j.val, h⟩) else 0) := by
  unfold val_main_v16
  by_cases hj : j.val < 4112
  · refine (concatenate_pair_apply_left (t := S16384x4224) (s₁ := S16384x4112) (s₂ := S16384x112) 1 _ _ _ _ rfl (ix2 p ⟨j.val, hj⟩) fun b => ?_).trans ?_
    · match b with
      | ⟨0, _⟩ => rfl
      | ⟨1, _⟩ => rfl
    rw [ref_proj]
    exact Finset.sum_congr rfl fun k _ => by rw [dif_pos hj]
  · have hlt := j.isLt
    refine (concatenate_pair_apply_right (t := S16384x4224) (s₁ := S16384x4112) (s₂ := S16384x112) 1 _ _ _ _ rfl rfl (ix2 p ⟨j.val - 4112, by omega⟩) (fun b hb => ?_) ?_).trans ?_
    · match b with
      | ⟨0, _⟩ => rfl
      | ⟨1, _⟩ => exact absurd rfl hb
    · show j.val - 4112 + 4112 = j.val
      omega
    rw [val_main_v15_apply, val_main_cst_2_apply]
    refine Ffn.zero_bits.trans (Eq.symm (Finset.sum_eq_zero fun k _ => ?_))
    rw [dif_neg hj, mul_zero]

end Cert.ProjG

end
-- ==== Proof.ProjGEq.lean ====
module

public import proofs.«01_k».proof.Proof.ProjGVal
public import proofs.«01_k».proof.Proof.ProjGRef

@[expose] public section

/-!
The two arrays of the gated delta layer's input projection of the prompt agree.
-/

noncomputable section

namespace Cert.ProjG

open Cert.Kernel4Ideal Cert.Kernel4Ideal.Gen
open Idealize.ShloMosaic Idealize.ShloMosaic.TcCoe

variable (m : (ℓ : Loc nD τ sig) → Buf (Elt Ideal) ℓ) (c : Dev nD)

/-- From the same arguments the reference's array is the kernel's. -/
theorem arrays_eq : Cert.Reference4Ideal.Read.val_main_v16 (F := Ideal) (m ((c.tc : Thread nD τ).loc main_arg0))
    (m ((c.tc : Thread nD τ).loc main_arg1)) (m ((c.tc : Thread nD τ).loc main_arg2)) = outArr m c := by
  funext y
  obtain ⟨p, j, rfl⟩ : ∃ (p : Fin 16384) (j : Fin 4224), y = ix2 p j := ⟨_, _, eq_ix2 y⟩
  exact ref_out _ _ _ p j

end Cert.ProjG

end
-- ==== Proof.ProjSStep.lean ====
module

public import proofs.«01_k».proof.Proof.Gen.Kernel5Ideal.Frame
public import proofs.«01_k».proof.Proof.Gen.Kernel5Ideal.Points
public import proofs.«01_k».proof.Proof.Gen.Kernel5Ideal.Skeleton
public import Idealize.ShloMosaic.Lib.Pipeline.Value

@[expose] public section

set_option maxRecDepth 16384

/-!
One run of the body of the attention layer's input projection of the sample: what it leaves in the scratch and in the output block, as the body's own expressions of its blocks.
-/

noncomputable section

namespace Cert.ProjS

open Cert.Kernel5Ideal Cert.Kernel5Ideal.Gen
open Idealize.ShloMosaic Idealize.ShloMosaic.TcCoe Idealize.ShloMosaic.Tactic
open Idealize.SL Idealize.SL.Sem

variable {F : FTy → Type} [FloatOps F]

theorem off_zero : (![0, 0] : Fin 2 → ℕ) = fun _ => 0 := funext fun a => by fin_cases a <;> rfl

variable (c : Dev nD) (i : grid0.Coords)
  (a2 : Memref sig .tc .vmem S32x1024 .f32) (h2 : a2.IsWhole) (a3 : Memref sig .tc .vmem S1x1024 .f32) (h3 : a3.IsWhole)
  (a4 : Memref sig .tc .vmem S1024x512 .f32) (h4 : a4.IsWhole) (a5 : Memref sig .tc .vmem S32x512 .f32) (h5 : a5.IsWhole)
  (a6 : Memref sig .tc .vmem S32x1024 .f32) (h6 : a6.IsWhole)
  (x : Vec F S32x1024 .f32) (g : Vec F S1x1024 .f32) (w : Vec F S1024x512 .f32) (s : Vec F S32x1024 .f32)

/-- The first column block of a row block leaves the normalised rows in the scratch. -/
theorem scratch_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero off_zero]
  simp only [View.readAt_eq_ld, h2.read_unread, h3.read_unread, View.ld_unit_zero (S := S32x1024) off_zero,
    View.ld_unit_zero (S := S1x1024) off_zero, shapeCast_self]

/-- The first column block's output is the product of the rows it has just normalised. -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off_zero, View.readCov_unit_zero (S := S32x1024) _ off_zero]
  simp only [View.readAt_eq_ld, h2.read_unread, h3.read_unread, h4.read_unread, View.ld_unit_zero (S := S32x1024) off_zero,
    View.ld_unit_zero (S := S1x1024) off_zero, View.ld_unit_zero (S := S1024x512) off_zero, shapeCast_self]

/-- A later column block's output is the product of the rows that the scratch holds. -/
theorem out_later (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_unit_zero off_zero]
  simp only [View.readAt_eq_ld, h4.read_unread, h6.read_unread, View.ld_unit_zero (S := S32x1024) off_zero,
    View.ld_unit_zero (S := S1024x512) off_zero, shapeCast_self]

end Cert.ProjS

end
-- ==== Proof.ProjSVal.lean ====
module

public import proofs.«01_k».proof.Proof.ProjSStep
public import proofs.«01_k».proof.Proof.FfnSpec
public import Idealize.ShloMosaic.Lib.Pointwise
public import Idealize.ShloMosaic.Lib.Pipeline.ValueKit.Basic
public import Idealize.ShloMosaic.Lib.Pipeline.Covers
public import Idealize.ShloMosaic.Lib.Claim

@[expose] public section

set_option maxRecDepth 16384

/-!
What the run of the attention layer's input projection of the sample leaves, over the extended reals: the scratch holds the normalised rows of the row block, every output
block is their product with a block of columns, and so the output array is the projection of every row.
-/

noncomputable section

namespace Cert.ProjS

open Cert.Kernel5Ideal Cert.Kernel5Ideal.Gen
open Idealize.ShloMosaic Idealize.ShloMosaic.TcCoe Idealize.ShloMosaic.Tactic
open Idealize.SL Idealize.SL.Sem
open Idealize.ShloMosaic.Pipeline (Dat Cfg Window)

/-! ## The body's expressions -/

theorem pay1_apply (x : Vec Ideal S32x1024 .f32) (g : Vec Ideal S1x1024 .f32) (r : Fin 32) (d : Fin 1024) :
    k0_pay1 (F := Ideal) x g (ix2 r d) = Ffn.rowNorm (fun k => x (ix2 r k)) (fun k => g (ix2 0 k)) d := by
  pointwise [k0_pay1]; rfl

theorem pay2_apply (n : Vec Ideal S32x1024 .f32) (w : Vec Ideal S1024x512 .f32) (r : Fin 32) (e : Fin 512) :
    k0_pay2 (F := Ideal) n w (ix2 r e) = ∑ k : Fin 1024, n (ix2 r k) * w (ix2 k e) := by
  pointwise [k0_pay2]

/-! ## The blocks -/

variable (m : (ℓ : Loc nD τ sig) → Buf (Elt Ideal) ℓ) (c : Dev nD)

/-- The arguments, as plain functions: row `p` of the flattened batch, the scale, the weights. -/
def xA (p : Fin 32) (k : Fin 1024) : EReal :=
  (m ((c : Thread nD τ).loc main_arg0) : S32x1x1024.Idx → EReal) (ix3 p 0 k)
def gA (k : Fin 1024) : EReal := (m ((c : Thread nD τ).loc main_arg1) : S1024.Idx → EReal) (ix1 k)
def wA (k : Fin 1024) (j : Fin 3072) : EReal := (m ((c : Thread nD τ).loc main_arg2) : S1024x3072.Idx → EReal) (ix2 k j)

theorem V_x (p : Fin 32) (k : Fin 1024) : (V m c main_v0 : S32x1024.Idx → EReal) (ix2 p k) = xA m c p k := by
  have h : V m c main_v0 = shapeCast S32x1024 (m ((c : Thread nD τ).loc main_arg0) : S32x1x1024.Idx → EReal) shapeCasts_S32x1x1024_S32x1024 := by
    unfold V; after_results; rfl
  rw [h]
  exact shapeCast_apply (s := S32x1x1024) _ _ _ _ (by
    show (S32x1x1024.rowMajor (ix3 p 0 k)).val = (S32x1024.rowMajor (ix2 p k)).val
    rw [Shape.rowMajor_val_three, Shape.rowMajor_val_two]
    show (p.val * 1 + 0) * 1024 + k.val = p.val * 1024 + k.val
    omega)
theorem V_w (k : Fin 1024) (j : Fin 3072) : (V m c main_arg2 : S1024x3072.Idx → EReal) (ix2 k j) = wA m c k j :=
  congrFun (V_main_arg2 m c) (ix2 k j)
theorem V_g (k : Fin 1024) : (V m c main_v1 : S1x1024.Idx → EReal) (ix2 0 k) = gA m c k := by
  have h : V m c main_v1 = shapeCast S1x1024 (m ((c : Thread nD τ).loc main_arg1) : S1024.Idx → EReal) shapeCasts_S1024_S1x1024 := by
    unfold V; after_results; rfl
  rw [h]
  pointwise []; rfl

/-- The blocks' places, by the point. -/
theorem idx0 : ∀ t : Fin grid0.N, cc0_transform_0 (grid0.coords t) = ![t.val / 6, 0] := by decide +kernel
theorem idx2 : ∀ t : Fin grid0.N, cc0_transform_2 (grid0.coords t) = ![0, t.val % 6] := by decide +kernel
theorem idx3 : ∀ t : Fin grid0.N, cc0_transform_3 (grid0.coords t) = ![t.val / 6, t.val % 6] := by decide +kernel

theorem lt_6 (t : Fin cfg0.N) : t.val < 6 := lt_of_lt_of_eq t.isLt N_0

/-- The rows' block. -/
theorem blk_x (t : Fin cfg0.N) (r : Fin 32) (d : Fin 1024) :
    iblk m c 0 t (ix2 r d) = xA m c ⟨t.val / 6 * 32 + r.val, by have := lt_6 t; omega⟩ d := by
  refine Eq.trans ?_ (V_x m c _ d)
  show (V m c main_v0 : S32x1024.Idx → EReal) _ = _
  refine congrArg (V m c main_v0 : S32x1024.Idx → EReal) (funext fun a => Fin.ext ?_)
  refine ((cfg0.win 0).rect_emb_val t (ix2 r d) a).trans ?_
  match a with
  | ⟨0, _⟩ =>
    show cc0_transform_0 (grid0.coords t) 0 * 32 + r.val = _
    rw [idx0 t]; rfl
  | ⟨1, _⟩ =>
    show cc0_transform_0 (grid0.coords t) 1 * 1024 + d.val = _
    rw [idx0 t]; show 0 * 1024 + d.val = d.val; omega

/-- The scale's block. -/
theorem blk_g (t : Fin cfg0.N) (d : Fin 1024) : iblk m c 1 t (ix2 0 d) = gA m c d := by
  refine Eq.trans ?_ (V_g m c d)
  show (V m c main_v1 : S1x1024.Idx → EReal) _ = _
  refine congrArg (V m c main_v1 : S1x1024.Idx → EReal) (funext fun a => Fin.ext ?_)
  refine ((cfg0.win 1).rect_emb_val t (ix2 0 d) a).trans ?_
  match a with
  | ⟨0, _⟩ => rfl
  | ⟨1, _⟩ => show 0 * 1024 + d.val = d.val; omega

/-- The weights' block. -/
theorem blk_w (t : Fin cfg0.N) (k : Fin 1024) (e : Fin 512) :
    iblk m c 2 t (ix2 k e) = wA m c k ⟨t.val % 6 * 512 + e.val, by omega⟩ := by
  refine Eq.trans ?_ (V_w m c k _)
  show (V m c main_arg2 : S1024x3072.Idx → EReal) _ = _
  refine congrArg (V m c main_arg2 : S1024x3072.Idx → EReal) (funext fun a => Fin.ext ?_)
  refine ((cfg0.win 2).rect_emb_val t (ix2 k e) a).trans ?_
  match a with
  | ⟨0, _⟩ =>
    show cc0_transform_2 (grid0.coords t) 0 * 1024 + k.val = _
    rw [idx2 t]; show 0 * 1024 + k.val = k.val; omega
  | ⟨1, _⟩ =>
    show cc0_transform_2 (grid0.coords t) 1 * 512 + e.val = _
    rw [idx2 t]; rfl

/-! ## The run -/

/-- Entry `k` of the normalised row `p`. -/
def normA (p : Fin 32) (k : Fin 1024) : EReal := Ffn.rowNorm (fun l => xA m c p l) (fun l => gA m c l) k

/-- The output array: every normalised row times the weights. -/
def outArr : S32x3072.Idx → EReal := fun i => ∑ k : Fin 1024, normA m c (i 0) k * wA m c k (i 1)

/-- The normalised rows of the block of point `t`. -/
theorem norm_blk (t : Fin cfg0.N) (r : Fin 32) (d : Fin 1024) :
    k0_pay1 (F := Ideal) (iblk m c 0 t) (iblk m c 1 t) (ix2 r d) = normA m c ⟨t.val / 6 * 32 + r.val, by have := lt_6 t; omega⟩ d := by
  rw [pay1_apply]
  simp only [blk_x, blk_g]
  rfl

/-- After every point the scratch holds the normalised rows of the point's row block. -/
theorem scratch_at : ∀ (n : ℕ) (hn : n < cfg0.N) (r : Fin 32) (d : Fin 1024),
    (outsAt0 m c n hn).2 (ix2 r d) = normA m c ⟨n / 6 * 32 + r.val, by have h : n < 6 := lt_6 ⟨n, hn⟩; omega⟩ d := by
  intro n
  induction n with
  | zero =>
    intro hn r d
    rw [outsAt0_A m c ⟨0, hn⟩ (Nat.zero_mod _)]
    dsimp only
    rw [scratch_first]
    exact norm_blk m c ⟨0, hn⟩ r d
  | succ n ih =>
    intro hn r d
    by_cases h0 : (n + 1) % 6 = 0
    · rw [outsAt0_A m c ⟨n + 1, hn⟩ h0]
      dsimp only
      rw [scratch_first]
      exact norm_blk m c ⟨n + 1, hn⟩ r d
    · rw [outsAt0_B m c ⟨n + 1, hn⟩ h0]
      show (outsAt0 m c n _).2 (ix2 r d) = _
      rw [ih]
      congr 1
      apply Fin.ext
      show n / 6 * 32 + r.val = (n + 1) / 6 * 32 + r.val
      omega

/-- After every point the output block holds the products. -/
theorem out_at (t : Fin cfg0.N) (r : Fin 32) (e : Fin 512) :
    (outsAt0 m c t.val t.isLt).1 (ix2 r e)
      = ∑ k : Fin 1024, normA m c ⟨t.val / 6 * 32 + r.val, by have := lt_6 t; omega⟩ k * wA m c k ⟨t.val % 6 * 512 + e.val, by omega⟩ := by
  by_cases h0 : t.val % 6 = 0
  · rw [outsAt0_A m c t h0]
    dsimp only
    rw [out_first, pay2_apply]
    exact Finset.sum_congr rfl fun k _ => congrArg₂ (· * ·) (norm_blk m c t r k) (blk_w m c t k e)
  · have hp : t.val / 6 = (t.val - 1) / 6 := by omega
    rw [outsAt0_B m c t h0]
    dsimp only
    rw [out_later, pay2_apply]
    refine Finset.sum_congr rfl fun k _ => congrArg₂ (· * ·) ?_ (blk_w m c t k e)
    rw [scratch_at]
    congr 1
    apply Fin.ext
    show (t.val - 1) / 6 * 32 + r.val = t.val / 6 * 32 + r.val
    rw [hp]

/-- The output's blocks cover the array. -/
theorem covers3 : (cfg0.win 3).Covers := by
  refine Window.covers_of_index_surj (cfg0.win 3) rfl (by decide) fun β => ?_
  have h0 : (β 0).val < 1 := (β 0).isLt
  have h1 : (β 1).val < 6 := (β 1).isLt
  refine ⟨⟨(β 0).val * 6 + (β 1).val, ?_⟩, fun a => ?_⟩
  · show _ < grid0.N
    rw [N_0]; omega
  · have h := idx3 ⟨(β 0).val * 6 + (β 1).val, by rw [N_0]; omega⟩
    match a with
    | ⟨0, _⟩ =>
      show cc0_transform_3 (grid0.coords _) 0 = (β 0).val
      rw [h]
      show ((β 0).val * 6 + (β 1).val) / 6 = _
      omega
    | ⟨1, _⟩ =>
      show cc0_transform_3 (grid0.coords _) 1 = (β 1).val
      rw [h]
      show ((β 0).val * 6 + (β 1).val) % 6 = _
      omega

/-- The array after the write-backs. -/
theorem arr_out : (dats m 0 c).arrAt 3 cfg0.N = outArr m c := by
  refine Dat.arrAt_eq_of_covers (dats m 0 c) 3 _ covers3 fun t _ y => ?_
  obtain ⟨r, e, rfl⟩ : ∃ (r : Fin 32) (e : Fin 512), y = ix2 r e := ⟨_, _, eq_ix2 y⟩
  show (dats m 0 c).after 3 t (ix2 r e) = outArr m c (((cfg0.win 3).blk t).view.emb (ix2 r e))
  rw [after0_3]
  refine (out_at m c t r e).trans ?_
  have e0 : (((cfg0.win 3).blk t).view.emb (ix2 r e)) 0 = (⟨t.val / 6 * 32 + r.val, by have := lt_6 t; omega⟩ : Fin 32) := by
    refine Fin.ext (((cfg0.win 3).rect_emb_val t (ix2 r e) 0).trans ?_)
    show cc0_transform_3 (grid0.coords t) 0 * 32 + r.val = _
    rw [idx3 t]; rfl
  have e1 : (((cfg0.win 3).blk t).view.emb (ix2 r e)) 1 = (⟨t.val % 6 * 512 + e.val, by omega⟩ : Fin 3072) := by
    refine Fin.ext (((cfg0.win 3).rect_emb_val t (ix2 r e) 1).trans ?_)
    show cc0_transform_3 (grid0.coords t) 1 * 512 + e.val = _
    rw [idx3 t]; rfl
  unfold outArr
  rw [e0, e1]

/-- The run: the output array holds `outArr`, the arguments are unchanged, every counter is zero. -/
theorem run_all (ρ : Dev nD → PrngReg) : θ_run defs (onTc (τ := τ) (main (F := Ideal))) ⟨m, fun _ => 0, ρ⟩ (fun r => (∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => ⟨((hr.1 c).1 3).trans (arr_out m c),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).1 2).trans (((dats m 0 c).arrAt_in 2 rfl _).trans ((A_eq m c 2).trans (V_main_arg2 m c)))⟩, hr.2⟩)
    (run_main_quiescent m ρ)

end Cert.ProjS

end
-- ==== Proof.ProjSRef.lean ====
module

public import proofs.«01_k».proof.Proof.Gen.Reference5Ideal.Read
public import proofs.«01_k».proof.Proof.FfnRef

@[expose] public section

set_option maxRecDepth 16384

/-!
What the reference of the attention layer's input projection of the sample computes, over the extended reals, at each index.
-/

noncomputable section

namespace Cert.ProjS

open Cert.Reference5Ideal Cert.Reference5Ideal.Gen Cert.Reference5Ideal.Read
open Idealize.ShloMosaic

variable (x0 : S32x1x1024.Idx → EReal) (x1 : S1024.Idx → EReal) (x2 : S1024x3072.Idx → EReal)

/-- The normalised rows. -/
theorem ref_norm (b : Fin 32) (k : Fin 1024) :
    val_main_v12 (F := Ideal) x0 x1 (ix3 b 0 k) = Ffn.rowNorm (fun l => x0 (ix3 b 0 l)) (fun l => x1 (ix1 l)) k := by
  rw [val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + ∑ l, x0 _ * x0 _) (Ideal.ofBits .f32 0x44800000#32)
    + Ideal.ofBits .f32 0x358637BD#32) * x1 _ = _
  rw [Ffn.zero_bits, zero_add]
  unfold Ffn.rowNorm
  congr 1
  · congr 3
    refine congrArg₂ Ideal.div (Finset.sum_congr rfl fun l _ => ?_) rfl
    have e : idx_main_v1 (idx_main_v2 (idx_main_v8 (ix3 b 0 k))) l = ix3 b 0 l := eq_ix3 _
    rw [e]
  · exact congrArg x1 (eq_ix1 _)

/-- The projection. -/
theorem ref_out (p : Fin 32) (j : Fin 3072) :
    val_main_v14 (F := Ideal) x0 x1 x2 (ix2 p j)
      = ∑ k, Ffn.rowNorm (fun l => x0 (ix3 p 0 l)) (fun l => x1 (ix1 l)) k * x2 (ix2 k j) := by
  have e : idx_main_v14 (ix2 p j) = ix3 p 0 j := by
    refine (eq_ix3 _).trans ?_
    congr 1 <;> apply Fin.ext
    · show (p.val * 3072 + j.val) / 3072 = p.val
      omega
    · show (p.val * 3072 + j.val) % 3072 = j.val
      omega
  rw [val_main_v14_apply, e, val_main_v13_apply]
  refine Finset.sum_congr rfl fun k _ => ?_
  rw [show lidx_main_v13 (ix3 p 0 j) k = ix3 p 0 k from eq_ix3 _,
    ref_norm]
  exact congrArg _ (congrArg x2 (eq_ix2 _))

end Cert.ProjS

end
-- ==== Proof.ProjSEq.lean ====
module

public import proofs.«01_k».proof.Proof.ProjSVal
public import proofs.«01_k».proof.Proof.ProjSRef

@[expose] public section

/-!
The two arrays of the attention layer's input projection of the sample agree.
-/

noncomputable section

namespace Cert.ProjS

open Cert.Kernel5Ideal Cert.Kernel5Ideal.Gen
open Idealize.ShloMosaic Idealize.ShloMosaic.TcCoe

variable (m : (ℓ : Loc nD τ sig) → Buf (Elt Ideal) ℓ) (c : Dev nD)

/-- From the same arguments the reference's array is the kernel's. -/
theorem arrays_eq : Cert.Reference5Ideal.Read.val_main_v14 (F := Ideal) (m ((c.tc : Thread nD τ).loc main_arg0))
    (m ((c.tc : Thread nD τ).loc main_arg1)) (m ((c.tc : Thread nD τ).loc main_arg2)) = outArr m c := by
  funext y
  obtain ⟨p, j, rfl⟩ : ∃ (p : Fin 32) (j : Fin 3072), y = ix2 p j := ⟨_, _, eq_ix2 y⟩
  exact ref_out _ _ _ p j

end Cert.ProjS

end
-- ==== Proof.ProjGSStep.lean ====
module

public import proofs.«01_k».proof.Proof.Gen.Kernel6Ideal.Frame
public import proofs.«01_k».proof.Proof.Gen.Kernel6Ideal.Points
public import proofs.«01_k».proof.Proof.Gen.Kernel6Ideal.Skeleton
public import Idealize.ShloMosaic.Lib.Pipeline.Value

@[expose] public section

set_option maxRecDepth 16384

/-!
One run of the body of the gated delta layer's input projection of the sample: what it leaves in the scratch and in the output block, as the body's own expressions of its blocks.
-/

noncomputable section

namespace Cert.ProjGS

open Cert.Kernel6Ideal Cert.Kernel6Ideal.Gen
open Idealize.ShloMosaic Idealize.ShloMosaic.TcCoe Idealize.ShloMosaic.Tactic
open Idealize.SL Idealize.SL.Sem

variable {F : FTy → Type} [FloatOps F]

theorem off_zero : (![0, 0] : Fin 2 → ℕ) = fun _ => 0 := funext fun a => by fin_cases a <;> rfl

variable (c : Dev nD) (i : grid0.Coords)
  (a2 : Memref sig .tc .vmem S32x1024 .f32) (h2 : a2.IsWhole) (a3 : Memref sig .tc .vmem S1x1024 .f32) (h3 : a3.IsWhole)
  (a4 : Memref sig .tc .vmem S1024x128 .f32) (h4 : a4.IsWhole) (a5 : Memref sig .tc .vmem S32x128 .f32) (h5 : a5.IsWhole)
  (a6 : Memref sig .tc .vmem S32x1024 .f32) (h6 : a6.IsWhole)
  (x : Vec F S32x1024 .f32) (g : Vec F S1x1024 .f32) (w : Vec F S1024x128 .f32) (s : Vec F S32x1024 .f32)

/-- The first column block of a row block leaves the normalised rows in the scratch. -/
theorem scratch_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero off_zero]
  simp only [View.readAt_eq_ld, h2.read_unread, h3.read_unread, View.ld_unit_zero (S := S32x1024) off_zero,
    View.ld_unit_zero (S := S1x1024) off_zero, shapeCast_self]

/-- The first column block's output is the product of the rows it has just normalised. -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off_zero, View.readCov_unit_zero (S := S32x1024) _ off_zero]
  simp only [View.readAt_eq_ld, h2.read_unread, h3.read_unread, h4.read_unread, View.ld_unit_zero (S := S32x1024) off_zero,
    View.ld_unit_zero (S := S1x1024) off_zero, View.ld_unit_zero (S := S1024x128) off_zero, shapeCast_self]

/-- A later column block's output is the product of the rows that the scratch holds. -/
theorem out_later (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_unit_zero off_zero]
  simp only [View.readAt_eq_ld, h4.read_unread, h6.read_unread, View.ld_unit_zero (S := S32x1024) off_zero,
    View.ld_unit_zero (S := S1024x128) off_zero, shapeCast_self]

end Cert.ProjGS

end
-- ==== Proof.ProjGSVal.lean ====
module

public import proofs.«01_k».proof.Proof.ProjGSStep
public import proofs.«01_k».proof.Proof.FfnSpec
public import Idealize.ShloMosaic.Lib.KernelVsHost
public import Idealize.ShloMosaic.Lib.Pointwise
public import Idealize.ShloMosaic.Lib.Pipeline.ValueKit.Basic
public import Idealize.ShloMosaic.Lib.Pipeline.Covers
public import Idealize.ShloMosaic.Lib.Claim

@[expose] public section

set_option maxRecDepth 16384

/-!
What the run of the gated delta layer's input projection of the sample leaves, over the extended reals: the scratch holds the normalised rows of the row block, every output
block is their product with a block of columns, and so the output array is the projection of every row.
-/

noncomputable section

namespace Cert.ProjGS

open Cert.Kernel6Ideal Cert.Kernel6Ideal.Gen
open Idealize.ShloMosaic Idealize.ShloMosaic.TcCoe Idealize.ShloMosaic.Tactic
open Idealize.SL Idealize.SL.Sem
open Idealize.ShloMosaic.Pipeline (Dat Cfg Window)

/-! ## The body's expressions -/

theorem pay1_apply (x : Vec Ideal S32x1024 .f32) (g : Vec Ideal S1x1024 .f32) (r : Fin 32) (d : Fin 1024) :
    k0_pay1 (F := Ideal) x g (ix2 r d) = Ffn.rowNorm (fun k => x (ix2 r k)) (fun k => g (ix2 0 k)) d := by
  pointwise [k0_pay1]; rfl

theorem pay2_apply (n : Vec Ideal S32x1024 .f32) (w : Vec Ideal S1024x128 .f32) (r : Fin 32) (e : Fin 128) :
    k0_pay2 (F := Ideal) n w (ix2 r e) = ∑ k : Fin 1024, n (ix2 r k) * w (ix2 k e) := by
  pointwise [k0_pay2]

/-! ## The blocks -/

variable (m : (ℓ : Loc nD τ sig) → Buf (Elt Ideal) ℓ) (c : Dev nD)

/-- The arguments, as plain functions: row `p` of the flattened batch, the scale, the weights. -/
def xA (p : Fin 32) (k : Fin 1024) : EReal :=
  (m ((c : Thread nD τ).loc main_arg0) : S32x1x1024.Idx → EReal) (ix3 p 0 k)
def gA (k : Fin 1024) : EReal := (m ((c : Thread nD τ).loc main_arg1) : S1024.Idx → EReal) (ix1 k)
/-- The weights, padded with zero columns. -/
def wA (k : Fin 1024) (j : Fin 4224) : EReal :=
  if h : j.val < 4112 then (m ((c : Thread nD τ).loc main_arg2) : S1024x4112.Idx → EReal) (ix2 k ⟨j.val, h⟩) else 0

theorem V_x (p : Fin 32) (k : Fin 1024) : (V m c main_v1 : S32x1024.Idx → EReal) (ix2 p k) = xA m c p k := by
  have h : V m c main_v1 = shapeCast S32x1024 (m ((c : Thread nD τ).loc main_arg0) : S32x1x1024.Idx → EReal) shapeCasts_S32x1x1024_S32x1024 := by
    show StableHlo.after (List.flatten [hostOps0, hostOps0_1, hostOps0_2]) _ (Proc.devRef .tc main_v1) = _
    simp only [List.flatten_cons, List.flatten_nil, List.append_nil, List.cons_append, List.nil_append]
    after_results; rfl
  rw [h]
  exact shapeCast_apply (s := S32x1x1024) _ _ _ _ (by
    show (S32x1x1024.rowMajor (ix3 p 0 k)).val = (S32x1024.rowMajor (ix2 p k)).val
    rw [Shape.rowMajor_val_three, Shape.rowMajor_val_two]
    show (p.val * 1 + 0) * 1024 + k.val = p.val * 1024 + k.val
    omega)
theorem V_w (k : Fin 1024) (j : Fin 4224) : (V m c main_v0 : S1024x4224.Idx → EReal) (ix2 k j) = wA m c k j := by
  have h : V m c main_v0 = pad S1024x4224 ![0, 0] ![0, 112] ![0, 0] (m ((c : Thread nD τ).loc main_arg2) : S1024x4112.Idx → EReal) (sitofp (F := Ideal) .f32 (constantI S_ 32 0#32)) pads_S1024x4112_S1024x4224_000_01120 h_S_ := by
    show StableHlo.after (List.flatten [hostOps0, hostOps0_1, hostOps0_2]) _ (Proc.devRef .tc main_v0) = _
    simp only [List.flatten_cons, List.flatten_nil, List.append_nil, List.cons_append, List.nil_append]
    after_results; rfl
  rw [h]
  unfold wA
  by_cases hj : j.val < 4112
  · rw [dif_pos hj]
    refine (pad_apply_of_inside (s := S1024x4112) ![0, 0] ![0, 112] ![0, 0] _ _ _ _ _ (ix2 k ⟨j.val, hj⟩) fun a => ?_)
    match a with
    | ⟨0, _⟩ => show k.val = 0 + k.val * (0 + 1); omega
    | ⟨1, _⟩ => show j.val = 0 + j.val * (0 + 1); omega
  · rw [dif_neg hj]
    refine (pad_apply_of_not_inside (s := S1024x4112) ![0, 0] ![0, 112] ![0, 0] _ _ _ _ _ 1 fun ha => hj ?_).trans ?_
    · have h2 : (j.val - 0) / (0 + 1) < 4112 := ha.2.2
      omega
    · show (((0#32 : BitVec 32).toInt : ℝ) : EReal) = 0
      simp
theorem V_g (k : Fin 1024) : (V m c main_v2 : S1x1024.Idx → EReal) (ix2 0 k) = gA m c k := by
  have h : V m c main_v2 = shapeCast S1x1024 (m ((c : Thread nD τ).loc main_arg1) : S1024.Idx → EReal) shapeCasts_S1024_S1x1024 := by
    show StableHlo.after (List.flatten [hostOps0, hostOps0_1, hostOps0_2]) _ (Proc.devRef .tc main_v2) = _
    simp only [List.flatten_cons, List.flatten_nil, List.append_nil, List.cons_append, List.nil_append]
    after_results; rfl
  rw [h]
  pointwise []; rfl

/-- The blocks' places, by the point. -/
theorem idx0 : ∀ t : Fin grid0.N, cc0_transform_0 (grid0.coords t) = ![t.val / 33, 0] := by decide +kernel
theorem idx2 : ∀ t : Fin grid0.N, cc0_transform_2 (grid0.coords t) = ![0, t.val % 33] := by decide +kernel
theorem idx3 : ∀ t : Fin grid0.N, cc0_transform_3 (grid0.coords t) = ![t.val / 33, t.val % 33] := by decide +kernel

theorem lt_33 (t : Fin cfg0.N) : t.val < 33 := lt_of_lt_of_eq t.isLt N_0

/-- The rows' block. -/
theorem blk_x (t : Fin cfg0.N) (r : Fin 32) (d : Fin 1024) :
    iblk m c 0 t (ix2 r d) = xA m c ⟨t.val / 33 * 32 + r.val, by have := lt_33 t; omega⟩ d := by
  refine Eq.trans ?_ (V_x m c _ d)
  show (V m c main_v1 : S32x1024.Idx → EReal) _ = _
  refine congrArg (V m c main_v1 : S32x1024.Idx → EReal) (funext fun a => Fin.ext ?_)
  refine ((cfg0.win 0).rect_emb_val t (ix2 r d) a).trans ?_
  match a with
  | ⟨0, _⟩ =>
    show cc0_transform_0 (grid0.coords t) 0 * 32 + r.val = _
    rw [idx0 t]; rfl
  | ⟨1, _⟩ =>
    show cc0_transform_0 (grid0.coords t) 1 * 1024 + d.val = _
    rw [idx0 t]; show 0 * 1024 + d.val = d.val; omega

/-- The scale's block. -/
theorem blk_g (t : Fin cfg0.N) (d : Fin 1024) : iblk m c 1 t (ix2 0 d) = gA m c d := by
  refine Eq.trans ?_ (V_g m c d)
  show (V m c main_v2 : S1x1024.Idx → EReal) _ = _
  refine congrArg (V m c main_v2 : S1x1024.Idx → EReal) (funext fun a => Fin.ext ?_)
  refine ((cfg0.win 1).rect_emb_val t (ix2 0 d) a).trans ?_
  match a with
  | ⟨0, _⟩ => rfl
  | ⟨1, _⟩ => show 0 * 1024 + d.val = d.val; omega

/-- The weights' block. -/
theorem blk_w (t : Fin cfg0.N) (k : Fin 1024) (e : Fin 128) :
    iblk m c 2 t (ix2 k e) = wA m c k ⟨t.val % 33 * 128 + e.val, by omega⟩ := by
  refine Eq.trans ?_ (V_w m c k _)
  show (V m c main_v0 : S1024x4224.Idx → EReal) _ = _
  refine congrArg (V m c main_v0 : S1024x4224.Idx → EReal) (funext fun a => Fin.ext ?_)
  refine ((cfg0.win 2).rect_emb_val t (ix2 k e) a).trans ?_
  match a with
  | ⟨0, _⟩ =>
    show cc0_transform_2 (grid0.coords t) 0 * 1024 + k.val = _
    rw [idx2 t]; show 0 * 1024 + k.val = k.val; omega
  | ⟨1, _⟩ =>
    show cc0_transform_2 (grid0.coords t) 1 * 128 + e.val = _
    rw [idx2 t]; rfl

/-! ## The run -/

/-- Entry `k` of the normalised row `p`. -/
def normA (p : Fin 32) (k : Fin 1024) : EReal := Ffn.rowNorm (fun l => xA m c p l) (fun l => gA m c l) k

/-- The output array: every normalised row times the weights. -/
def outArr : S32x4224.Idx → EReal := fun i => ∑ k : Fin 1024, normA m c (i 0) k * wA m c k (i 1)

/-- The normalised rows of the block of point `t`. -/
theorem norm_blk (t : Fin cfg0.N) (r : Fin 32) (d : Fin 1024) :
    k0_pay1 (F := Ideal) (iblk m c 0 t) (iblk m c 1 t) (ix2 r d) = normA m c ⟨t.val / 33 * 32 + r.val, by have := lt_33 t; omega⟩ d := by
  rw [pay1_apply]
  simp only [blk_x, blk_g]
  rfl

/-- After every point the scratch holds the normalised rows of the point's row block. -/
theorem scratch_at : ∀ (n : ℕ) (hn : n < cfg0.N) (r : Fin 32) (d : Fin 1024),
    (outsAt0 m c n hn).2 (ix2 r d) = normA m c ⟨n / 33 * 32 + r.val, by have h : n < 33 := lt_33 ⟨n, hn⟩; omega⟩ d := by
  intro n
  induction n with
  | zero =>
    intro hn r d
    rw [outsAt0_A m c ⟨0, hn⟩ (Nat.zero_mod _)]
    dsimp only
    rw [scratch_first]
    exact norm_blk m c ⟨0, hn⟩ r d
  | succ n ih =>
    intro hn r d
    by_cases h0 : (n + 1) % 33 = 0
    · rw [outsAt0_A m c ⟨n + 1, hn⟩ h0]
      dsimp only
      rw [scratch_first]
      exact norm_blk m c ⟨n + 1, hn⟩ r d
    · rw [outsAt0_B m c ⟨n + 1, hn⟩ h0]
      show (outsAt0 m c n _).2 (ix2 r d) = _
      rw [ih]
      congr 1
      apply Fin.ext
      show n / 33 * 32 + r.val = (n + 1) / 33 * 32 + r.val
      omega

/-- After every point the output block holds the products. -/
theorem out_at (t : Fin cfg0.N) (r : Fin 32) (e : Fin 128) :
    (outsAt0 m c t.val t.isLt).1 (ix2 r e)
      = ∑ k : Fin 1024, normA m c ⟨t.val / 33 * 32 + r.val, by have := lt_33 t; omega⟩ k * wA m c k ⟨t.val % 33 * 128 + e.val, by omega⟩ := by
  by_cases h0 : t.val % 33 = 0
  · rw [outsAt0_A m c t h0]
    dsimp only
    rw [out_first, pay2_apply]
    exact Finset.sum_congr rfl fun k _ => congrArg₂ (· * ·) (norm_blk m c t r k) (blk_w m c t k e)
  · have hp : t.val / 33 = (t.val - 1) / 33 := by omega
    rw [outsAt0_B m c t h0]
    dsimp only
    rw [out_later, pay2_apply]
    refine Finset.sum_congr rfl fun k _ => congrArg₂ (· * ·) ?_ (blk_w m c t k e)
    rw [scratch_at]
    congr 1
    apply Fin.ext
    show (t.val - 1) / 33 * 32 + r.val = t.val / 33 * 32 + r.val
    rw [hp]

/-- The output's blocks cover the array. -/
theorem covers3 : (cfg0.win 3).Covers := by
  refine Window.covers_of_index_surj (cfg0.win 3) rfl (by decide) fun β => ?_
  have h0 : (β 0).val < 1 := (β 0).isLt
  have h1 : (β 1).val < 33 := (β 1).isLt
  refine ⟨⟨(β 0).val * 33 + (β 1).val, ?_⟩, fun a => ?_⟩
  · show _ < grid0.N
    rw [N_0]; omega
  · have h := idx3 ⟨(β 0).val * 33 + (β 1).val, by rw [N_0]; omega⟩
    match a with
    | ⟨0, _⟩ =>
      show cc0_transform_3 (grid0.coords _) 0 = (β 0).val
      rw [h]
      show ((β 0).val * 33 + (β 1).val) / 33 = _
      omega
    | ⟨1, _⟩ =>
      show cc0_transform_3 (grid0.coords _) 1 = (β 1).val
      rw [h]
      show ((β 0).val * 33 + (β 1).val) % 33 = _
      omega

/-- The array after the write-backs. -/
theorem arr_out : (dats m 0 c).arrAt 3 cfg0.N = outArr m c := by
  refine Dat.arrAt_eq_of_covers (dats m 0 c) 3 _ covers3 fun t _ y => ?_
  obtain ⟨r, e, rfl⟩ : ∃ (r : Fin 32) (e : Fin 128), y = ix2 r e := ⟨_, _, eq_ix2 y⟩
  show (dats m 0 c).after 3 t (ix2 r e) = outArr m c (((cfg0.win 3).blk t).view.emb (ix2 r e))
  rw [after0_3]
  refine (out_at m c t r e).trans ?_
  have e0 : (((cfg0.win 3).blk t).view.emb (ix2 r e)) 0 = (⟨t.val / 33 * 32 + r.val, by have := lt_33 t; omega⟩ : Fin 32) := by
    refine Fin.ext (((cfg0.win 3).rect_emb_val t (ix2 r e) 0).trans ?_)
    show cc0_transform_3 (grid0.coords t) 0 * 32 + r.val = _
    rw [idx3 t]; rfl
  have e1 : (((cfg0.win 3).blk t).view.emb (ix2 r e)) 1 = (⟨t.val % 33 * 128 + e.val, by omega⟩ : Fin 4224) := by
    refine Fin.ext (((cfg0.win 3).rect_emb_val t (ix2 r e) 1).trans ?_)
    show cc0_transform_3 (grid0.coords t) 1 * 128 + e.val = _
    rw [idx3 t]; rfl
  unfold outArr
  rw [e0, e1]

/-- The run: the output array holds `outArr`, the arguments are unchanged, every counter is zero. -/
theorem run_all (ρ : Dev nD → PrngReg) : θ_run defs (onTc (τ := τ) (main (F := Ideal))) ⟨m, fun _ => 0, ρ⟩ (fun r => (∀ c : Dev nD,
      r.2.mem ((c.tc : Thread nD τ).loc main_v3) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => ⟨((hr.1 c).1 3).trans (arr_out m c),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c)⟩, hr.2⟩)
    (run_main_quiescent m ρ)

end Cert.ProjGS

end
-- ==== Proof.ProjGSRef.lean ====
module

public import proofs.«01_k».proof.Proof.Gen.Reference6Ideal.Read
public import proofs.«01_k».proof.Proof.FfnRef
public import Idealize.ShloMosaic.Lib.Pipeline.Value

@[expose] public section

set_option maxRecDepth 16384

/-!
What the reference of the gated delta layer's input projection of the sample computes, over the extended reals, at each index.
-/

noncomputable section

namespace Cert.ProjGS

open Cert.Reference6Ideal Cert.Reference6Ideal.Gen Cert.Reference6Ideal.Read
open Idealize.ShloMosaic

variable (x0 : S32x1x1024.Idx → EReal) (x1 : S1024.Idx → EReal) (x2 : S1024x4112.Idx → EReal)

/-- The normalised rows. -/
theorem ref_norm (b : Fin 32) (k : Fin 1024) :
    val_main_v12 (F := Ideal) x0 x1 (ix3 b 0 k) = Ffn.rowNorm (fun l => x0 (ix3 b 0 l)) (fun l => x1 (ix1 l)) k := by
  rw [val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + ∑ l, x0 _ * x0 _) (Ideal.ofBits .f32 0x44800000#32)
    + Ideal.ofBits .f32 0x358637BD#32) * x1 _ = _
  rw [Ffn.zero_bits, zero_add]
  unfold Ffn.rowNorm
  congr 1
  · congr 3
    refine congrArg₂ Ideal.div (Finset.sum_congr rfl fun l _ => ?_) rfl
    have e : idx_main_v1 (idx_main_v2 (idx_main_v8 (ix3 b 0 k))) l = ix3 b 0 l := eq_ix3 _
    rw [e]
  · exact congrArg x1 (eq_ix1 _)

/-- The projection. -/
theorem ref_proj (p : Fin 32) (j : Fin 4112) :
    val_main_v14 (F := Ideal) x0 x1 x2 (ix2 p j)
      = ∑ k, Ffn.rowNorm (fun l => x0 (ix3 p 0 l)) (fun l => x1 (ix1 l)) k * x2 (ix2 k j) := by
  have e : idx_main_v14 (ix2 p j) = ix3 p 0 j := by
    refine (eq_ix3 _).trans ?_
    congr 1 <;> apply Fin.ext
    · show (p.val * 4112 + j.val) / 4112 = p.val
      omega
    · show (p.val * 4112 + j.val) % 4112 = j.val
      omega
  rw [val_main_v14_apply, e, val_main_v13_apply]
  refine Finset.sum_congr rfl fun k _ => ?_
  rw [show lidx_main_v13 (ix3 p 0 j) k = ix3 p 0 k from eq_ix3 _,
    ref_norm]
  exact congrArg _ (congrArg x2 (eq_ix2 _))

/-- The projection with its zero columns is the projection under weights with zero columns. -/
theorem ref_out (p : Fin 32) (j : Fin 4224) :
    val_main_v16 (F := Ideal) x0 x1 x2 (ix2 p j)
      = ∑ k, Ffn.rowNorm (fun l => x0 (ix3 p 0 l)) (fun l => x1 (ix1 l)) k * (if h : j.val < 4112 then x2 (ix2 k ⟨j.val, h⟩) else 0) := by
  unfold val_main_v16
  by_cases hj : j.val < 4112
  · refine (concatenate_pair_apply_left (t := S32x4224) (s₁ := S32x4112) (s₂ := S32x112) 1 _ _ _ _ rfl (ix2 p ⟨j.val, hj⟩) fun b => ?_).trans ?_
    · match b with
      | ⟨0, _⟩ => rfl
      | ⟨1, _⟩ => rfl
    rw [ref_proj]
    exact Finset.sum_congr rfl fun k _ => by rw [dif_pos hj]
  · have hlt := j.isLt
    refine (concatenate_pair_apply_right (t := S32x4224) (s₁ := S32x4112) (s₂ := S32x112) 1 _ _ _ _ rfl rfl (ix2 p ⟨j.val - 4112, by omega⟩) (fun b hb => ?_) ?_).trans ?_
    · match b with
      | ⟨0, _⟩ => rfl
      | ⟨1, _⟩ => exact absurd rfl hb
    · show j.val - 4112 + 4112 = j.val
      omega
    rw [val_main_v15_apply, val_main_cst_2_apply]
    refine Ffn.zero_bits.trans (Eq.symm (Finset.sum_eq_zero fun k _ => ?_))
    rw [dif_neg hj, mul_zero]

end Cert.ProjGS

end
-- ==== Proof.ProjGSEq.lean ====
module

public import proofs.«01_k».proof.Proof.ProjGSVal
public import proofs.«01_k».proof.Proof.ProjGSRef

@[expose] public section

/-!
The two arrays of the gated delta layer's input projection of the sample agree.
-/

noncomputable section

namespace Cert.ProjGS

open Cert.Kernel6Ideal Cert.Kernel6Ideal.Gen
open Idealize.ShloMosaic Idealize.ShloMosaic.TcCoe

variable (m : (ℓ : Loc nD τ sig) → Buf (Elt Ideal) ℓ) (c : Dev nD)

/-- From the same arguments the reference's array is the kernel's. -/
theorem arrays_eq : Cert.Reference6Ideal.Read.val_main_v16 (F := Ideal) (m ((c.tc : Thread nD τ).loc main_arg0))
    (m ((c.tc : Thread nD τ).loc main_arg1)) (m ((c.tc : Thread nD τ).loc main_arg2)) = outArr m c := by
  funext y
  obtain ⟨p, j, rfl⟩ : ∃ (p : Fin 32) (j : Fin 4224), y = ix2 p j := ⟨_, _, eq_ix2 y⟩
  exact ref_out _ _ _ p j

end Cert.ProjGS

end
-- ==== Proof.ProjFrame.lean ====
module

public import proofs.«01_k».proof.Proof.Gen.Kernel3
public import proofs.«01_k».proof.Proof.Gen.Kernel3Ideal.Frame
public import proofs.«01_k».proof.Defs

@[expose] public section

set_option maxRecDepth 16384

/-!
The frame of the projection's kernel as printed: its idealization has the same text, so the run of the one is the run of the other.
-/

noncomputable section

namespace Cert.Proj

open Idealize.ShloMosaic Idealize.ShloMosaic.TcCoe Idealize.SL.Sem

attribute [local instance] Cert.Kernel3.Gen.facts Cert.Kernel3Ideal.Gen.facts

/-- The two programs call the same body with the same operands. -/
theorem defs₀_same : @Cert.Kernel3.defs₀ Bits _ _ = @Cert.Kernel3Ideal.defs₀ Bits _ _ :=
  congrArg Defs.onTc (funext fun l => funext fun a => match l, a with
    | 0, (_, _) => rfl)

/-- The two programs have the same table of bodies. -/
theorem defs_same : @Cert.Kernel3.defs Bits _ _ = @Cert.Kernel3Ideal.defs Bits _ _ :=
  congrArg (Pipeline.defs Cert.Kernel3Ideal.pcfgs) defs₀_same

/-- The two programs have the same entry. -/
theorem main_same : @Cert.Kernel3.main Bits _ _ = @Cert.Kernel3Ideal.main Bits _ _ := rfl

/-- The kernel as printed runs, leaves its arguments and ends with every counter at zero. -/
theorem frame_bits : Cert.quiescent_Kernel3 (hKernel3 := Cert.Kernel3.Gen.facts) := by
  intro m ρ _
  have hr := Cert.Kernel3Ideal.Gen.frame (F := Bits) m ρ
  rw [← defs_same, ← main_same] at hr
  exact hr

end Cert.Proj

end
-- ==== Proof.ProjGFrame.lean ====
module

public import proofs.«01_k».proof.Proof.Gen.Kernel4
public import proofs.«01_k».proof.Proof.Gen.Kernel4Ideal.Frame
public import proofs.«01_k».proof.Defs

@[expose] public section

set_option maxRecDepth 16384

/-!
The frame of the kernel of the gated delta layer's input projection of the prompt as printed: its idealization has the same text, so the run of the one is the run of the other.
-/

noncomputable section

namespace Cert.ProjG

open Idealize.ShloMosaic Idealize.ShloMosaic.TcCoe Idealize.SL.Sem

attribute [local instance] Cert.Kernel4.Gen.facts Cert.Kernel4Ideal.Gen.facts

/-- The two programs call the same body with the same operands. -/
theorem defs₀_same : @Cert.Kernel4.defs₀ Bits _ _ = @Cert.Kernel4Ideal.defs₀ Bits _ _ :=
  congrArg Defs.onTc (funext fun l => funext fun a => match l, a with
    | 0, (_, _) => rfl)

/-- The two programs have the same table of bodies. -/
theorem defs_same : @Cert.Kernel4.defs Bits _ _ = @Cert.Kernel4Ideal.defs Bits _ _ :=
  congrArg (Pipeline.defs Cert.Kernel4Ideal.pcfgs) defs₀_same

/-- The two programs have the same entry. -/
theorem main_same : @Cert.Kernel4.main Bits _ _ = @Cert.Kernel4Ideal.main Bits _ _ := rfl

/-- The kernel as printed runs, leaves its arguments and ends with every counter at zero. -/
theorem frame_bits : Cert.quiescent_Kernel4 (hKernel4 := Cert.Kernel4.Gen.facts) := by
  intro m ρ _
  have hr := Cert.Kernel4Ideal.Gen.frame (F := Bits) m ρ
  rw [← defs_same, ← main_same] at hr
  exact hr

end Cert.ProjG

end
-- ==== Proof.ProjSFrame.lean ====
module

public import proofs.«01_k».proof.Proof.Gen.Kernel5
public import proofs.«01_k».proof.Proof.Gen.Kernel5Ideal.Frame
public import proofs.«01_k».proof.Defs

@[expose] public section

set_option maxRecDepth 16384

/-!
The frame of the kernel of the attention layer's input projection of the sample as printed: its idealization has the same text, so the run of the one is the run of the other.
-/

noncomputable section

namespace Cert.ProjS

open Idealize.ShloMosaic Idealize.ShloMosaic.TcCoe Idealize.SL.Sem

attribute [local instance] Cert.Kernel5.Gen.facts Cert.Kernel5Ideal.Gen.facts

/-- The two programs call the same body with the same operands. -/
theorem defs₀_same : @Cert.Kernel5.defs₀ Bits _ _ = @Cert.Kernel5Ideal.defs₀ Bits _ _ :=
  congrArg Defs.onTc (funext fun l => funext fun a => match l, a with
    | 0, (_, _) => rfl)

/-- The two programs have the same table of bodies. -/
theorem defs_same : @Cert.Kernel5.defs Bits _ _ = @Cert.Kernel5Ideal.defs Bits _ _ :=
  congrArg (Pipeline.defs Cert.Kernel5Ideal.pcfgs) defs₀_same

/-- The two programs have the same entry. -/
theorem main_same : @Cert.Kernel5.main Bits _ = @Cert.Kernel5Ideal.main Bits _ := rfl

/-- The kernel as printed runs, leaves its arguments and ends with every counter at zero. -/
theorem frame_bits : Cert.quiescent_Kernel5 (hKernel5 := Cert.Kernel5.Gen.facts) := by
  intro m ρ _
  have hr := Cert.Kernel5Ideal.Gen.frame (F := Bits) m ρ
  rw [← defs_same, ← main_same] at hr
  exact hr

end Cert.ProjS

end
-- ==== Proof.ProjGSFrame.lean ====
module

public import proofs.«01_k».proof.Proof.Gen.Kernel6
public import proofs.«01_k».proof.Proof.Gen.Kernel6Ideal.Frame
public import proofs.«01_k».proof.Defs

@[expose] public section

set_option maxRecDepth 16384

/-!
The frame of the kernel of the gated delta layer's input projection of the sample as printed: its idealization has the same text, so the run of the one is the run of the other.
-/

noncomputable section

namespace Cert.ProjGS

open Idealize.ShloMosaic Idealize.ShloMosaic.TcCoe Idealize.SL.Sem

attribute [local instance] Cert.Kernel6.Gen.facts Cert.Kernel6Ideal.Gen.facts

/-- The two programs call the same body with the same operands. -/
theorem defs₀_same : @Cert.Kernel6.defs₀ Bits _ _ = @Cert.Kernel6Ideal.defs₀ Bits _ _ :=
  congrArg Defs.onTc (funext fun l => funext fun a => match l, a with
    | 0, (_, _) => rfl)

/-- The two programs have the same table of bodies. -/
theorem defs_same : @Cert.Kernel6.defs Bits _ _ = @Cert.Kernel6Ideal.defs Bits _ _ :=
  congrArg (Pipeline.defs Cert.Kernel6Ideal.pcfgs) defs₀_same

/-- The two programs have the same entry. -/
theorem main_same : @Cert.Kernel6.main Bits _ _ = @Cert.Kernel6Ideal.main Bits _ _ := rfl

/-- The kernel as printed runs, leaves its arguments and ends with every counter at zero. -/
theorem frame_bits : Cert.quiescent_Kernel6 (hKernel6 := Cert.Kernel6.Gen.facts) := by
  intro m ρ _
  have hr := Cert.Kernel6Ideal.Gen.frame (F := Bits) m ρ
  rw [← defs_same, ← main_same] at hr
  exact hr

end Cert.ProjGS

end
-- ==== Proof.FlashSpec.lean ====
module

public import Idealize.ShloMosaic.PureOps.Ideal

@[expose] public section

/-!
The mathematics of one query block of the attention, row by row and lane by lane over the extended reals: the two
softmax components keep a running maximum `m`, a running denominator `l` and a running weighted sum of values `a`; one
block of keys updates the three.
-/

noncomputable section

namespace Cert.Flash

open Idealize.ShloMosaic

/-- A block of 512 rows of 128 lanes. -/
abbrev Blk := Fin 512 → Fin 128 → EReal

/-- The running values of a query block: for each of the two softmax components and each query row the maximum `m` of
    the scores met so far, the sum `l` of their exponentials, and the sum `a` of the values weighted by them. -/
structure St where
  /-- the running maximum -/
  m : Fin 2 → Fin 512 → EReal
  /-- the running denominator -/
  l : Fin 2 → Fin 512 → EReal
  /-- the running weighted sum of values -/
  a : Fin 2 → Fin 512 → Fin 128 → EReal

/-- The running values before any key block. -/
def St.init : St := ⟨fun _ _ => ⊥, fun _ _ => 0, fun _ _ _ => 0⟩

/-- The maximum of a row of 512 scores. -/
def rowMax (s : Fin 512 → EReal) : EReal := Finset.univ.fold max ⊥ s

/-- The maximum after a block with scores `s`. -/
def St.newM (s : Fin 2 → Fin 512 → Fin 512 → EReal) (S : St) (c : Fin 2) (r : Fin 512) : EReal :=
  max (S.m c r) (rowMax (s c r))

/-- One key block: with the block's scores `s` and its values `v`, the old sums are rescaled to the new maximum and the
    block's own terms are added. -/
def St.step (s : Fin 2 → Fin 512 → Fin 512 → EReal) (v : Blk) (S : St) : St where
  m := S.newM s
  l c r := Ideal.exp (S.m c r - S.newM s c r) * S.l c r + ∑ j, Ideal.exp (s c r j - S.newM s c r)
  a c r e := Ideal.exp (S.m c r - S.newM s c r) * S.a c r e + ∑ j, Ideal.exp (s c r j - S.newM s c r) * v j e

/-- Component `c`'s part of a query row: its own 64 lanes, zero elsewhere. -/
def qhalf (q : Blk) (c : Fin 2) : Blk := fun r d => if d.val / 64 = c.val then q r d else 0

/-- The scores of query block `qi` against key block `ki`: keys after the query score `⊥`. -/
def sc (qi ki : ℕ) (q k : Blk) (c : Fin 2) (r j : Fin 512) : EReal :=
  if ki * 512 + j.val ≤ qi * 512 + r.val then ∑ d, qhalf q c r d * k j d else ⊥

/-- The running values of query block `qi` after the first `n` key blocks. -/
def stAt (qi : ℕ) (q : Blk) (k v : ℕ → Blk) : ℕ → St
  | 0 => St.init
  | n + 1 => (stAt qi q k v n).step (sc qi n q (k n)) (v n)

/-- The number that the second component is multiplied by, from the four lambda vectors. -/
def lamOf (x : Fin 4 → Fin 64 → EReal) : EReal :=
  Ideal.exp (∑ d, x 0 d * x 1 d) - Ideal.exp (∑ d, x 2 d * x 3 d) + Ideal.ofBits .f32 0x3E4CCCCD#32

/-- The normalisation of a row over its 128 lanes, with its gain and the constant factor. -/
def rnorm (x g : Fin 128 → EReal) (e : Fin 128) : EReal :=
  x e * Ideal.rsqrt (Ideal.div (∑ d, x d * x d) (Ideal.ofBits .f32 0x43000000#32) + Ideal.ofBits .f32 0x358637BD#32)
    * g e * Ideal.ofBits .f32 0x3F4CCCCD#32

/-- The difference of the two components' weighted means. -/
def St.diff (S : St) (lam : EReal) (r : Fin 512) (e : Fin 128) : EReal :=
  Ideal.div (S.a 0 r e) (S.l 0 r) - lam * Ideal.div (S.a 1 r e) (S.l 1 r)

/-- The output of a query block whose running values are `S`. -/
def outAt (lam : Fin 4 → Fin 64 → EReal) (g : Fin 128 → EReal) (S : St) : Blk :=
  fun r e => rnorm (S.diff (lamOf lam) r) g e

end Cert.Flash

end
-- ==== Proof.FlashMath.lean ====
module

public import proofs.«01_k».proof.Proof.FlashSpec

@[expose] public section

/-!
The running values in closed form: after `n` key blocks the maximum is the maximum over the first `512 n` keys, and the
two sums are the sums over those keys at that maximum. Nothing is asked of the scores: they may be infinite.
-/

noncomputable section

namespace Cert.Flash

open Idealize.ShloMosaic

/-- Rescaling an exponential from one maximum to a larger one. -/
theorem exp_rescale {s m m' : EReal} (h : s ≤ m) (h' : m ≤ m') :
    Ideal.exp (m - m') * Ideal.exp (s - m) = Ideal.exp (s - m') := by
  induction m' using EReal.rec with
  | bot =>
    obtain rfl := le_bot_iff.mp h'
    obtain rfl := le_bot_iff.mp h
    simp
  | top => simp [EReal.sub_top]
  | coe m' =>
    induction m using EReal.rec with
    | bot => obtain rfl := le_bot_iff.mp h; simp [EReal.bot_sub]
    | top => exact absurd h' (by simp)
    | coe m =>
      induction s using EReal.rec with
      | bot => simp [EReal.bot_sub]
      | top => exact absurd h (by simp)
      | coe s =>
        rw [← EReal.coe_sub, ← EReal.coe_sub, ← EReal.coe_sub, Ideal.exp_coe, Ideal.exp_coe, Ideal.exp_coe,
          ← EReal.coe_mul, ← Real.exp_add]
        congr 2; ring

/-- An exponential at a number below the maximum is a real number between 0 and 1. -/
theorem exp_sub_real {s m : EReal} (h : s ≤ m) : ∃ p : ℝ, 0 ≤ p ∧ p ≤ 1 ∧ Ideal.exp (s - m) = (p : EReal) := by
  induction m using EReal.rec with
  | bot => obtain rfl := le_bot_iff.mp h; exact ⟨0, le_rfl, zero_le_one, by simp⟩
  | top => exact ⟨0, le_rfl, zero_le_one, by simp [EReal.sub_top]⟩
  | coe m =>
    induction s using EReal.rec with
    | bot => exact ⟨0, le_rfl, zero_le_one, by simp [EReal.bot_sub]⟩
    | top => exact absurd h (by simp)
    | coe s =>
      refine ⟨Real.exp (s - m), (Real.exp_pos _).le, ?_, by rw [← EReal.coe_sub, Ideal.exp_coe]⟩
      rw [Real.exp_le_one_iff]; have := EReal.coe_le_coe_iff.mp h; linarith

/-- A real factor that is not negative goes into a finite sum of extended reals. -/
theorem mul_sum_nonneg {ι : Type*} (x : EReal) (h0 : 0 ≤ x) (ht : x ≠ ⊤) (t : Finset ι) (f : ι → EReal) :
    x * ∑ i ∈ t, f i = ∑ i ∈ t, x * f i := by
  classical
  induction t using Finset.induction_on with
  | empty => simp
  | insert a t ha ih => rw [Finset.sum_insert ha, Finset.sum_insert ha, EReal.left_distrib_of_nonneg_of_ne_top h0 ht, ih]

/-- The maximum over the first `n` blocks of 512 keys. -/
def topOf (S : ℕ → EReal) (n : ℕ) : EReal := (Finset.range (512 * n)).sup S

theorem le_topOf (S : ℕ → EReal) {n J : ℕ} (h : J < 512 * n) : S J ≤ topOf S n :=
  Finset.le_sup (f := S) (Finset.mem_range.mpr h)

theorem topOf_mono (S : ℕ → EReal) {n n' : ℕ} (h : n ≤ n') : topOf S n ≤ topOf S n' :=
  Finset.sup_mono (Finset.range_mono (by omega))

theorem rowMax_eq (s : Fin 512 → EReal) : rowMax s = Finset.univ.sup s := rfl

theorem topOf_succ (S : ℕ → EReal) (n : ℕ) :
    topOf S (n + 1) = max (topOf S n) (rowMax fun j => S (n * 512 + j.val)) := by
  rw [rowMax_eq]
  apply le_antisymm
  · refine Finset.sup_le fun J hJ => ?_
    have hJ' := Finset.mem_range.mp hJ
    by_cases h : J < 512 * n
    · exact le_max_of_le_left (le_topOf S h)
    · refine le_max_of_le_right ?_
      have e : J = n * 512 + (⟨J - n * 512, by omega⟩ : Fin 512).val := by simp only []; omega
      calc S J = S (n * 512 + (⟨J - n * 512, by omega⟩ : Fin 512).val) := by rw [← e]
        _ ≤ _ := Finset.le_sup (f := fun j : Fin 512 => S (n * 512 + j.val)) (Finset.mem_univ _)
  · refine max_le (topOf_mono S (by omega)) (Finset.sup_le fun j _ => le_topOf S ?_)
    have := j.isLt; omega

/-- A sum over the first `n + 1` blocks is the sum over the first `n` and that over the last. -/
theorem sum_range_block (f : ℕ → EReal) (n : ℕ) :
    ∑ J ∈ Finset.range (512 * (n + 1)), f J
      = ∑ J ∈ Finset.range (512 * n), f J + ∑ j : Fin 512, f (n * 512 + j.val) := by
  rw [Nat.mul_add, Nat.mul_one, Finset.sum_range_add, Finset.sum_range (fun x => f (512 * n + x)), Nat.mul_comm 512 n]

/-- The score of component `c`, query row `r` of block `qi`, against key number `J`. -/
def scAt (qi : ℕ) (q : Blk) (k : ℕ → Blk) (c : Fin 2) (r : Fin 512) (J : ℕ) : EReal :=
  sc qi (J / 512) q (k (J / 512)) c r ⟨J % 512, Nat.mod_lt _ (by norm_num)⟩

theorem scAt_block (qi : ℕ) (q : Blk) (k : ℕ → Blk) (c : Fin 2) (r : Fin 512) (n : ℕ) (j : Fin 512) :
    scAt qi q k c r (n * 512 + j.val) = sc qi n q (k n) c r j := by
  have hj := j.isLt
  have h1 : (n * 512 + j.val) / 512 = n := by omega
  have h2 : (⟨(n * 512 + j.val) % 512, Nat.mod_lt _ (by norm_num)⟩ : Fin 512) = j := Fin.ext (by simp only []; omega)
  unfold scAt; rw [h2, h1]

/-- The value in lane `e` at key number `J`. -/
def valAt (v : ℕ → Blk) (e : Fin 128) (J : ℕ) : EReal := v (J / 512) ⟨J % 512, Nat.mod_lt _ (by norm_num)⟩ e

theorem valAt_block (v : ℕ → Blk) (e : Fin 128) (n : ℕ) (j : Fin 512) : valAt v e (n * 512 + j.val) = v n j e := by
  have hj := j.isLt
  have h1 : (n * 512 + j.val) / 512 = n := by omega
  have h2 : (⟨(n * 512 + j.val) % 512, Nat.mod_lt _ (by norm_num)⟩ : Fin 512) = j := Fin.ext (by simp only []; omega)
  unfold valAt; rw [h2, h1]

variable (qi : ℕ) (q : Blk) (k v : ℕ → Blk)

/-- The running maximum. -/
theorem stAt_m (n : ℕ) (c : Fin 2) (r : Fin 512) : (stAt qi q k v n).m c r = topOf (scAt qi q k c r) n := by
  induction n with
  | zero => simp [stAt, St.init, topOf]
  | succ n ih =>
    rw [topOf_succ]
    simp only [scAt_block]
    show max ((stAt qi q k v n).m c r) _ = _
    rw [ih]

theorem exp_nonneg_real {s m : EReal} (h : s ≤ m) : 0 ≤ Ideal.exp (s - m) ∧ Ideal.exp (s - m) ≠ ⊤ := by
  obtain ⟨p, h0, -, e⟩ := exp_sub_real h
  rw [e]; exact ⟨EReal.coe_nonneg.mpr h0, EReal.coe_ne_top _⟩

theorem newM_stAt (n : ℕ) (c : Fin 2) (r : Fin 512) :
    (stAt qi q k v n).newM (sc qi n q (k n)) c r = topOf (scAt qi q k c r) (n + 1) :=
  stAt_m qi q k v (n + 1) c r

/-- The running denominator. -/
theorem stAt_l (n : ℕ) (c : Fin 2) (r : Fin 512) :
    (stAt qi q k v n).l c r
      = ∑ J ∈ Finset.range (512 * n), Ideal.exp (scAt qi q k c r J - topOf (scAt qi q k c r) n) := by
  induction n with
  | zero => simp [stAt, St.init]
  | succ n ih =>
    rw [sum_range_block]
    simp only [scAt_block]
    show Ideal.exp ((stAt qi q k v n).m c r - (stAt qi q k v n).newM _ c r) * (stAt qi q k v n).l c r + _ = _
    rw [newM_stAt, stAt_m, ih]
    have hm := topOf_mono (scAt qi q k c r) (Nat.le_succ n)
    rw [mul_sum_nonneg _ (exp_nonneg_real hm).1 (exp_nonneg_real hm).2]
    congr 1
    exact Finset.sum_congr rfl fun J hJ => exp_rescale (le_topOf _ (Finset.mem_range.mp hJ)) hm

/-- The running weighted sum of values. -/
theorem stAt_a (n : ℕ) (c : Fin 2) (r : Fin 512) (e : Fin 128) :
    (stAt qi q k v n).a c r e
      = ∑ J ∈ Finset.range (512 * n),
          Ideal.exp (scAt qi q k c r J - topOf (scAt qi q k c r) n) * valAt v e J := by
  induction n with
  | zero => simp [stAt, St.init]
  | succ n ih =>
    rw [sum_range_block]
    simp only [scAt_block, valAt_block]
    show Ideal.exp ((stAt qi q k v n).m c r - (stAt qi q k v n).newM _ c r) * (stAt qi q k v n).a c r e + _ = _
    rw [newM_stAt, stAt_m, ih]
    have hm := topOf_mono (scAt qi q k c r) (Nat.le_succ n)
    rw [mul_sum_nonneg _ (exp_nonneg_real hm).1 (exp_nonneg_real hm).2]
    congr 1
    refine Finset.sum_congr rfl fun J hJ => ?_
    rw [← mul_assoc, exp_rescale (le_topOf _ (Finset.mem_range.mp hJ)) hm]

end Cert.Flash

end
-- ==== Proof.FlashCore.lean ====
module

public import proofs.«01_k».proof.Proof.FlashMath

@[expose] public section

/-!
The two orders of taking a row of the attention. The kernel divides each component's weighted sum of values by its
denominator and subtracts; the reference divides every weight first, subtracts the weights, and sums. With real values and
a real lambda the normalised rows agree, also where a denominator is zero: then both rows hold only infinities and zeros,
and such a row is normalised to zero.
-/

noncomputable section

namespace Cert.Flash

open Idealize.ShloMosaic

/-- The maximum over the first `n` keys. -/
def top (S : ℕ → EReal) (n : ℕ) : EReal := (Finset.range n).sup S

/-- The weight of key `J` before division. -/
def wt (S : ℕ → EReal) (n J : ℕ) : EReal := Ideal.exp (S J - top S n)

/-- A component's weights divided by their sum. -/
def prob (S : ℕ → EReal) (n J : ℕ) : EReal := Ideal.div (wt S n J) (∑ I ∈ Finset.range n, wt S n I)

/-- A row of the reference: the values weighted by the difference of the two components' probabilities. -/
def refDiff (S : Fin 2 → ℕ → EReal) (lam : EReal) (v : Fin 128 → ℕ → EReal) (n : ℕ) (e : Fin 128) : EReal :=
  ∑ J ∈ Finset.range n, v e J * (prob (S 0) n J - lam * prob (S 1) n J)

/-- A row of the kernel: the difference of the two components' weighted means. -/
def kerDiff (S : Fin 2 → ℕ → EReal) (lam : EReal) (v : Fin 128 → ℕ → EReal) (n : ℕ) (e : Fin 128) : EReal :=
  Ideal.div (∑ J ∈ Finset.range n, wt (S 0) n J * v e J) (∑ J ∈ Finset.range n, wt (S 0) n J)
    - lam * Ideal.div (∑ J ∈ Finset.range n, wt (S 1) n J * v e J) (∑ J ∈ Finset.range n, wt (S 1) n J)

/-- An infinity or zero. -/
def Deg (x : EReal) : Prop := x = ⊥ ∨ x = ⊤ ∨ x = 0

theorem Deg.add {x y : EReal} (hx : Deg x) (hy : Deg y) : Deg (x + y) := by
  rcases hx with rfl | rfl | rfl <;> rcases hy with rfl | rfl | rfl <;> simp [Deg]

theorem Deg.sum {ι : Type*} (t : Finset ι) (f : ι → EReal) (h : ∀ i, Deg (f i)) : Deg (∑ i ∈ t, f i) := by
  classical
  induction t using Finset.induction_on with
  | empty => exact Or.inr (Or.inr rfl)
  | insert a t ha ih => rw [Finset.sum_insert ha]; exact (h a).add ih

theorem Deg.coe_mul (r : ℝ) {x : EReal} (hx : Deg x) : Deg ((r : EReal) * x) := by
  rcases hx with rfl | rfl | rfl
  · rcases lt_trichotomy r 0 with h | rfl | h
    · exact Or.inr (Or.inl (EReal.coe_mul_bot_of_neg h))
    · exact Or.inr (Or.inr (by simp))
    · exact Or.inl (EReal.coe_mul_bot_of_pos h)
  · rcases lt_trichotomy r 0 with h | rfl | h
    · exact Or.inl (EReal.coe_mul_top_of_neg h)
    · exact Or.inr (Or.inr (by simp))
    · exact Or.inr (Or.inl (EReal.coe_mul_top_of_pos h))
  · exact Or.inr (Or.inr (by simp))

theorem c128 : Ideal.ofBits .f32 0x43000000#32 = ((128 : ℝ) : EReal) := by
  simp [Ideal.ofBits, Ideal.ieee]; rw [← EReal.coe_mul]; norm_num
theorem ceps : ∃ r : ℝ, Ideal.ofBits .f32 0x358637BD#32 = (r : EReal) := by
  simp only [Ideal.ofBits, Ideal.ieee]; exact ⟨_, rfl⟩

/-- A row of infinities and zeros is normalised to zero. -/
theorem rnorm_deg (x g : Fin 128 → EReal) (e : Fin 128) (h : ∀ d, Deg (x d)) : rnorm x g e = 0 := by
  have sq : ∀ d, 0 ≤ x d * x d := fun d => by rcases h d with h | h | h <;> simp [h]
  by_cases h0 : ∀ d, x d = 0
  · simp [rnorm, h0]
  · obtain ⟨d, hd⟩ := not_forall.mp h0
    have hT : x d * x d = ⊤ := by rcases h d with h | h | h <;> simp_all
    have hs : ∑ d, x d * x d = ⊤ := by
      refine top_le_iff.mp ?_
      rw [← hT]
      exact Finset.single_le_sum (f := fun d => x d * x d) (fun i _ => sq i) (Finset.mem_univ d)
    obtain ⟨r, hr⟩ := ceps
    have hd' : Ideal.div ⊤ ((128 : ℝ) : EReal) = ⊤ := by
      rw [Ideal.div_coe (by norm_num)]; exact EReal.top_mul_coe_of_pos (by norm_num)
    simp [rnorm, hs, c128, hr, hd']

/-- The real case's algebra, and the degenerate cases, for weights that are real and not negative. -/
theorem rnorm_weights (T : Finset ℕ) (p : Fin 2 → ℕ → ℝ) (hp : ∀ c J, 0 ≤ p c J) (v : Fin 128 → ℕ → ℝ) (lam : ℝ)
    (g : Fin 128 → EReal) (e : Fin 128) :
    rnorm (fun e => Ideal.div (∑ J ∈ T, (p 0 J : EReal) * (v e J : EReal)) (∑ J ∈ T, (p 0 J : EReal))
        - (lam : EReal) * Ideal.div (∑ J ∈ T, (p 1 J : EReal) * (v e J : EReal)) (∑ J ∈ T, (p 1 J : EReal))) g e
      = rnorm (fun e => ∑ J ∈ T, (v e J : EReal) * (Ideal.div (p 0 J : EReal) (∑ J ∈ T, (p 0 J : EReal))
        - (lam : EReal) * Ideal.div (p 1 J : EReal) (∑ J ∈ T, (p 1 J : EReal)))) g e := by
  have coe_sum : ∀ f : ℕ → ℝ, ∑ J ∈ T, (f J : EReal) = ((∑ J ∈ T, f J : ℝ) : EReal) := fun f =>
    (map_sum (⟨⟨Real.toEReal, EReal.coe_zero⟩, EReal.coe_add⟩ : ℝ →+ EReal) f T).symm
  simp only [← EReal.coe_mul, coe_sum]
  have hz : ∀ c, ∑ J ∈ T, p c J = 0 → ∀ J ∈ T, p c J = 0 := fun c h =>
    (Finset.sum_eq_zero_iff_of_nonneg fun J _ => hp c J).mp h
  have d00 : Ideal.div ((0 : ℝ) : EReal) ((0 : ℝ) : EReal) = ⊥ := by simp [Ideal.div]
  have hdeg : ∀ c, ∑ J ∈ T, p c J = 0 → (∀ J ∈ T, Ideal.div (p c J : EReal) ((∑ J ∈ T, p c J : ℝ) : EReal) = ⊥)
      ∧ ∀ e, Ideal.div ((∑ J ∈ T, p c J * v e J : ℝ) : EReal) ((∑ J ∈ T, p c J : ℝ) : EReal) = ⊥ := fun c h => by
    refine ⟨fun J hJ => by rw [h, hz c h J hJ]; exact d00, fun e => ?_⟩
    rw [h, Finset.sum_eq_zero fun J hJ => by rw [hz c h J hJ, zero_mul]]; exact d00
  have degs : ∀ x : Fin 128 → EReal, (∀ e, Deg (x e)) → ∀ y : Fin 128 → EReal, (∀ e, Deg (y e)) →
      rnorm x g e = rnorm y g e := fun x hx y hy => by rw [rnorm_deg _ _ _ hx, rnorm_deg _ _ _ hy]
  by_cases h0 : ∑ J ∈ T, p 0 J = 0
  · refine degs _ (fun e => ?_) _ fun e => ?_
    · rw [(hdeg 0 h0).2 e]; exact Or.inl (EReal.bot_sub _)
    · rw [Finset.sum_congr rfl fun J hJ => by rw [(hdeg 0 h0).1 J hJ, EReal.bot_sub]]
      exact Deg.sum _ _ fun J => Deg.coe_mul _ (Or.inl rfl)
  by_cases h1 : ∑ J ∈ T, p 1 J = 0
  · by_cases hl : lam = 0
    · subst hl
      simp only [EReal.coe_zero, zero_mul, sub_zero, Ideal.div_coe h0, ← EReal.coe_mul, coe_sum]
      congr 1
      funext e
      rw [Finset.sum_mul]
      exact congrArg _ (Finset.sum_congr rfl fun J _ => by ring)
    · have hi : (lam : EReal) * ⊥ = ⊥ ∨ (lam : EReal) * ⊥ = ⊤ := by
        rcases lt_or_gt_of_ne hl with h | h
        · exact Or.inr (EReal.coe_mul_bot_of_neg h)
        · exact Or.inl (EReal.coe_mul_bot_of_pos h)
      have hs : ∀ r : ℝ, Deg ((r : EReal) - (lam : EReal) * ⊥) := fun r => by
        rcases hi with h | h <;> rw [h]
        · exact Or.inr (Or.inl (by simp))
        · exact Or.inl (by simp)
      refine degs _ (fun e => ?_) _ fun e => ?_
      · rw [(hdeg 1 h1).2 e, Ideal.div_coe h0, ← EReal.coe_mul]; exact hs _
      · rw [Finset.sum_congr rfl fun J hJ => by rw [(hdeg 1 h1).1 J hJ, Ideal.div_coe h0, ← EReal.coe_mul]]
        exact Deg.sum _ _ fun J => Deg.coe_mul _ (hs _)
  · simp only [Ideal.div_coe h0, Ideal.div_coe h1, ← EReal.coe_mul, ← EReal.coe_sub, coe_sum]
    congr 1
    funext e
    congr 1
    rw [Finset.sum_mul, Finset.sum_mul, Finset.mul_sum, ← Finset.sum_sub_distrib]
    exact Finset.sum_congr rfl fun J _ => by ring

/-- The kernel's row and the reference's, normalised, agree. -/
theorem rnorm_ker_ref (S : Fin 2 → ℕ → EReal) (n : ℕ) (lam : ℝ) (v : Fin 128 → ℕ → ℝ) (g : Fin 128 → EReal) (e : Fin 128) :
    rnorm (kerDiff S lam (fun e J => (v e J : EReal)) n) g e = rnorm (refDiff S lam (fun e J => (v e J : EReal)) n) g e := by
  have hex : ∀ c J, ∃ p : ℝ, 0 ≤ p ∧ (J ∈ Finset.range n → wt (S c) n J = (p : EReal)) := fun c J => by
    by_cases hJ : J ∈ Finset.range n
    · obtain ⟨p, h0, -, h⟩ := exp_sub_real (Finset.le_sup (f := S c) hJ)
      exact ⟨p, h0, fun _ => h⟩
    · exact ⟨0, le_rfl, fun h => absurd h hJ⟩
  choose p hp hw using hex
  have hL : ∀ c, ∑ J ∈ Finset.range n, wt (S c) n J = ∑ J ∈ Finset.range n, (p c J : EReal) := fun c =>
    Finset.sum_congr rfl fun J hJ => hw c J hJ
  have hA : ∀ c (e : Fin 128), ∑ J ∈ Finset.range n, wt (S c) n J * (v e J : EReal)
      = ∑ J ∈ Finset.range n, (p c J : EReal) * (v e J : EReal) := fun c e =>
    Finset.sum_congr rfl fun J hJ => by rw [hw c J hJ]
  have hR : refDiff S lam (fun e J => (v e J : EReal)) n = fun e => ∑ J ∈ Finset.range n, (v e J : EReal)
      * (Ideal.div (p 0 J : EReal) (∑ J ∈ Finset.range n, (p 0 J : EReal))
        - (lam : EReal) * Ideal.div (p 1 J : EReal) (∑ J ∈ Finset.range n, (p 1 J : EReal))) := by
    funext e
    refine Finset.sum_congr rfl fun J hJ => ?_
    unfold prob
    rw [hL 0, hL 1, hw 0 J hJ, hw 1 J hJ]
  have hK : kerDiff S lam (fun e J => (v e J : EReal)) n = fun e =>
      Ideal.div (∑ J ∈ Finset.range n, (p 0 J : EReal) * (v e J : EReal)) (∑ J ∈ Finset.range n, (p 0 J : EReal))
        - (lam : EReal) * Ideal.div (∑ J ∈ Finset.range n, (p 1 J : EReal) * (v e J : EReal))
            (∑ J ∈ Finset.range n, (p 1 J : EReal)) := by
    funext e
    unfold kerDiff
    rw [hL 0, hL 1, hA 0, hA 1]
  rw [hR, hK]
  exact rnorm_weights _ p hp v lam g e

/-- Keys that score `⊥` change neither the maximum nor the sums, so the kernel may stop before them. -/
theorem kerDiff_stop (S : Fin 2 → ℕ → EReal) (lam : EReal) (v : Fin 128 → ℕ → EReal) {n N : ℕ} (hn : n ≤ N)
    (hS : ∀ c J, n ≤ J → S c J = ⊥) : kerDiff S lam v n = kerDiff S lam v N := by
  have hsub : Finset.range n ⊆ Finset.range N := Finset.range_mono hn
  have ht : ∀ c, top (S c) n = top (S c) N := fun c => by
    refine le_antisymm (Finset.sup_mono hsub) (Finset.sup_le fun J _ => ?_)
    by_cases hJ : J < n
    · exact Finset.le_sup (f := S c) (Finset.mem_range.mpr hJ)
    · rw [hS c J (by omega)]; exact bot_le
  have hw : ∀ c J, wt (S c) n J = wt (S c) N J := fun c J => by unfold wt; rw [ht]
  have hz : ∀ c J, J ∉ Finset.range n → wt (S c) N J = 0 := fun c J hJ => by
    unfold wt; rw [hS c J (by simpa using hJ), EReal.bot_sub, Ideal.exp_bot]
  have hL : ∀ c, ∑ J ∈ Finset.range n, wt (S c) n J = ∑ J ∈ Finset.range N, wt (S c) N J := fun c => by
    rw [Finset.sum_congr rfl fun J _ => hw c J]
    exact Finset.sum_subset hsub fun J _ h => hz c J h
  have hA : ∀ c (e : Fin 128), ∑ J ∈ Finset.range n, wt (S c) n J * v e J = ∑ J ∈ Finset.range N, wt (S c) N J * v e J :=
    fun c e => by
      rw [Finset.sum_congr rfl fun J _ => by rw [hw c J]]
      exact Finset.sum_subset hsub fun J _ h => by rw [hz c J h, zero_mul]
  funext e
  unfold kerDiff
  rw [hL 0, hL 1, hA 0, hA 1]

/-- Only the first `n` scores and values matter. -/
theorem kerDiff_congr {S S' : Fin 2 → ℕ → EReal} (lam : EReal) {v v' : Fin 128 → ℕ → EReal} {n : ℕ}
    (hS : ∀ c J, J < n → S c J = S' c J) (hv : ∀ e J, J < n → v e J = v' e J) : kerDiff S lam v n = kerDiff S' lam v' n := by
  have ht : ∀ c, top (S c) n = top (S' c) n := fun c =>
    Finset.sup_congr rfl fun J hJ => hS c J (Finset.mem_range.mp hJ)
  have hw : ∀ c J, J ∈ Finset.range n → wt (S c) n J = wt (S' c) n J := fun c J hJ => by
    unfold wt; rw [ht, hS c J (Finset.mem_range.mp hJ)]
  have hL : ∀ c, ∑ J ∈ Finset.range n, wt (S c) n J = ∑ J ∈ Finset.range n, wt (S' c) n J := fun c =>
    Finset.sum_congr rfl fun J hJ => hw c J hJ
  have hA : ∀ c (e : Fin 128), ∑ J ∈ Finset.range n, wt (S c) n J * v e J = ∑ J ∈ Finset.range n, wt (S' c) n J * v' e J :=
    fun c e => Finset.sum_congr rfl fun J hJ => by rw [hw c J hJ, hv e J (Finset.mem_range.mp hJ)]
  funext e
  unfold kerDiff
  rw [hL 0, hL 1, hA 0, hA 1]

/-- What the running values hold after `n` key blocks, as the kernel's row over the first `512 n` keys. -/
theorem diff_stAt (qi : ℕ) (q : Blk) (k v : ℕ → Blk) (n : ℕ) (lam : EReal) (r : Fin 512) :
    (stAt qi q k v n).diff lam r = kerDiff (fun c => scAt qi q k c r) lam (valAt v) (512 * n) := by
  funext e
  unfold St.diff kerDiff
  rw [stAt_a, stAt_l, stAt_a, stAt_l]
  rfl

/-- The score of key `J` for a query: a key after the query scores `⊥`. -/
def score (q k : Fin 2 → Fin 8192 → Fin 8 → Fin 2 → Fin 64 → EReal) (b : Fin 2) (h : Fin 8) (t : Fin 8192) (c : Fin 2)
    (J : ℕ) : EReal :=
  if J ≤ t.val then (∑ d, q b t h c d * k b ⟨J % 8192, Nat.mod_lt _ (by norm_num)⟩ h c d) * Ideal.ofBits .f32 0x3E000000#32
  else ⊥

/-- The value of key `J` in lane `e`. -/
def value (v : Fin 2 → Fin 8192 → Fin 8 → Fin 128 → EReal) (b : Fin 2) (h : Fin 8) (e : Fin 128) (J : ℕ) : EReal :=
  v b ⟨J % 8192, Nat.mod_lt _ (by norm_num)⟩ h e

end Cert.Flash

end
-- ==== Proof.FlashRef.lean ====
module

public import proofs.«01_k».proof.Proof.FlashCore
public import proofs.«01_k».proof.Proof.Gen.ReferenceIdeal.Read
public import Idealize.ShloMosaic.Lib.Pointwise
public import Idealize.ShloMosaic.Lib.KernelVsHost
public import Idealize.ShloMosaic.Lib.WordCmp

@[expose] public section

set_option maxRecDepth 16384

/-!
The reference's result, read at an index: a row of the reference is `refDiff` of its scores over all 8192 keys, normalised.
-/

noncomputable section

namespace Cert.Flash

open Cert.ReferenceIdeal Cert.ReferenceIdeal.Gen Cert.ReferenceIdeal.Read
open Idealize.ShloMosaic Idealize.ShloMosaic.TcCoe

variable (x0 x1 : (⟨S2x8192x8x2x64, .f32⟩ : BufTy).Contents (Elt Ideal)) (x2 : (⟨S2x8192x8x128, .f32⟩ : BufTy).Contents (Elt Ideal))
  (x3 : (⟨S4x64, .f32⟩ : BufTy).Contents (Elt Ideal)) (x4 : (⟨S128, .f32⟩ : BufTy).Contents (Elt Ideal))
  (b : Fin 2) (h : Fin 8) (t : Fin 8192) (u : Fin 2)

/-- The scores of the reference's arguments. -/
def rS (J : ℕ) : EReal := score (fun b t h u d => x0 (ix5 b t h u d)) (fun b t h u d => x1 (ix5 b t h u d)) b h t u J

/-- Key numbers below 8192 as index words compare as numbers. -/
theorem keep_iff (a b : Fin 8192) : IntOp.cmpi .sle (BitVec.ofNat 32 a.val) (BitVec.ofNat 32 b.val) = 1#1 ↔ a.val ≤ b.val := by
  have e : ∀ x : Fin 8192, (BitVec.ofNat 32 x.val).toInt = (x.val : ℤ) := fun x => by
    have hx := x.isLt
    have hn : (BitVec.ofNat 32 x.val).toNat = x.val := by rw [BitVec.toNat_ofNat]; omega
    rw [BitVec.toInt_eq_toNat_of_lt (by omega), hn]
  unfold IntOp.cmpi
  simp only [BitVec.sle, e]
  by_cases hab : a.val ≤ b.val <;> simp [hab]

theorem v25_at (l : Fin 8192) : val_main_v25 (F := Ideal) x0 x1 (ix5 b h u t l) = rS x0 x1 b h t u l.val := by
  have h19 : val_main_v19 (F := Ideal) x0 x1 (ix5 b h u t l)
      = (∑ d : Fin 64, x0 (ix5 b t h u d) * x1 (ix5 b l h u d)) * Ideal.ofBits .f32 0x3E000000#32 := by
    rw [val_main_v19_apply, val_main_v18_apply, val_main_v17_apply]
    show (∑ k : Fin 64, _) * _ = _
    congr 1
    refine Finset.sum_congr rfl fun k _ => ?_
    exact congrArg₂ (· * ·) (congrArg x0 (eq_ix5 _)) (congrArg x1 (eq_ix5 _))
  have hm : val_main_call0_v1 (F := Ideal) (ix5 b h u t l) = IntOp.cmpi .sle (BitVec.ofNat 32 l.val) (BitVec.ofNat 32 t.val) := by
    rw [val_main_call0_v1_apply, val_main_v24_apply, val_main_v22_apply, val_main_v20_apply, val_main_v23_apply, val_main_v21_apply,
      val_main_v16_apply, val_main_v16_apply]
    rfl
  have hl : (⟨l.val % 8192, Nat.mod_lt _ (by norm_num)⟩ : Fin 8192) = l := Fin.ext (Nat.mod_eq_of_lt l.isLt)
  rw [val_main_v25_apply, hm, h19, val_main_call0_v2_apply]
  unfold rS score Scalar.select
  rw [hl]
  by_cases hk : l.val ≤ t.val
  · rw [if_pos hk]; exact if_pos ((keep_iff l t).mpr hk)
  · rw [if_neg hk]
    refine (if_neg fun e => hk ((keep_iff l t).mp e)).trans ?_
    show Ideal.ofBits .f32 0xFF800000#32 = ⊥
    simp [Ideal.ofBits, Ideal.ieee]

/-- A maximum over the last of five axes, read at an index. -/
theorem max5 (x : FVec Ideal S2x8x2x8192x8192 .f32) :
    Host.reduce (FloatOps.maximumf (F := Ideal)) x (constant S_ .f32 0xFF800000#32) reducesTo_S2x8x2x8192x8192_S2x8x2x8192_d4 h_S_ (ix4 b h u t)
      = Finset.univ.fold max (Ideal.ofBits .f32 0xFF800000#32) fun l : Fin 8192 => x (ix5 b h u t l) := by
  have h' : S2x8x2x8192x8192.Reduces [4] S2x8x2x8192 := by decide
  rw [hostReduce_maximumf_eq_multiReduction x 0xFF800000#32 reducesTo_S2x8x2x8192x8192_S2x8x2x8192_d4 h_S_ h' (.inl rfl) rfl]
  refine (Ideal.multiReduction_maximumf_single x 0xFF800000#32 h' (.inl rfl) rfl (ix4 b h u t)).trans ?_
  refine congrArg (Finset.univ.fold max (Ideal.ofBits .f32 0xFF800000#32)) (funext fun l => ?_)
  exact congrArg x ((eq_ix5 _).trans rfl)

/-- The row maximum. -/
theorem v28_at : val_main_v28 (F := Ideal) x0 x1 (ix4 b h u t) = top (rS x0 x1 b h t u) 8192 := by
  have hb : Ideal.ofBits .f32 0xFF800000#32 = ⊥ := by simp [Ideal.ofBits, Ideal.ieee]
  have h26 : val_main_v26 (F := Ideal) x0 x1 (ix4 b h u t) = top (rS x0 x1 b h t u) 8192 := by
    unfold val_main_v26
    refine (max5 b h t u (val_main_v25 (F := Ideal) x0 x1)).trans ?_
    rw [hb, show (fun l : Fin 8192 => val_main_v25 (F := Ideal) x0 x1 (ix5 b h u t l)) = fun l : Fin 8192 => rS x0 x1 b h t u l.val from
      funext fun l => v25_at x0 x1 b h t u l]
    unfold top
    refine le_antisymm ?_ ?_
    · show Finset.univ.sup (fun l : Fin 8192 => rS x0 x1 b h t u l.val) ≤ _
      exact Finset.sup_le fun l _ => Finset.le_sup (f := rS x0 x1 b h t u) (Finset.mem_range.mpr l.isLt)
    · show _ ≤ Finset.univ.sup (fun l : Fin 8192 => rS x0 x1 b h t u l.val)
      exact Finset.sup_le fun J hJ => Finset.le_sup (f := fun l : Fin 8192 => rS x0 x1 b h t u l.val)
        (Finset.mem_univ (⟨J, Finset.mem_range.mp hJ⟩ : Fin 8192))
  rw [val_main_v28_apply, h26, val_main_v27_apply]
  show max (Ideal.ofBits .f32 0xFF800000#32) _ = _
  rw [hb]; exact max_eq_right bot_le

/-- The weights before division. -/
theorem v32_at (l : Fin 8192) : val_main_v32 (F := Ideal) x0 x1 (ix5 b h u t l) = wt (rS x0 x1 b h t u) 8192 l.val := by
  have e : val_main_v30 (F := Ideal) x0 x1 (ix5 b h u t l) = top (rS x0 x1 b h t u) 8192 := by
    rw [val_main_v30_apply, val_main_v29_apply, ← v28_at]
    exact congrArg (val_main_v28 (F := Ideal) x0 x1) (eq_ix4 _)
  rw [val_main_v32_apply, val_main_v31_apply, v25_at, e]
  rfl

/-- The weights' sum. -/
theorem v33_at : val_main_v33 (F := Ideal) x0 x1 (ix4 b h u t) = ∑ J ∈ Finset.range 8192, wt (rS x0 x1 b h t u) 8192 J := by
  rw [val_main_v33_apply, Finset.sum_range]
  have h0 : val_main_cst_6 (F := Ideal) (Shape.Idx.first h_S_) = 0 := by
    show Ideal.ofBits .f32 0x00000000#32 = 0
    simp [Ideal.ofBits, Ideal.ieee]
  rw [h0, zero_add]
  refine Finset.sum_congr rfl fun k _ => ?_
  rw [← v32_at]
  exact congrArg (val_main_v32 (F := Ideal) x0 x1) (eq_ix5 _)

/-- The probabilities. -/
theorem v36_at (l : Fin 8192) : val_main_v36 (F := Ideal) x0 x1 (ix5 b h u t l) = prob (rS x0 x1 b h t u) 8192 l.val := by
  have e : val_main_v35 (F := Ideal) x0 x1 (ix5 b h u t l) = ∑ J ∈ Finset.range 8192, wt (rS x0 x1 b h t u) 8192 J := by
    rw [val_main_v35_apply, val_main_v34_apply, ← v33_at]
    exact congrArg (val_main_v33 (F := Ideal) x0 x1) (eq_ix4 _)
  rw [val_main_v36_apply, v32_at, e]
  rfl

theorem v38_at (l : Fin 8192) : val_main_v38 (F := Ideal) x0 x1 (ix4 b h t l) = prob (rS x0 x1 b h t 0) 8192 l.val := by
  unfold val_main_v38
  rw [shapeCast_apply (val_main_v37 (F := Ideal) x0 x1) shapeCasts_S2x8x1x8192x8192_S2x8x8192x8192 (ix4 b h t l) (ix5 b h 0 t l) (by
    rewrite [Shape.rowMajor_val_five, Shape.rowMajor_val_four]
    show (((b.val * 8 + h.val) * 1 + 0) * 8192 + t.val) * 8192 + l.val = ((b.val * 8 + h.val) * 8192 + t.val) * 8192 + l.val
    omega), val_main_v37_apply, ← v36_at]
  exact congrArg (val_main_v36 (F := Ideal) x0 x1) (eq_ix5 _)

theorem v40_at (l : Fin 8192) : val_main_v40 (F := Ideal) x0 x1 (ix4 b h t l) = prob (rS x0 x1 b h t 1) 8192 l.val := by
  unfold val_main_v40
  rw [shapeCast_apply (val_main_v39 (F := Ideal) x0 x1) shapeCasts_S2x8x1x8192x8192_S2x8x8192x8192 (ix4 b h t l) (ix5 b h 0 t l) (by
    rewrite [Shape.rowMajor_val_five, Shape.rowMajor_val_four]
    show (((b.val * 8 + h.val) * 1 + 0) * 8192 + t.val) * 8192 + l.val = ((b.val * 8 + h.val) * 8192 + t.val) * 8192 + l.val
    omega), val_main_v39_apply, ← v36_at]
  exact congrArg (val_main_v36 (F := Ideal) x0 x1) (eq_ix5 _)

/-- A sum over the indices of a 64-vector is a sum over its coordinate. -/
theorem sum64 (f : S64.Idx → EReal) : ∑ j : S64.Idx, f j = ∑ d : Fin 64, f (ix1 d) :=
  (Fintype.sum_equiv ⟨fun d : Fin 64 => (ix1 d : S64.Idx), fun j => j 0, fun _ => rfl, fun j => (eq_ix1 j).symm⟩
    (fun d => f (ix1 d)) f fun _ => rfl).symm

/-- The lambda. -/
theorem v15_at (i : S_.Idx) : val_main_v15 (F := Ideal) x3 i = lamOf fun a d => x3 (ix2 a d) := by
  have h0 : Ideal.ofBits .f32 0x00000000#32 = 0 := by simp [Ideal.ofBits, Ideal.ieee]
  have row : ∀ d : Fin 64, (val_main_v1 (F := Ideal) x3 (ix1 d) = x3 (ix2 0 d) ∧ val_main_v3 (F := Ideal) x3 (ix1 d) = x3 (ix2 1 d))
      ∧ (val_main_v8 (F := Ideal) x3 (ix1 d) = x3 (ix2 2 d) ∧ val_main_v10 (F := Ideal) x3 (ix1 d) = x3 (ix2 3 d)) := fun d => by
    have e : d.val % 64 = d.val := Nat.mod_eq_of_lt d.isLt
    refine ⟨⟨?_, ?_⟩, ?_, ?_⟩
    · rw [val_main_v1_apply, val_main_v0_apply]; exact congrArg x3 ((eq_ix2 _).trans (congrArg (ix2 0) (Fin.ext e)))
    · rw [val_main_v3_apply, val_main_v2_apply]; exact congrArg x3 ((eq_ix2 _).trans (congrArg (ix2 1) (Fin.ext e)))
    · rw [val_main_v8_apply, val_main_v7_apply]; exact congrArg x3 ((eq_ix2 _).trans (congrArg (ix2 2) (Fin.ext e)))
    · rw [val_main_v10_apply, val_main_v9_apply]; exact congrArg x3 ((eq_ix2 _).trans (congrArg (ix2 3) (Fin.ext e)))
  have h5 : ∀ i, val_main_v5 (F := Ideal) x3 i = ∑ d : Fin 64, x3 (ix2 0 d) * x3 (ix2 1 d) := fun i => by
    rw [val_main_v5_apply, sum64]
    refine (congrArg (· + _) h0).trans ((zero_add _).trans (Finset.sum_congr rfl fun d _ => ?_))
    rw [val_main_v4_apply, (row d).1.1, (row d).1.2]; rfl
  have h12 : ∀ i, val_main_v12 (F := Ideal) x3 i = ∑ d : Fin 64, x3 (ix2 2 d) * x3 (ix2 3 d) := fun i => by
    rw [val_main_v12_apply, sum64]
    refine (congrArg (· + _) h0).trans ((zero_add _).trans (Finset.sum_congr rfl fun d _ => ?_))
    rw [val_main_v11_apply, (row d).2.1, (row d).2.2]; rfl
  rw [val_main_v15_apply, val_main_v14_apply, val_main_v6_apply, val_main_v13_apply, h5, h12]
  rfl

/-- The row before its normalisation. -/
theorem v45_at (e : Fin 128) : val_main_v45 (F := Ideal) x0 x1 x2 x3 (ix4 b t h e)
    = refDiff (rS x0 x1 b h t) (lamOf fun a d => x3 (ix2 a d)) (value (fun b t h e => x2 (ix4 b t h e)) b h) 8192 e := by
  rw [val_main_v45_apply, val_main_v44_apply]
  unfold refDiff
  rw [Finset.sum_range]
  refine Finset.sum_congr rfl fun l _ => ?_
  have hl : (⟨l.val % 8192, Nat.mod_lt _ (by norm_num)⟩ : Fin 8192) = l := Fin.ext (Nat.mod_eq_of_lt l.isLt)
  have e43 : val_main_v43 (F := Ideal) x0 x1 x3 (ix4 b h t l) = prob (rS x0 x1 b h t 0) 8192 l.val
      - (lamOf fun a d => x3 (ix2 a d)) * prob (rS x0 x1 b h t 1) 8192 l.val := by
    rw [val_main_v43_apply, v38_at, val_main_v42_apply, val_main_v41_apply, v15_at, v40_at]
    rfl
  rw [← e43]
  unfold value
  rw [hl]
  exact congrArg₂ (· * ·) (congrArg x2 (eq_ix4 _)) (congrArg (val_main_v43 (F := Ideal) x0 x1 x3) (eq_ix4 _))

/-- The normalised row. -/
theorem v60_at (e : Fin 128) : val_main_v60 (F := Ideal) x0 x1 x2 x3 x4 (ix4 b t h e)
    = rnorm (refDiff (rS x0 x1 b h t) (lamOf fun a d => x3 (ix2 a d)) (value (fun b t h e => x2 (ix4 b t h e)) b h) 8192)
        (fun e => x4 (ix1 e)) e := by
  have h0 : Ideal.ofBits .f32 0x00000000#32 = 0 := by simp [Ideal.ofBits, Ideal.ieee]
  have e47 : val_main_v47 (F := Ideal) x0 x1 x2 x3 (ix3 b t h) = ∑ d : Fin 128, val_main_v45 (F := Ideal) x0 x1 x2 x3 (ix4 b t h d)
      * val_main_v45 (F := Ideal) x0 x1 x2 x3 (ix4 b t h d) := by
    rw [val_main_v47_apply]
    refine (congrArg (· + _) h0).trans ((zero_add _).trans (Finset.sum_congr rfl fun d _ => ?_))
    rw [val_main_v46_apply]
    rw [show idx_main_v47 (ix3 b t h) d = ix4 b t h d from eq_ix4 _]
    rfl
  have e54 : val_main_v54 (F := Ideal) x0 x1 x2 x3 (ix4 b t h e) = Ideal.rsqrt (Ideal.div (val_main_v47 (F := Ideal) x0 x1 x2 x3 (ix3 b t h))
      (Ideal.ofBits .f32 0x43000000#32) + Ideal.ofBits .f32 0x358637BD#32) := by
    rw [val_main_v54_apply, val_main_v53_apply, val_main_v52_apply, val_main_v51_apply, val_main_v50_apply, val_main_v49_apply,
      val_main_v48_apply, show idx_main_v48 (idx_main_v54 (ix4 b t h e)) = ix3 b t h from eq_ix3 _]
    rfl
  have e57 : val_main_v57 (F := Ideal) x4 (ix4 b t h e) = x4 (ix1 e) := by
    rw [val_main_v57_apply, val_main_v56_apply]
    exact congrArg x4 (eq_ix1 _)
  rw [val_main_v60_apply, val_main_v59_apply, val_main_v58_apply, val_main_v55_apply, e54, e57, e47]
  simp only [v45_at]
  rfl

/-- The reference's result at row `b * 8192 + t`, head `h`, lane `e`. -/
theorem v62_at (e : Fin 128) (i : Fin 16384) (j : Fin 1024) (hi : i.val = b.val * 8192 + t.val) (hj : j.val = h.val * 128 + e.val) :
    val_main_v62 (F := Ideal) x0 x1 x2 x3 x4 (ix2 i j)
    = rnorm (refDiff (rS x0 x1 b h t) (lamOf fun a d => x3 (ix2 a d)) (value (fun b t h e => x2 (ix4 b t h e)) b h) 8192)
        (fun e => x4 (ix1 e)) e := by
  rw [← v60_at]
  show val_main_v61 (F := Ideal) x0 x1 x2 x3 x4 (ix2 i j) = _
  unfold val_main_v61
  exact shapeCast_apply (val_main_v60 (F := Ideal) x0 x1 x2 x3 x4) shapeCasts_S2x8192x8x128_S16384x1024 (ix2 i j) (ix4 b t h e) (by
    rewrite [Shape.rowMajor_val_two, Shape.rowMajor_val_four]
    show ((b.val * 8192 + t.val) * 8 + h.val) * 128 + e.val = i.val * 1024 + j.val
    omega)

end Cert.Flash

end
-- ==== Proof.FlashSetup.lean ====
module

public import proofs.«01_k».proof.Proof.Gen.KernelIdeal.Frame

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 4096 := Nat.lt_of_lt_of_eq t.isLt N_0
    have e0 : (grid0.coords t 0).val = t.val / 2048 % 2 := Pipeline.Grid.coords_val t 0 (by decide) rfl
    have e1 : (grid0.coords t 1).val = t.val / 256 % 8 := Pipeline.Grid.coords_val t 1 (by decide) rfl
    have e2 : (grid0.coords t 2).val = t.val / 16 % 16 := Pipeline.Grid.coords_val t 2 (by decide) rfl
    have e3 : (grid0.coords t 3).val = t.val / 1 % 16 := Pipeline.Grid.coords_val t 3 (by decide) rfl
    simp only [cond0_0, e0, e1, e2, e3]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 3).val) (Scalar.select (Scalar.andi (Scalar.cmpi .ne (Scalar.subi (Scalar.extui (Scalar.cmpi .sgt (Scalar.muli (BitVec.ofNat 32 (i 2).val) 512#32) 0#32)) (Scalar.extui (Scalar.cmpi .slt (Scalar.muli (BitVec.ofNat 32 (i 2).val) 512#32) 0#32))) (Scalar.subi (Scalar.extui (Scalar.cmpi .sgt 512#32 0#32)) (Scalar.extui (Scalar.cmpi .slt 512#32 0#32)))) (Scalar.cmpi .ne (Scalar.remsi (Scalar.muli (BitVec.ofNat 32 (i 2).val) 512#32) 512#32) 0#32)) (Scalar.subi (Scalar.divsi (Scalar.muli (BitVec.ofNat 32 (i 2).val) 512#32) 512#32) 1#32) (Scalar.divsi (Scalar.muli (BitVec.ofNat 32 (i 2).val) 512#32) 512#32)))) 0#32) = 1#1
/-- It holds at the points whose coordinates have i3 + 1 ≤ i2 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := (Scalar.cmpi .ne (Scalar.extui (Scalar.andi (Scalar.cmpi .sge (BitVec.ofNat 32 (i 3).val) (Scalar.select (Scalar.andi (Scalar.cmpi .ne (Scalar.subi (Scalar.extui (Scalar.cmpi .sgt (Scalar.muli (BitVec.ofNat 32 (i 2).val) 512#32) 0#32)) (Scalar.extui (Scalar.cmpi .slt (Scalar.muli (BitVec.ofNat 32 (i 2).val) 512#32) 0#32))) (Scalar.subi (Scalar.extui (Scalar.cmpi .sgt 512#32 0#32)) (Scalar.extui (Scalar.cmpi .slt 512#32 0#32)))) (Scalar.cmpi .ne (Scalar.remsi (Scalar.muli (BitVec.ofNat 32 (i 2).val) 512#32) 512#32) 0#32)) (Scalar.subi (Scalar.divsi (Scalar.muli (BitVec.ofNat 32 (i 2).val) 512#32) 512#32) 1#32) (Scalar.divsi (Scalar.muli (BitVec.ofNat 32 (i 2).val) 512#32) 512#32))) (Scalar.cmpi .sle (BitVec.ofNat 32 (i 3).val) (Scalar.select (Scalar.andi (Scalar.cmpi .ne (Scalar.subi (Scalar.extui (Scalar.cmpi .sgt (Scalar.subi (Scalar.muli (Scalar.addi (BitVec.ofNat 32 (i 2).val) 1#32) 512#32) 1#32) 0#32)) (Scalar.extui (Scalar.cmpi .slt (Scalar.subi (Scalar.muli (Scalar.addi (BitVec.ofNat 32 (i 2).val) 1#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.muli (Scalar.addi (BitVec.ofNat 32 (i 2).val) 1#32) 512#32) 1#32) 512#32) 0#32)) (Scalar.subi (Scalar.divsi (Scalar.subi (Scalar.muli (Scalar.addi (BitVec.ofNat 32 (i 2).val) 1#32) 512#32) 1#32) 512#32) 1#32) (Scalar.divsi (Scalar.subi (Scalar.muli (Scalar.addi (BitVec.ofNat 32 (i 2).val) 1#32) 512#32) 1#32) 512#32))))) 0#32) = 1#1
/-- It holds at the points whose coordinates have i2 = i3 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-- The condition of the body's `scf.if` 3 (`k0_h4`), from the grid coordinates (the skeleton's scalar
    chain substituted). -/
abbrev cond0_3 (i : grid0.Coords) : Prop := k0_cond4 i = 1#1
/-- It holds at the points whose coordinates have i2 = i3 — decided over the grid. -/
theorem hcond0_3 : ∀ t : Fin cfg0.N, cond0_3 (grid0.coords t) ↔ t.val / 16 % 16 = t.val % 16 :=
  (by decide +kernel : ∀ t : Fin grid0.N, cond0_3 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x128 .bf16 := Memref.whole cc0_scratch0
abbrev scM0_1 : Memref sig .tc .vmem S512x128 .bf16 := Memref.whole cc0_scratch1
abbrev scM0_2 : Memref sig .tc .vmem S2x512x1 .f32 := Memref.whole cc0_scratch2
abbrev scM0_3 : Memref sig .tc .vmem S2x512x1 .f32 := Memref.whole cc0_scratch3
abbrev scM0_4 : Memref sig .tc .vmem S2x512x128 .f32 := Memref.whole cc0_scratch4
/-- The scratch `arg10` the kernel carries between points, as a view: what it holds is stated through it. -/
abbrev VS0_0 : View sig .tc .vmem S512x128 .bf16 := scM0_0.view
/-- The scratch `arg11` the kernel carries between points, as a view: what it holds is stated through it. -/
abbrev VS0_1 : View sig .tc .vmem S512x128 .bf16 := scM0_1.view
/-- The scratch `arg12` the kernel carries between points, as a view: what it holds is stated through it. -/
abbrev VS0_2 : View sig .tc .vmem S2x512x1 .f32 := scM0_2.view
/-- The scratch `arg13` the kernel carries between points, as a view: what it holds is stated through it. -/
abbrev VS0_3 : View sig .tc .vmem S2x512x1 .f32 := scM0_3.view
/-- The scratch `arg14` the kernel carries between points, as a view: what it holds is stated through it. -/
abbrev VS0_4 : View sig .tc .vmem S2x512x128 .f32 := scM0_4.view

/-- The frame kit's invariant with the scratch operands as memrefs owned at some contents  what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Flash

end
-- ==== Proof.FlashRunA.lean ====
module

public import proofs.«01_k».proof.Proof.FlashSetup

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The body at the first key block of the first query block: the scratch is reset, the masked update runs and the output is stored.
The pieces each buffer is left with are found by the run; the other buffers keep their contents. -/
noncomputable def runA (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole) (hc0 : cond0_0 i) (hc1 : ¬cond0_1 i) (hc2 : cond0_2 i) (hc3 : cond0_3 i)
    (x0 : Vec F S4x64 .f32) (x1 : Vec F S1x128 .f32) (x2 : Vec F S512x128 .bf16) (x3 : Vec F S512x128 .bf16) (x4 : Vec F S512x128 .bf16) :
    Σ' (L5 : List (View.Piece (Elt F) S512x128 .bf16)), Σ' (LS0 : List (View.Piece (Elt F) S512x128 .bf16)), Σ' (LS1 : List (View.Piece (Elt F) S512x128 .bf16)), Σ' (LS2 : List (View.Piece (Elt F) S2x512x1 .f32)), Σ' (LS3 : List (View.Piece (Elt F) S2x512x1 .f32)), { LS4 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc0_flash_diff_attention i arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_flash_diff_attention_eq_skeleton]; unfold cc0_flash_diff_attention_skel
    simp only [k0_part6_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    iexists _; iexact HS4

end Cert.Flash

end
-- ==== Proof.FlashRunB.lean ====
module

public import proofs.«01_k».proof.Proof.FlashRunA

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The body at a key block past the diagonal: the body stores nothing.
Every buffer keeps its contents. -/
theorem runB (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole) (hc0 : ¬cond0_0 i) (hc1 : ¬cond0_1 i) (hc2 : ¬cond0_2 i) (hc3 : ¬cond0_3 i)
    (x0 : Vec F S4x64 .f32) (x1 : Vec F S1x128 .f32) (x2 : Vec F S512x128 .bf16) (x3 : Vec F S512x128 .bf16) (x4 : Vec F S512x128 .bf16) (x5 xs0 : Vec F S512x128 .bf16) (xs1 : Vec F S512x128 .bf16) (xs2 : Vec F S2x512x1 .f32) (xs3 : Vec F S2x512x1 .f32) (xs4 : Vec F S2x512x128 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4) -∗ K ⟨⟩))
          ⊢ wp frame (wpE (defs₀ (F := F)) Variants.none c none) E (cc0_flash_diff_attention i arg4 harg4 arg5 harg5 arg6 harg6 arg7 harg7 arg8 harg8 arg9 harg9 arg10 harg10 arg11 harg11 arg12 harg12 arg13 harg13 arg14 harg14) K := by
  intro E K
  simp only [cc0_flash_diff_attention_eq_skeleton]; unfold cc0_flash_diff_attention_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3; obtain rfl := harg14.eq_unread hfs4
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]
  · iexists _; isplitr; · ipureintro; exact harg10.read_unread _
    iexact HS0
  isplitl [HS1]
  · iexists _; isplitr; · ipureintro; exact harg11.read_unread _
    iexact HS1
  isplitl [HS2]
  · iexists _; isplitr; · ipureintro; exact harg12.read_unread _
    iexact HS2
  isplitl [HS3]
  · iexists _; isplitr; · ipureintro; exact harg13.read_unread _
    iexact HS3
  iexists _; isplitr; · ipureintro; exact harg14.read_unread _
  iexact HS4

end Cert.Flash

end
-- ==== Proof.FlashRunC.lean ====
module

public import proofs.«01_k».proof.Proof.FlashRunB

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The body at the first key block of a later query block: the scratch is reset and the unmasked update runs.
The pieces each buffer is left with are found by the run; the other buffers keep their contents. -/
noncomputable def runC (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole) (hc0 : cond0_0 i) (hc1 : cond0_1 i) (hc2 : ¬cond0_2 i) (hc3 : ¬cond0_3 i)
    (x0 : Vec F S4x64 .f32) (x1 : Vec F S1x128 .f32) (x2 : Vec F S512x128 .bf16) (x3 : Vec F S512x128 .bf16) (x4 : Vec F S512x128 .bf16) :
    Σ' (LS0 : List (View.Piece (Elt F) S512x128 .bf16)), Σ' (LS1 : List (View.Piece (Elt F) S512x128 .bf16)), Σ' (LS2 : List (View.Piece (Elt F) S2x512x1 .f32)), Σ' (LS3 : List (View.Piece (Elt F) S2x512x1 .f32)), { LS4 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc0_flash_diff_attention i arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_flash_diff_attention_eq_skeleton]; unfold cc0_flash_diff_attention_skel
    simp only [k0_part6_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _, _; isplitr; swap; · iexact H5
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.Flash

end
-- ==== Proof.FlashRunD.lean ====
module

public import proofs.«01_k».proof.Proof.FlashRunC

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The body at the diagonal block of a later query block: the masked update runs and the output is stored.
The pieces each buffer is left with are found by the run; the other buffers keep their contents. -/
noncomputable def runD (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole) (hc0 : ¬cond0_0 i) (hc1 : ¬cond0_1 i) (hc2 : cond0_2 i) (hc3 : cond0_3 i)
    (x0 : Vec F S4x64 .f32) (x1 : Vec F S1x128 .f32) (x2 : Vec F S512x128 .bf16) (x3 : Vec F S512x128 .bf16) (x4 : Vec F S512x128 .bf16) (xs0 : Vec F S512x128 .bf16) (xs1 : Vec F S512x128 .bf16) (xs2 : Vec F S2x512x1 .f32) (xs3 : Vec F S2x512x1 .f32) (xs4 : Vec F S2x512x128 .f32) :
    Σ' (L5 : List (View.Piece (Elt F) S512x128 .bf16)), Σ' (LS0 : List (View.Piece (Elt F) S512x128 .bf16)), Σ' (LS1 : List (View.Piece (Elt F) S512x128 .bf16)), Σ' (LS2 : List (View.Piece (Elt F) S2x512x1 .f32)), Σ' (LS3 : List (View.Piece (Elt F) S2x512x1 .f32)), { LS4 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare xs0 ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc0_flash_diff_attention i arg4 harg4 arg5 harg5 arg6 harg6 arg7 harg7 arg8 harg8 arg9 harg9 arg10 harg10 arg11 harg11 arg12 harg12 arg13 harg13 arg14 harg14) K } := by
  refine ⟨?_, [], [], ?_, ?_, ?_, fun E K => ?run⟩
  case run =>
    simp only [cc0_flash_diff_attention_eq_skeleton]; unfold cc0_flash_diff_attention_skel
    simp only [k0_part6_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1; obtain rfl := harg12.eq_unread hfs2; obtain rfl := harg13.eq_unread hfs3; obtain rfl := harg14.eq_unread hfs4
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HS2]; · iexists _; iexact HS2
    isplitl [HS3]; · iexists _; iexact HS3
    iexists _; iexact HS4

end Cert.Flash

end
-- ==== Proof.FlashRunE.lean ====
module

public import proofs.«01_k».proof.Proof.FlashRunD

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The body at a key block strictly between the first and the diagonal: the unmasked update runs.
The pieces each buffer is left with are found by the run; the other buffers keep their contents. -/
noncomputable def runE (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole) (hc0 : ¬cond0_0 i) (hc1 : cond0_1 i) (hc2 : ¬cond0_2 i) (hc3 : ¬cond0_3 i)
    (x0 : Vec F S4x64 .f32) (x1 : Vec F S1x128 .f32) (x2 : Vec F S512x128 .bf16) (x3 : Vec F S512x128 .bf16) (x4 : Vec F S512x128 .bf16) (xs0 : Vec F S512x128 .bf16) (xs1 : Vec F S512x128 .bf16) (xs2 : Vec F S2x512x1 .f32) (xs3 : Vec F S2x512x1 .f32) (xs4 : Vec F S2x512x128 .f32) :
    Σ' (LS0 : List (View.Piece (Elt F) S512x128 .bf16)), Σ' (LS1 : List (View.Piece (Elt F) S512x128 .bf16)), Σ' (LS2 : List (View.Piece (Elt F) S2x512x1 .f32)), Σ' (LS3 : List (View.Piece (Elt F) S2x512x1 .f32)), { LS4 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc0_flash_diff_attention i arg4 harg4 arg5 harg5 arg6 harg6 arg7 harg7 arg8 harg8 arg9 harg9 arg10 harg10 arg11 harg11 arg12 harg12 arg13 harg13 arg14 harg14) K } := by
  refine ⟨[], [], ?_, ?_, ?_, fun E K => ?run⟩
  case run =>
    simp only [cc0_flash_diff_attention_eq_skeleton]; unfold cc0_flash_diff_attention_skel
    simp only [k0_part6_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1; obtain rfl := harg12.eq_unread hfs2; obtain rfl := harg13.eq_unread hfs3; obtain rfl := harg14.eq_unread hfs4
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _, _; isplitr; swap; · iexact H5
      ipureintro; rfl
    isplitl [HS0]
    · iexists _; isplitr; · ipureintro; exact harg10.read_unread _
      iexact HS0
    isplitl [HS1]
    · iexists _; isplitr; · ipureintro; exact harg11.read_unread _
      iexact HS1
    isplitl [HS2]; · iexists _; iexact HS2
    isplitl [HS3]; · iexists _; iexact HS3
    iexists _; iexact HS4

end Cert.Flash

end
-- ==== Proof.FlashIndex.lean ====
module

public import proofs.«01_k».proof.Proof.FlashSetup

@[expose] public section

set_option maxRecDepth 16384

/-!
The block each window shows at a grid point.
-/

noncomputable section

namespace Cert.Flash

open Cert.KernelIdeal Cert.KernelIdeal.Gen
open Idealize.ShloMosaic Idealize.ShloMosaic.TcCoe

theorem idx2 : ∀ t : Fin grid0.N, cc0_transform_2 (grid0.coords t) = ![t.val / 2048 % 2 * 16 + t.val / 16 % 16, t.val / 256 % 8] := by
  decide +kernel
theorem idx3 : ∀ t : Fin grid0.N, cc0_transform_3 (grid0.coords t)
    = ![t.val / 2048 % 2 * 16 + min (t.val % 16) (t.val / 16 % 16), t.val / 256 % 8] := by decide +kernel
theorem idx4 : ∀ t : Fin grid0.N, cc0_transform_4 (grid0.coords t)
    = ![t.val / 2048 % 2 * 16 + min (t.val % 16) (t.val / 16 % 16), t.val / 256 % 8] := idx3
theorem idx5 : ∀ t : Fin grid0.N, cc0_transform_5 (grid0.coords t) = ![t.val / 2048 % 2 * 16 + t.val / 16 % 16, t.val / 256 % 8] := idx2

end Cert.Flash

end
-- ==== Proof.FlashVal.lean ====
module

public import proofs.«01_k».proof.Proof.FlashSetup
public import proofs.«01_k».proof.Proof.FlashSpec
public import Idealize.ShloMosaic.Lib.Pointwise
public import Idealize.ShloMosaic.Lib.Pipeline.ValueKit.Basic

@[expose] public section

set_option maxRecDepth 16384

/-!
What the kernel body's expressions are at an index, over the extended reals: the scores, the new maximum, the new
denominator, the new weighted sum and the output, each in the words of the specification.
-/

noncomputable section

namespace Cert.Flash

open Cert.KernelIdeal Cert.KernelIdeal.Gen
open Idealize.ShloMosaic Idealize.ShloMosaic.TcCoe Idealize.ShloMosaic.Tactic
open Idealize.SL.Sem

/-- A `512 × 128` vector as a block. -/
abbrev blkOf (x : Vec Ideal S512x128 .bf16) : Blk := fun r d => x (ix2 r d)

/-- The running maxima as the vector the kernel keeps. -/
def toM (S : St) : Vec Ideal S2x512x1 .f32 := fun i => S.m (i 0) (i 1)
/-- The running denominators as the vector the kernel keeps. -/
def toL (S : St) : Vec Ideal S2x512x1 .f32 := fun i => S.l (i 0) (i 1)
/-- The running weighted sums as the vector the kernel keeps. -/
def toA (S : St) : Vec Ideal S2x512x128 .f32 := fun i => S.a (i 0) (i 1) (i 2)

/-- The named mask value is the least extended real. -/
theorem mask_val : (Named.named (F := Ideal) (φ := .f32) κ "mask" 0xF149F2CA#32 : EReal) = ⊥ :=
  IdealRules.named_const.ideal_named_scalar _ _ _ _ rfl

theorem neg_inf_val : Ideal.ofBits .f32 0xFF800000#32 = ⊥ := by simp [Ideal.ofBits, Ideal.ieee]

/-! ## The initial values and the two halves of the queries -/

theorem pay5_val : k0_pay5 (F := Ideal) = toM St.init := by
  funext i; rw [eq_ix3 i]; pointwise [k0_pay5]; exact mask_val
theorem pay6_val : k0_pay6 (F := Ideal) = toL St.init := by
  funext i; rw [eq_ix3 i]; pointwise [k0_pay6]; rfl
theorem pay7_val : k0_pay7 (F := Ideal) = toA St.init := by
  funext i; rw [eq_ix3 i]; pointwise [k0_pay7]; rfl

theorem pay3_val (q : Vec Ideal S512x128 .bf16) : blkOf (k0_pay3 (F := Ideal) q) = qhalf (blkOf q) 0 := by
  funext r d
  have hd := d.isLt
  show k0_pay3 (F := Ideal) q (ix2 r d) = _
  pointwise [k0_pay3, k0_pay1, k0_pay2]
  show _ = if d.val / 64 = 0 then q (ix2 r d) else 0
  have h : IntOp.cmpi .slt (BitVec.ofNat 32 d.val) 64#32 = if d.val / 64 = 0 then 1#1 else 0#1 := by
    revert d; decide +kernel
  rw [h]; split <;> rfl
theorem pay4_val (q : Vec Ideal S512x128 .bf16) : blkOf (k0_pay4 (F := Ideal) q) = qhalf (blkOf q) 1 := by
  funext r d
  have hd := d.isLt
  show k0_pay4 (F := Ideal) q (ix2 r d) = _
  pointwise [k0_pay4, k0_pay1, k0_pay2]
  show _ = if d.val / 64 = 1 then q (ix2 r d) else 0
  have h : IntOp.cmpi .sge (BitVec.ofNat 32 d.val) 64#32 = if d.val / 64 = 1 then 1#1 else 0#1 := by
    revert d; decide +kernel
  rw [h]; split <;> rfl

/-! ## The scores -/

theorem pay16_apply (k q : Vec Ideal S512x128 .bf16) (r j : Fin 512) :
    k0_pay16 (F := Ideal) k q (ix2 r j) = ∑ d, blkOf q r d * blkOf k j d := by
  pointwise [k0_pay16, k0_pay14]

theorem toInt_small (n : ℕ) (h : n < 2 ^ 31) : (BitVec.ofNat 32 n).toInt = n := by
  have e : (BitVec.ofNat 32 n).toNat = n := by rw [BitVec.toNat_ofNat]; omega
  rw [BitVec.toInt_eq_toNat_of_lt (by rw [e]; omega), e]

/-- The mask keeps a key that is not after the query. -/
theorem mask_bit (qi ki : ℕ) (hq : qi < 16) (hk : ki < 16) (r j : Fin 512) :
    IntOp.cmpi .sle (IntOp.addi (Scalar.muli (BitVec.ofNat 32 ki) 512#32) (BitVec.ofNat 32 j.val))
        (IntOp.addi (Scalar.muli (BitVec.ofNat 32 qi) 512#32) (BitVec.ofNat 32 r.val))
      = if ki * 512 + j.val ≤ qi * 512 + r.val then 1#1 else 0#1 := by
  have hr := r.isLt
  have hj := j.isLt
  have e1 : IntOp.addi (Scalar.muli (BitVec.ofNat 32 ki) 512#32) (BitVec.ofNat 32 j.val) = BitVec.ofNat 32 (ki * 512 + j.val) := by
    apply BitVec.eq_of_toNat_eq; simp [IntOp.addi, Scalar.muli, IntOp.muli]
  have e2 : IntOp.addi (Scalar.muli (BitVec.ofNat 32 qi) 512#32) (BitVec.ofNat 32 r.val) = BitVec.ofNat 32 (qi * 512 + r.val) := by
    apply BitVec.eq_of_toNat_eq; simp [IntOp.addi, Scalar.muli, IntOp.muli]
  rw [e1, e2]
  have h1 := toInt_small (ki * 512 + j.val) (by omega)
  have h2 := toInt_small (qi * 512 + r.val) (by omega)
  simp only [IntOp.cmpi, BitVec.sle_eq_decide, h1, h2]
  split <;> rename_i h
  · have h' : ((ki * 512 + j.val : ℕ) : ℤ) ≤ ((qi * 512 + r.val : ℕ) : ℤ) := by exact_mod_cast h
    rw [decide_eq_true h']; rfl
  · have h' : ¬ ((ki * 512 + j.val : ℕ) : ℤ) ≤ ((qi * 512 + r.val : ℕ) : ℤ) := by exact_mod_cast h
    rw [decide_eq_false h']; rfl

theorem pay35_apply (qi ki : ℕ) (hq : qi < 16) (hk : ki < 16) (k q : Vec Ideal S512x128 .bf16) (r j : Fin 512) :
    k0_pay35 (F := Ideal) (BitVec.ofNat 32 qi) (BitVec.ofNat 32 ki) k q (ix2 r j)
      = if ki * 512 + j.val ≤ qi * 512 + r.val then ∑ d, blkOf q r d * blkOf k j d else ⊥ := by
  pointwise [k0_pay35, k0_pay34, k0_pay32]
  rw [mask_bit qi ki hq hk, mask_val]; split <;> rfl

/-! ## The update, for any vector of scores -/

section Update
variable (s : FVec Ideal S512x512 .f32) (m l : Vec Ideal S1x512x1 .f32) (v : Vec Ideal S512x128 .bf16)
  (a : Vec Ideal S1x512x128 .f32)

/-- The new maximum as the body writes it. -/
abbrev vM : FVec Ideal S512x1 .f32 :=
  maximumf (shapeCast S512x1 m shapeCasts_S1x512x1_S512x1)
    (shapeCast S512x1 (multiReduction .maximumf [1] S512 s 0xFF800000#32 reduces_S512x512_S512 (.inl rfl) rfl) shapeCasts_S512_S512x1)
/-- The factor that rescales the old sums. -/
abbrev vC : FVec Ideal S512x1 .f32 := exp (subf (shapeCast S512x1 m shapeCasts_S1x512x1_S512x1) (vM s m))
/-- The block's exponentials. -/
abbrev vP : FVec Ideal S512x512 .f32 := exp (subf s (broadcastTo S512x512 (vM s m) broadcasts_S512x1_S512x512))
/-- The new denominator. -/
abbrev vL : FVec Ideal S512x1 .f32 :=
  addf (mulf (vC s m) (shapeCast S512x1 l shapeCasts_S1x512x1_S512x1))
    (shapeCast S512x1 (multiReduction .add [1] S512 (vP s m) 0x00000000#32 reduces_S512x512_S512 (.inl rfl) rfl) shapeCasts_S512_S512x1)
/-- The new weighted sum. -/
abbrev vA : FVec Ideal S512x128 .f32 :=
  addf (mulf (broadcastTo S512x128 (vC s m) broadcasts_S512x1_S512x128) (shapeCast S512x128 a shapeCasts_S1x512x128_S512x128))
    (matmul (φ₂ := .bf16) dot_S512x512_S512x128_S512x128_1_0_0_1_n_n none (truncf .bf16 (vP s m) bitsLt_bf16_f32) v
      (constant S512x128 .f32 0x00000000#32))

theorem vM_apply (r : Fin 512) (z : Fin 1) :
    vM s m (ix2 r z) = max (m (ix3 0 r 0)) (rowMax fun j => s (ix2 r j)) := by
  pointwise [vM]; rw [neg_inf_val]; rfl
theorem vC_apply (r : Fin 512) (z : Fin 1) : vC s m (ix2 r z) = Ideal.exp (m (ix3 0 r 0) - vM s m (ix2 r 0)) := by
  obtain rfl : z = 0 := Subsingleton.elim _ _
  unfold vC; generalize vM s m = M; pointwise []
theorem vP_apply (r j : Fin 512) : vP s m (ix2 r j) = Ideal.exp (s (ix2 r j) - vM s m (ix2 r 0)) := by
  unfold vP; generalize vM s m = M; pointwise []
theorem vL_apply (r : Fin 512) (z : Fin 1) :
    vL s m l (ix2 r z) = vC s m (ix2 r 0) * l (ix3 0 r 0) + ∑ j, vP s m (ix2 r j) := by
  obtain rfl : z = 0 := Subsingleton.elim _ _
  unfold vL; generalize vC s m = C; generalize vP s m = P; pointwise []
theorem vA_apply (r : Fin 512) (e : Fin 128) :
    vA s m v a (ix2 r e) = vC s m (ix2 r 0) * a (ix3 0 r e) + ∑ j, vP s m (ix2 r j) * v (ix2 j e) := by
  unfold vA; generalize vC s m = C; generalize vP s m = P; pointwise []

end Update

/-! ## The output -/

theorem pay49_apply (x0 : Vec Ideal S4x64 .f32) (a0 : Vec Ideal S1x512x128 .f32) (l0 : Vec Ideal S1x512x1 .f32)
    (a1 : Vec Ideal S1x512x128 .f32) (l1 : Vec Ideal S1x512x1 .f32) (r : Fin 512) (e : Fin 128) :
    k0_pay49 (F := Ideal) x0 a0 l0 a1 l1 (ix2 r e)
      = Ideal.div (a0 (ix3 0 r e)) (l0 (ix3 0 r 0))
        - lamOf (fun i d => x0 (ix2 i d)) * Ideal.div (a1 (ix3 0 r e)) (l1 (ix3 0 r 0)) := by
  pointwise [k0_pay49]; rfl

theorem pay13_apply (x0 : Vec Ideal S4x64 .f32) (x1 : Vec Ideal S1x128 .f32) (a0 : Vec Ideal S1x512x128 .f32)
    (l0 : Vec Ideal S1x512x1 .f32) (a1 : Vec Ideal S1x512x128 .f32) (l1 : Vec Ideal S1x512x1 .f32) (r : Fin 512) (e : Fin 128) :
    k0_pay13 (F := Ideal) (k0_pay49 x0 a0 l0 a1 l1) (k0_pay50 x1) (k0_pay51 x0 a0 l0 a1 l1)
        (Scalar.ofBits .f32 0x358637BD#32) (ix2 r e)
      = rnorm (fun e => k0_pay49 (F := Ideal) x0 a0 l0 a1 l1 (ix2 r e)) (fun e => x1 (ix2 0 e)) e := by
  unfold k0_pay51
  generalize k0_pay49 (F := Ideal) x0 a0 l0 a1 l1 = o
  pointwise [k0_pay13, k0_pay50]; rfl

end Cert.Flash

end
-- ==== Proof.FlashBlocks.lean ====
module

public import proofs.«01_k».proof.Proof.FlashIndex
public import proofs.«01_k».proof.Proof.FlashVal
public import Idealize.ShloMosaic.Lib.Pipeline.Value

@[expose] public section

set_option maxRecDepth 16384

/-!
The blocks that the call's windows show at a grid point, as parts of the arrays.
-/

noncomputable section

namespace Cert.Flash

open Cert.KernelIdeal Cert.KernelIdeal.Gen
open Idealize.ShloMosaic Idealize.ShloMosaic.TcCoe Idealize.ShloMosaic.Tactic
open Idealize.SL.Sem

/-- Rows `512 rb …` and lanes `128 h …` of an array of 16384 rows and 1024 lanes. -/
def blkAt (X : S16384x1024.Idx → EReal) (rb : Fin 32) (h : Fin 8) : Blk :=
  fun r d => X (ix2 (⟨rb.val * 512 + r.val, by have := rb.isLt; have := r.isLt; omega⟩ : Fin 16384)
    (⟨h.val * 128 + d.val, by have := h.isLt; have := d.isLt; omega⟩ : Fin 1024))

/-- The sequence's `j`-th row block. -/
def rowBlk (b : Fin 2) (j : ℕ) : Fin 32 := ⟨b.val * 16 + j % 16, by have := b.isLt; omega⟩

/-- The sequence, the head and the query block of row tile `R`. -/
def bOf (R : ℕ) : Fin 2 := ⟨R / 128 % 2, by omega⟩
def hOf (R : ℕ) : Fin 8 := ⟨R / 16 % 8, by omega⟩

variable (m : (ℓ : Loc nD τ sig) → Buf (Elt Ideal) ℓ) (c : Dev nD)

/-- The arrays the call is given, scaled queries, keys and values. -/
def qArr : S16384x1024.Idx → EReal := V (F := Ideal) m c main_v3
def kArr : S16384x1024.Idx → EReal := V (F := Ideal) m c main_v5
def vArr : S16384x1024.Idx → EReal := V (F := Ideal) m c main_v7

/-- Row tile `R`'s queries, and its sequence's blocks of keys and of values. -/
def qB (R : ℕ) : Blk := blkAt (qArr m c) (rowBlk (bOf R) R) (hOf R)
def kB (R j : ℕ) : Blk := blkAt (kArr m c) (rowBlk (bOf R) j) (hOf R)
def vB (R j : ℕ) : Blk := blkAt (vArr m c) (rowBlk (bOf R) j) (hOf R)

/-! ## Each window's block -/

/-- Query window. -/
theorem blk2 (t : Fin cfg0.N) : blkOf (iblk (F := Ideal) m c 2 t) = qB m c (t.val / 16) := by
  funext r d
  show V (F := Ideal) m c main_v3 _ = V (F := Ideal) m c main_v3 _
  congr 1
  funext a; apply Fin.ext
  have e := ((cfg0.win 2).rect_emb_val t (ix2 r d) a)
  refine e.trans ?_
  have h := idx2 t
  match a with
  | ⟨0, _⟩ =>
    show cc0_transform_2 (grid0.coords t) 0 * 512 + r.val = (t.val / 16 / 128 % 2 * 16 + t.val / 16 % 16) * 512 + r.val
    rw [h]; show (t.val / 2048 % 2 * 16 + t.val / 16 % 16) * 512 + r.val = _; omega
  | ⟨1, _⟩ =>
    show cc0_transform_2 (grid0.coords t) 1 * 128 + d.val = (t.val / 16 / 16 % 8) * 128 + d.val
    rw [h]; show (t.val / 256 % 8) * 128 + d.val = _; omega

theorem blk3 (t : Fin cfg0.N) (ht : t.val % 16 ≤ t.val / 16 % 16) :
    blkOf (iblk (F := Ideal) m c 3 t) = kB m c (t.val / 16) (t.val % 16) := by
  funext r d
  show V (F := Ideal) m c main_v5 _ = V (F := Ideal) m c main_v5 _
  congr 1
  funext a; apply Fin.ext
  have e := ((cfg0.win 3).rect_emb_val t (ix2 r d) a)
  refine e.trans ?_
  have h := idx3 t
  match a with
  | ⟨0, _⟩ =>
    show cc0_transform_3 (grid0.coords t) 0 * 512 + r.val = (t.val / 16 / 128 % 2 * 16 + t.val % 16 % 16) * 512 + r.val
    rw [h]; show (t.val / 2048 % 2 * 16 + min (t.val % 16) (t.val / 16 % 16)) * 512 + r.val = _
    rw [min_eq_left ht]; omega
  | ⟨1, _⟩ =>
    show cc0_transform_3 (grid0.coords t) 1 * 128 + d.val = (t.val / 16 / 16 % 8) * 128 + d.val
    rw [h]; show (t.val / 256 % 8) * 128 + d.val = _; omega

theorem blk4 (t : Fin cfg0.N) (ht : t.val % 16 ≤ t.val / 16 % 16) :
    blkOf (iblk (F := Ideal) m c 4 t) = vB m c (t.val / 16) (t.val % 16) := by
  funext r d
  show V (F := Ideal) m c main_v7 _ = V (F := Ideal) m c main_v7 _
  congr 1
  funext a; apply Fin.ext
  have e := ((cfg0.win 4).rect_emb_val t (ix2 r d) a)
  refine e.trans ?_
  have h := idx4 t
  match a with
  | ⟨0, _⟩ =>
    show cc0_transform_4 (grid0.coords t) 0 * 512 + r.val = (t.val / 16 / 128 % 2 * 16 + t.val % 16 % 16) * 512 + r.val
    rw [h]; show (t.val / 2048 % 2 * 16 + min (t.val % 16) (t.val / 16 % 16)) * 512 + r.val = _
    rw [min_eq_left ht]; omega
  | ⟨1, _⟩ =>
    show cc0_transform_4 (grid0.coords t) 1 * 128 + d.val = (t.val / 16 / 16 % 8) * 128 + d.val
    rw [h]; show (t.val / 256 % 8) * 128 + d.val = _; omega

theorem blk0 (t : Fin cfg0.N) (i : S4x64.Idx) : iblk (F := Ideal) m c 0 t i = V (F := Ideal) m c main_arg3 i := by
  show V (F := Ideal) m c main_arg3 _ = V (F := Ideal) m c main_arg3 _
  congr 1
  funext a; apply Fin.ext
  refine ((cfg0.win 0).rect_emb_val t i a).trans ?_
  match a with
  | ⟨0, _⟩ => exact (congrArg (· + (i 0).val) (Nat.zero_mul _)).trans (Nat.zero_add _)
  | ⟨1, _⟩ => exact (congrArg (· + (i 1).val) (Nat.zero_mul _)).trans (Nat.zero_add _)

theorem blk1 (t : Fin cfg0.N) (i : S1x128.Idx) : iblk (F := Ideal) m c 1 t i = V (F := Ideal) m c main_v8 i := by
  show V (F := Ideal) m c main_v8 _ = V (F := Ideal) m c main_v8 _
  congr 1
  funext a; apply Fin.ext
  refine ((cfg0.win 1).rect_emb_val t i a).trans ?_
  match a with
  | ⟨0, _⟩ => exact (congrArg (· + (i 0).val) (Nat.zero_mul _)).trans (Nat.zero_add _)
  | ⟨1, _⟩ => exact (congrArg (· + (i 1).val) (Nat.zero_mul _)).trans (Nat.zero_add _)

end Cert.Flash

end
-- ==== Proof.FlashScr.lean ====
module

public import proofs.«01_k».proof.Proof.FlashRunE
public import proofs.«01_k».proof.Proof.FlashBlocks

@[expose] public section

set_option maxRecDepth 16384

/-!
What the scratch and the windows hold at a grid point.
-/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- Stores that cover a buffer and together leave `G` leave the buffer owned at `G`. -/
theorem owns_of_writes (c : Dev nD) {s : Shape} {e : EltTy} (M : Memref sig .tc .vmem s e)
    (L : List (View.Piece (Elt Ideal) s e)) (hc : ∀ y, ∃ p ∈ L, y ∈ p.1.set) (G : s.Idx → Elt Ideal e) (h : View.canon L = G) :
    iprop(∃ f, M.view.loc (c : Thread nD τ) ↦[M.view.set]{fullShare} M.view.writes (Elt Ideal) f L)
      ⊢ (owns (c : Thread nD τ) M fullShare G : sProp 𝕄) := by
  subst h
  unfold owns
  iintro ⟨%f, H⟩
  iexists _; isplitr
  swap; · iexact H
  ipureintro; exact View.read_writes_eq_canon _ _ _ hc

/-- The scratch at anything. -/
def scrAny (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)
    ∗ (∃ d, owns (c : Thread nD τ) scM0_4 fullShare d))

/-- The scratch with the two halves of the query block `q` and the running values `S`. -/
def scr (c : Dev nD) (q : Blk) (S : St) : sProp 𝕄 :=
  iprop(∃ x y, ⌜blkOf x = qhalf q 0 ∧ blkOf y = qhalf q 1⌝
    ∗ owns (c : Thread nD τ) scM0_0 fullShare x ∗ owns (c : Thread nD τ) scM0_1 fullShare y
    ∗ owns (c : Thread nD τ) scM0_2 fullShare (toM S) ∗ owns (c : Thread nD τ) scM0_3 fullShare (toL S)
    ∗ owns (c : Thread nD τ) scM0_4 fullShare (toA S))

theorem scr_any (c : Dev nD) (q : Blk) (S : St) : scr c q S ⊢ scrAny c := by
  unfold scr scrAny
  iintro ⟨%x, %y, -, H0, H1, H2, H3, H4⟩
  isplitl [H0]; · iexists _; iexact H0
  isplitl [H1]; · iexists _; iexact H1
  isplitl [H2]; · iexists _; iexact H2
  isplitl [H3]; · iexists _; iexact H3
  iexists _; iexact H4

variable (m : (ℓ : Loc nD τ sig) → Buf (Elt Ideal) ℓ) (c : Dev nD)

/-- The five input windows at their blocks. -/
def inp (t : Fin cfg0.N) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t)
    ∗ owns (c : Thread nD τ) (ms0_4 t) fullShare (iblk m c 4 t))

/-- The running values of row tile `R` after `n` key blocks. -/
def stR (R n : ℕ) : St := stAt (R % 16) (qB m c R) (kB m c R) (vB m c R) n

theorem stR_succ (R n : ℕ) : stR m c R (n + 1) = (stR m c R n).step (sc (R % 16) n (qB m c R) (kB m c R n)) (vB m c R n) := rfl

/-- The output block of row tile `R`. -/
def outBlk (R : ℕ) : Blk :=
  outAt (fun a d => V (F := Ideal) m c main_arg3 (ix2 a d)) (fun e => V (F := Ideal) m c main_v8 (ix2 0 e)) (stR m c R (R % 16 + 1))

theorem coord2 (t : Fin cfg0.N) : (grid0.coords t 2).val = t.val / 16 % 16 := Pipeline.Grid.coords_val t 2 (by decide) rfl
theorem coord3 (t : Fin cfg0.N) : (grid0.coords t 3).val = t.val % 16 := by
  have h : (grid0.coords t 3).val = t.val / 1 % 16 := Pipeline.Grid.coords_val t 3 (by decide) rfl
  omega

/-- One step of the running values, from the blocks the windows show. -/
theorem step_at (t : Fin cfg0.N) (h : t.val % 16 ≤ t.val / 16 % 16) :
    (stR m c (t.val / 16) (t.val % 16)).step
        (sc (grid0.coords t 2).val (grid0.coords t 3).val (qB m c (t.val / 16)) (blkOf (iblk m c 3 t))) (blkOf (iblk m c 4 t))
      = stR m c (t.val / 16) (t.val % 16 + 1) := by
  rw [blk3 m c t h, blk4 m c t h, coord2, coord3, stR_succ]

/-- The output block, from the windows' contents. -/
theorem out_at (t : Fin cfg0.N) (S : St) : outAt (fun a d => iblk m c 0 t (ix2 a d)) (fun e => iblk m c 1 t (ix2 0 e)) S
    = outAt (fun a d => V (F := Ideal) m c main_arg3 (ix2 a d)) (fun e => V (F := Ideal) m c main_v8 (ix2 0 e)) S := by
  congr 1
  · funext a d; exact blk0 m c t _
  · funext e; exact blk1 m c t _

end Cert.Flash

end
-- ==== Proof.FlashHost.lean ====
module

public import proofs.«01_k».proof.Proof.FlashScr
public import Idealize.ShloMosaic.Lib.Pipeline.Value

@[expose] public section

set_option maxRecDepth 16384

/-!
What the host leaves in the arrays that the kernel reads: the queries scaled, the keys and the values, each flattened to
rows of heads side by side.
-/

noncomputable section

namespace Cert.Flash

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The queries, keys, values, lambda vectors and gains as functions of their coordinates. -/
def qOf : Fin 2 → Fin 8192 → Fin 8 → Fin 2 → Fin 64 → EReal := fun b t h u d => m ((c : Thread nD τ).loc main_arg0) (ix5 b t h u d)
@[inherit_doc qOf] def kOf : Fin 2 → Fin 8192 → Fin 8 → Fin 2 → Fin 64 → EReal := fun b t h u d => m ((c : Thread nD τ).loc main_arg1) (ix5 b t h u d)
@[inherit_doc qOf] def vOf : Fin 2 → Fin 8192 → Fin 8 → Fin 128 → EReal := fun b t h e => m ((c : Thread nD τ).loc main_arg2) (ix4 b t h e)
@[inherit_doc qOf] def lOf : Fin 4 → Fin 64 → EReal := fun a d => m ((c : Thread nD τ).loc main_arg3) (ix2 a d)
@[inherit_doc qOf] def gOf : Fin 128 → EReal := fun e => m ((c : Thread nD τ).loc main_arg4) (ix1 e)

theorem V_v3 : V (F := Ideal) m c main_v3 = truncf (F := Ideal) .bf16 (mulf (shapeCast _ (m ((c : Thread nD τ).loc main_arg0)) shapeCasts_S2x8192x8x2x64_S16384x1024)
    (broadcastInDim S16384x1024 ![] bcast_S_S16384x1024 (constant S_ .f32 0x3E000000#32))) bitsLt_bf16_f32 := by
  show StableHlo.after hostOps0 _ (Proc.devRef .tc main_v3) = _
  after_results
  rfl

theorem V_v5 : V (F := Ideal) m c main_v5 = truncf (F := Ideal) .bf16 (shapeCast _ (m ((c : Thread nD τ).loc main_arg1)) shapeCasts_S2x8192x8x2x64_S16384x1024) bitsLt_bf16_f32 := by
  show StableHlo.after hostOps0 _ (Proc.devRef .tc main_v5) = _
  after_results
  rfl

theorem V_v7 : V (F := Ideal) m c main_v7 = truncf (F := Ideal) .bf16 (shapeCast _ (m ((c : Thread nD τ).loc main_arg2)) shapeCasts_S2x8192x8x128_S16384x1024) bitsLt_bf16_f32 := by
  show StableHlo.after hostOps0 _ (Proc.devRef .tc main_v7) = _
  after_results
  rfl

theorem V_v8 : V (F := Ideal) m c main_v8 = shapeCast _ (m ((c : Thread nD τ).loc main_arg4)) shapeCasts_S128_S1x128 := by
  show StableHlo.after hostOps0 _ (Proc.devRef .tc main_v8) = _
  after_results
  rfl

/-- Five axes flattened to two, read at an index. -/
theorem flat5 (x : S2x8192x8x2x64.Idx → EReal) (b : Fin 2) (t : Fin 8192) (h : Fin 8) (u : Fin 2) (d : Fin 64)
    (i : Fin 16384) (j : Fin 1024) (hi : i.val = b.val * 8192 + t.val) (hj : j.val = h.val * 128 + u.val * 64 + d.val) :
    shapeCast _ x shapeCasts_S2x8192x8x2x64_S16384x1024 (ix2 i j) = x (ix5 b t h u d) :=
  shapeCast_apply x shapeCasts_S2x8192x8x2x64_S16384x1024 (ix2 i j) (ix5 b t h u d) (by
    rewrite [Shape.rowMajor_val_two, Shape.rowMajor_val_five]
    show (((b.val * 8192 + t.val) * 8 + h.val) * 2 + u.val) * 64 + d.val = i.val * 1024 + j.val
    omega)

/-- Four axes flattened to two, read at an index. -/
theorem flat4 (x : S2x8192x8x128.Idx → EReal) (b : Fin 2) (t : Fin 8192) (h : Fin 8) (e : Fin 128)
    (i : Fin 16384) (j : Fin 1024) (hi : i.val = b.val * 8192 + t.val) (hj : j.val = h.val * 128 + e.val) :
    shapeCast _ x shapeCasts_S2x8192x8x128_S16384x1024 (ix2 i j) = x (ix4 b t h e) :=
  shapeCast_apply x shapeCasts_S2x8192x8x128_S16384x1024 (ix2 i j) (ix4 b t h e) (by
    rewrite [Shape.rowMajor_val_two, Shape.rowMajor_val_four]
    show ((b.val * 8192 + t.val) * 8 + h.val) * 128 + e.val = i.val * 1024 + j.val
    omega)

theorem V_q (b : Fin 2) (t : Fin 8192) (h : Fin 8) (u : Fin 2) (d : Fin 64) (i : Fin 16384) (j : Fin 1024)
    (hi : i.val = b.val * 8192 + t.val) (hj : j.val = h.val * 128 + u.val * 64 + d.val) :
    V (F := Ideal) m c main_v3 (ix2 i j) = qOf m c b t h u d * Ideal.ofBits .f32 0x3E000000#32 := by
  rw [V_v3]
  exact congrArg (fun x : EReal => x * Ideal.ofBits .f32 0x3E000000#32) (flat5 _ b t h u d i j hi hj)

theorem V_k (b : Fin 2) (t : Fin 8192) (h : Fin 8) (u : Fin 2) (d : Fin 64) (i : Fin 16384) (j : Fin 1024)
    (hi : i.val = b.val * 8192 + t.val) (hj : j.val = h.val * 128 + u.val * 64 + d.val) :
    V (F := Ideal) m c main_v5 (ix2 i j) = kOf m c b t h u d := by
  rw [V_v5]
  exact flat5 _ b t h u d i j hi hj

theorem V_va (b : Fin 2) (t : Fin 8192) (h : Fin 8) (e : Fin 128) (i : Fin 16384) (j : Fin 1024)
    (hi : i.val = b.val * 8192 + t.val) (hj : j.val = h.val * 128 + e.val) :
    V (F := Ideal) m c main_v7 (ix2 i j) = vOf m c b t h e := by
  rw [V_v7]
  exact flat4 _ b t h e i j hi hj

theorem V_g (e : Fin 128) : V (F := Ideal) m c main_v8 (ix2 0 e) = gOf m c e := by
  rw [V_v8]
  exact shapeCast_apply _ shapeCasts_S128_S1x128 (ix2 0 e) (ix1 e) (by
    rewrite [Shape.rowMajor_val_two, Shape.rowMajor_val_one]
    show e.val = 0 * 128 + e.val
    omega)

theorem V_l (a : Fin 4) (d : Fin 64) : V (F := Ideal) m c main_arg3 (ix2 a d) = lOf m c a d := by
  rw [V_main_arg3]; rfl

end Cert.Flash

end
-- ==== Proof.FlashStore.lean ====
module

public import proofs.«01_k».proof.Proof.FlashVal
public import Idealize.ShloMosaic.Lib.Pipeline.ValueKit

@[expose] public section

set_option maxRecDepth 16384

/-!
The running values are kept in arrays with a leading axis of length two, one entry per softmax component, and the body
stores one entry at a time. This module reads such stores and loads at an index, and puts the body's updates in the
words of the specification.
-/

noncomputable section

namespace Cert.Flash

open Cert.KernelIdeal Cert.KernelIdeal.Gen
open Idealize.ShloMosaic Idealize.ShloMosaic.TcCoe Idealize.ShloMosaic.Tactic
open Idealize.SL.Sem

section Stores
variable {T : ℕ} {Val : EltTy → Type} {e : EltTy}

/-- An array of two entries of 512 rows of `T` lanes. -/
abbrev S2T (T : ℕ) : Shape := ⟨3, ![2, 512, T]⟩

theorem emb_ix3 (c : ℕ) (hc : c < 2) (inb : ∀ a, (![c, 0, 0] : Fin 3 → ℕ) a + (![1, 512, T] : Fin 3 → ℕ) a ≤ (S2T T).size a)
    (z : Fin 1) (r : Fin 512) (d : Fin T) :
    (Rect.unit (s := S2T T) ![c, 0, 0] ![1, 512, T] inb).idx (ix3 z r d) = ix3 (⟨c, hc⟩ : Fin 2) r d := by
  obtain rfl : z = 0 := Subsingleton.elim _ _
  funext a; apply Fin.ext
  match a with
  | ⟨0, _⟩ => show c + 1 * 0 = c; omega
  | ⟨1, _⟩ => show 0 + 1 * r.val = r.val; omega
  | ⟨2, _⟩ => show 0 + 1 * d.val = d.val; omega

/-- A load of entry `c`, at an index. -/
theorem ld_entry (X : (S2T T).Idx → Val e) (c : ℕ) (hc : c < 2) (inb) (z : Fin 1) (r : Fin 512) (d : Fin T) :
    View.ld X (Rect.unit (s := S2T T) ![c, 0, 0] ![1, 512, T] inb) (ix3 z r d) = X (ix3 (⟨c, hc⟩ : Fin 2) r d) :=
  congrArg X (emb_ix3 c hc inb z r d)

variable [∀ e, Nonempty (Val e)]

/-- What a store of entry `c` leaves in entry `c`. -/
theorem canon_entry (c : ℕ) (hc : c < 2) (inb) (w : (Rect.unit (s := S2T T) ![c, 0, 0] ![1, 512, T] inb).shape.Idx → Val e)
    (L : List (View.Piece Val (S2T T) e)) (c' : Fin 2) (r : Fin 512) (d : Fin T) :
    View.canon (⟨Rect.unit (s := S2T T) ![c, 0, 0] ![1, 512, T] inb, w⟩ :: L) (ix3 c' r d)
      = if c'.val = c then w (ix3 0 r d) else View.canon L (ix3 c' r d) := by
  split
  · rename_i h
    have : ix3 c' r d = (Rect.unit (s := S2T T) ![c, 0, 0] ![1, 512, T] inb).emb (ix3 0 r d) := by
      refine Eq.trans ?_ (emb_ix3 c hc inb 0 r d).symm
      exact congrArg (fun x => ix3 x r d) (Fin.ext h)
    rw [this]; exact View.canon_cons_emb _ _ _ _
  · rename_i h
    refine View.canon_cons_of_not_mem _ _ ?_
    intro hm
    have h0 := (Rect.mem_set_unit (inb := inb)).mp hm 0
    have h1 : c ≤ c'.val ∧ c'.val < c + 1 := h0
    omega

/-- What stores of both entries leave, when each is the entry of one array `G`. -/
theorem canon_entries (inb1 inb0) (w1 : (Rect.unit (s := S2T T) ![1, 0, 0] ![1, 512, T] inb1).shape.Idx → Val e)
    (w0 : (Rect.unit (s := S2T T) ![0, 0, 0] ![1, 512, T] inb0).shape.Idx → Val e) (L : List (View.Piece Val (S2T T) e))
    (G : (S2T T).Idx → Val e) (h1 : ∀ (r : Fin 512) (d : Fin T), w1 (ix3 0 r d) = G (ix3 1 r d))
    (h0 : ∀ (r : Fin 512) (d : Fin T), w0 (ix3 0 r d) = G (ix3 0 r d)) :
    View.canon ((⟨Rect.unit (s := S2T T) ![1, 0, 0] ![1, 512, T] inb1, w1⟩ : View.Piece Val (S2T T) e)
        :: ⟨Rect.unit (s := S2T T) ![0, 0, 0] ![1, 512, T] inb0, w0⟩ :: L) = G := by
  have key : ∀ (cc : Fin 2) (r : Fin 512) (d : Fin T),
      View.canon ((⟨Rect.unit (s := S2T T) ![1, 0, 0] ![1, 512, T] inb1, w1⟩ : View.Piece Val (S2T T) e)
        :: ⟨Rect.unit (s := S2T T) ![0, 0, 0] ![1, 512, T] inb0, w0⟩ :: L) (ix3 cc r d) = G (ix3 cc r d) := by
    intro cc r d
    rw [canon_entry 1 (by norm_num), canon_entry 0 (by norm_num)]
    match cc with
    | ⟨0, _⟩ => rw [if_neg (by norm_num), if_pos rfl]; exact h0 r d
    | ⟨1, _⟩ => rw [if_pos rfl]; exact h1 r d
  funext y; rw [eq_ix3 y]; exact key _ _ _

/-- A load of entry `c` from what earlier stores left. -/
theorem readCov_entry {sig : RefSig} {κ : Kind} {sp : Space} (v : View sig κ sp (S2T T) e) (L : List (View.Piece Val (S2T T) e))
    (c : ℕ) (hc : c < 2) (inb) (z : Fin 1) (r : Fin 512) (d : Fin T) :
    v.readCov L (Rect.unit (s := S2T T) ![c, 0, 0] ![1, 512, T] inb).toLoadRect (ix3 z r d)
      = View.canon L (ix3 (⟨c, hc⟩ : Fin 2) r d) := by
  rw [View.readCov_eq_canon']
  exact congrArg (View.canon L) (emb_ix3 c hc inb z r d)

/-- Stores of both entries cover the array. -/
theorem cover_entries (inb1 inb0) (w1 : (Rect.unit (s := S2T T) ![1, 0, 0] ![1, 512, T] inb1).shape.Idx → Val e)
    (w0 : (Rect.unit (s := S2T T) ![0, 0, 0] ![1, 512, T] inb0).shape.Idx → Val e) (L : List (View.Piece Val (S2T T) e))
    (y : (S2T T).Idx) :
    ∃ p ∈ ((⟨Rect.unit (s := S2T T) ![1, 0, 0] ![1, 512, T] inb1, w1⟩ : View.Piece Val (S2T T) e)
        :: ⟨Rect.unit (s := S2T T) ![0, 0, 0] ![1, 512, T] inb0, w0⟩ :: L), y ∈ p.1.set := by
  have hy0 : (y 0).val < 2 := (y 0).isLt
  by_cases h : (y 0).val = 1
  · refine ⟨_, List.mem_cons_self, (Rect.mem_set_unit (inb := inb1)).mpr fun a => ?_⟩
    match a with
    | ⟨0, _⟩ => exact ⟨by show 1 ≤ (y 0).val; omega, by show (y 0).val < 1 + 1; omega⟩
    | ⟨1, _⟩ => exact ⟨Nat.zero_le _, by show (y 1).val < 0 + 512; have : (y 1).val < 512 := (y 1).isLt; omega⟩
    | ⟨2, _⟩ => exact ⟨Nat.zero_le _, by show (y 2).val < 0 + T; have : (y 2).val < T := (y 2).isLt; omega⟩
  · refine ⟨_, List.mem_cons_of_mem _ List.mem_cons_self, (Rect.mem_set_unit (inb := inb0)).mpr fun a => ?_⟩
    match a with
    | ⟨0, _⟩ => exact ⟨Nat.zero_le _, by show (y 0).val < 0 + 1; omega⟩
    | ⟨1, _⟩ => exact ⟨Nat.zero_le _, by show (y 1).val < 0 + 512; have : (y 1).val < 512 := (y 1).isLt; omega⟩
    | ⟨2, _⟩ => exact ⟨Nat.zero_le _, by show (y 2).val < 0 + T; have : (y 2).val < T := (y 2).isLt; omega⟩

end Stores

/-- A load of a whole `512 × 128` array. -/
theorem ld_whole {Val : EltTy → Type} {e : EltTy} (X : S512x128.Idx → Val e) (inb) :
    View.ld X (Rect.unit (s := S512x128) ![0, 0] ![512, 128] inb) = X :=
  View.ld_unit_lit (S := S512x128) inb X (by decide)

theorem ld_whole_lam {Val : EltTy → Type} {e : EltTy} (X : S4x64.Idx → Val e) (inb) :
    View.ld X (Rect.unit (s := S4x64) ![0, 0] ![4, 64] inb) = X := View.ld_unit_lit (S := S4x64) inb X (by decide)
theorem ld_whole_gain {Val : EltTy → Type} {e : EltTy} (X : S1x128.Idx → Val e) (inb) :
    View.ld X (Rect.unit (s := S1x128) ![0, 0] ![1, 128] inb) = X := View.ld_unit_lit (S := S1x128) inb X (by decide)

/-- What a store of a whole `512 × 128` array leaves. -/
theorem canon_whole {Val : EltTy → Type} [∀ e, Nonempty (Val e)] {e : EltTy} (inb)
    (w : (Rect.unit (s := S512x128) ![0, 0] ![512, 128] inb).shape.Idx → Val e) (L : List (View.Piece Val S512x128 e)) :
    View.canon ((⟨Rect.unit (s := S512x128) ![0, 0] ![512, 128] inb, w⟩ : View.Piece Val S512x128 e) :: L) = w :=
  View.canon_cons_unit_lit (S := S512x128) inb w L (by decide)

theorem cover_whole {Val : EltTy → Type} {e : EltTy} (inb)
    (w : (Rect.unit (s := S512x128) ![0, 0] ![512, 128] inb).shape.Idx → Val e) (L : List (View.Piece Val S512x128 e)) (y : S512x128.Idx) :
    ∃ p ∈ ((⟨Rect.unit (s := S512x128) ![0, 0] ![512, 128] inb, w⟩ : View.Piece Val S512x128 e) :: L), y ∈ p.1.set := by
  refine ⟨_, List.mem_cons_self, (Rect.mem_set_unit (inb := inb)).mpr fun a => ?_⟩
  match a with
  | ⟨0, _⟩ => exact ⟨Nat.zero_le _, by show (y 0).val < 0 + 512; have : (y 0).val < 512 := (y 0).isLt; omega⟩
  | ⟨1, _⟩ => exact ⟨Nat.zero_le _, by show (y 1).val < 0 + 128; have : (y 1).val < 128 := (y 1).isLt; omega⟩

/-- The output expression, from loads that hold the running values. -/
theorem out_val (x0 : Vec Ideal S4x64 .f32) (x1 : Vec Ideal S1x128 .f32) (S : St) {a0 a1 : Vec Ideal S1x512x128 .f32}
    {l0 l1 : Vec Ideal S1x512x1 .f32} (ha0 : ∀ r e, a0 (ix3 0 r e) = S.a 0 r e) (hl0 : ∀ r, l0 (ix3 0 r 0) = S.l 0 r)
    (ha1 : ∀ r e, a1 (ix3 0 r e) = S.a 1 r e) (hl1 : ∀ r, l1 (ix3 0 r 0) = S.l 1 r) (r : Fin 512) (e : Fin 128) :
    k0_pay13 (F := Ideal) (k0_pay49 x0 a0 l0 a1 l1) (k0_pay50 x1) (k0_pay51 x0 a0 l0 a1 l1)
        (FloatOps.ofBits .f32 0x358637BD#32) (ix2 r e)
      = outAt (fun a d => x0 (ix2 a d)) (fun e => x1 (ix2 0 e)) S r e := by
  refine (pay13_apply x0 x1 a0 l0 a1 l1 r e).trans ?_
  simp only [pay49_apply, ha0, hl0, ha1, hl1]; rfl

/-- A load of the whole of what one store of the whole left. -/
theorem readCov_whole {sig : RefSig} {κ : Kind} {sp : Space} {Val : EltTy → Type} [∀ e, Nonempty (Val e)] {e : EltTy}
    (v : View sig κ sp S512x128 e) (inb) (w : (Rect.unit (s := S512x128) ![0, 0] ![512, 128] inb).shape.Idx → Val e)
    (L : List (View.Piece Val S512x128 e)) (inb') :
    v.readCov ((⟨Rect.unit (s := S512x128) ![0, 0] ![512, 128] inb, w⟩ : View.Piece Val S512x128 e) :: L)
      (Rect.unit (s := S512x128) ![0, 0] ![512, 128] inb').toLoadRect = w :=
  View.readCov_cons_toLoadRect _ _ _ _

/-- What one store of the whole array of two entries leaves. -/
theorem canon_init {T : ℕ} {Val : EltTy → Type} [∀ e, Nonempty (Val e)] {e : EltTy} (inb)
    (w : (Rect.unit (s := S2T T) ![0, 0, 0] ![2, 512, T] inb).shape.Idx → Val e) (L : List (View.Piece Val (S2T T) e)) :
    View.canon ((⟨Rect.unit (s := S2T T) ![0, 0, 0] ![2, 512, T] inb, w⟩ : View.Piece Val (S2T T) e) :: L) = w :=
  View.canon_cons_unit_lit (S := S2T T) inb w L (fun a => match a with | ⟨0, _⟩ => rfl | ⟨1, _⟩ => rfl | ⟨2, _⟩ => rfl)

/-- A load of entry 0 from a freshly set array. -/
theorem readCov_init0 {T : ℕ} {sig : RefSig} {κ : Kind} {sp : Space} {Val : EltTy → Type} [∀ e, Nonempty (Val e)] {e : EltTy}
    (v : View sig κ sp (S2T T) e) (inb) (w : (Rect.unit (s := S2T T) ![0, 0, 0] ![2, 512, T] inb).shape.Idx → Val e)
    (inb') (z : Fin 1) (r : Fin 512) (d : Fin T) :
    v.readCov [(⟨Rect.unit (s := S2T T) ![0, 0, 0] ![2, 512, T] inb, w⟩ : View.Piece Val (S2T T) e)]
      (Rect.unit (s := S2T T) ![0, 0, 0] ![1, 512, T] inb').toLoadRect (ix3 z r d) = w (ix3 0 r d) :=
  (readCov_entry v _ 0 (by norm_num) inb' z r d).trans (congrFun (canon_init inb w []) _)

/-- A load of entry 1 from a freshly set array whose entry 0 has been stored. -/
theorem readCov_init1 {T : ℕ} {sig : RefSig} {κ : Kind} {sp : Space} {Val : EltTy → Type} [∀ e, Nonempty (Val e)] {e : EltTy}
    (v : View sig κ sp (S2T T) e) (inb0) (w0 : (Rect.unit (s := S2T T) ![0, 0, 0] ![1, 512, T] inb0).shape.Idx → Val e) (inb)
    (w : (Rect.unit (s := S2T T) ![0, 0, 0] ![2, 512, T] inb).shape.Idx → Val e) (inb') (z : Fin 1) (r : Fin 512) (d : Fin T) :
    v.readCov [(⟨Rect.unit (s := S2T T) ![0, 0, 0] ![1, 512, T] inb0, w0⟩ : View.Piece Val (S2T T) e),
        ⟨Rect.unit (s := S2T T) ![0, 0, 0] ![2, 512, T] inb, w⟩]
      (Rect.unit (s := S2T T) ![1, 0, 0] ![1, 512, T] inb').toLoadRect (ix3 z r d) = w (ix3 1 r d) := by
  refine (readCov_entry v _ 1 (by norm_num) inb' z r d).trans ?_
  rw [canon_entry 0 (by norm_num), if_neg (by norm_num)]
  exact congrFun (canon_init inb w []) _

/-- Collecting what a point leaves: the two running sums are available to the output's statement. -/
theorem pack_out {P2 P3 P4 P5 Q2 Q3 Q4 Q5 : Prop} (p2 : P2) (p3 : P3) (p4 : P4) (p5 : P5) (q2 : Q2) (q3 : Q3) (q4 : Q4)
    (q5 : Q3 → Q4 → Q5) : (P2 ∧ Q2) ∧ (P3 ∧ Q3) ∧ (P4 ∧ Q4) ∧ (P5 ∧ Q5) :=
  ⟨⟨p2, q2⟩, ⟨p3, q3⟩, ⟨p4, q4⟩, p5, q5 q3 q4⟩

section Entries
variable (S : St) (r : Fin 512) (e : Fin 128)

theorem ld_m0 : View.ld (toM S) (Rect.unit ![0, 0, 0] ![1, 512, 1] inb_S2x512x1_S1x512x1_0_0_0) (ix3 0 r 0) = S.m 0 r :=
  ld_entry (toM S) 0 (by norm_num) _ 0 r 0
theorem ld_m1 : View.ld (toM S) (Rect.unit ![1, 0, 0] ![1, 512, 1] inb_S2x512x1_S1x512x1_1_0_0) (ix3 0 r 0) = S.m 1 r :=
  ld_entry (toM S) 1 (by norm_num) _ 0 r 0
theorem ld_l0 : View.ld (toL S) (Rect.unit ![0, 0, 0] ![1, 512, 1] inb_S2x512x1_S1x512x1_0_0_0) (ix3 0 r 0) = S.l 0 r :=
  ld_entry (toL S) 0 (by norm_num) _ 0 r 0
theorem ld_l1 : View.ld (toL S) (Rect.unit ![1, 0, 0] ![1, 512, 1] inb_S2x512x1_S1x512x1_1_0_0) (ix3 0 r 0) = S.l 1 r :=
  ld_entry (toL S) 1 (by norm_num) _ 0 r 0
theorem ld_a0 : View.ld (toA S) (Rect.unit ![0, 0, 0] ![1, 512, 128] inb_S2x512x128_S1x512x128_0_0_0) (ix3 0 r e) = S.a 0 r e :=
  ld_entry (toA S) 0 (by norm_num) _ 0 r e
theorem ld_a1 : View.ld (toA S) (Rect.unit ![1, 0, 0] ![1, 512, 128] inb_S2x512x128_S1x512x128_1_0_0) (ix3 0 r e) = S.a 1 r e :=
  ld_entry (toA S) 1 (by norm_num) _ 0 r e

end Entries

/-! ## The body's stored vectors, as the update -/

section Pays
variable (k q v : Vec Ideal S512x128 .bf16) (m l : Vec Ideal S1x512x1 .f32) (a : Vec Ideal S1x512x128 .f32)
  (i j : BitVec 32) (r : Fin 512) (z : Fin 1) (e : Fin 128)

theorem pay24_row (w : FVec Ideal S512x1 .f32) : k0_pay24 w (ix3 0 r z) = w (ix2 r z) := by
  obtain rfl : z = 0 := Subsingleton.elim _ _
  pointwise [k0_pay24]
theorem pay9_row (w : FVec Ideal S512x1 .f32) : k0_pay9 w (ix3 0 r z) = w (ix2 r z) := pay24_row r z w
theorem pay10_row (w : FVec Ideal S512x1 .f32) : k0_pay10 w (ix3 0 r z) = w (ix2 r z) := pay24_row r z w
theorem pay12_row (w : FVec Ideal S512x1 .f32) : k0_pay12 w (ix3 0 r z) = w (ix2 r z) := pay24_row r z w
theorem pay42_row (w : FVec Ideal S512x1 .f32) : k0_pay42 w (ix3 0 r z) = w (ix2 r z) := pay24_row r z w
theorem pay8_row (w : FVec Ideal S512x128 .f32) : k0_pay8 w (ix3 0 r e) = w (ix2 r e) := by pointwise [k0_pay8]
theorem pay23_row (w : FVec Ideal S512x128 .f32) : k0_pay23 w (ix3 0 r e) = w (ix2 r e) := pay8_row r e w

theorem pay15_val : k0_pay15 v = v := by funext i; rw [eq_ix2 i]; pointwise [k0_pay15]
theorem pay33_val : k0_pay33 v = v := pay15_val v
theorem pay14_val : k0_pay14 v = v := pay15_val v
theorem pay32_val : k0_pay32 v = v := pay15_val v

theorem pay18_val : k0_pay18 k q m = vM (k0_pay16 k q) m := rfl
theorem pay27_val : k0_pay27 (k0_pay14 k) q m = vM (k0_pay16 k q) m := rfl
theorem pay37_val : k0_pay37 i j k q m = vM (k0_pay35 i j k q) m := rfl
theorem pay45_val : k0_pay45 (k0_pay32 k) (k0_pay34 i j) q m = vM (k0_pay35 i j k q) m := rfl

theorem pay21_row : k0_pay21 k q m l (ix3 0 r z) = vL (k0_pay16 k q) m l (ix2 r z) := pay24_row r z (vL (k0_pay16 k q) m l)
theorem pay30_row : k0_pay30 (k0_pay14 k) q m l (ix3 0 r z) = vL (k0_pay16 k q) m l (ix2 r z) :=
  pay24_row r z (vL (k0_pay16 k q) m l)
theorem pay40_row : k0_pay40 i j k q m l (ix3 0 r z) = vL (k0_pay35 i j k q) m l (ix2 r z) :=
  pay24_row r z (vL (k0_pay35 i j k q) m l)
theorem pay48_val : k0_pay48 (k0_pay32 k) (k0_pay34 i j) q m l = vL (k0_pay35 i j k q) m l := rfl

theorem pay22_val : k0_pay22 k v q m a = vA (k0_pay16 k q) m (k0_pay15 v) a := rfl
theorem pay31_val : k0_pay31 (k0_pay14 k) (k0_pay15 v) q m a = vA (k0_pay16 k q) m (k0_pay15 v) a := rfl
theorem pay41_row : k0_pay41 (k0_pay33 v) (k0_pay38 i j k q m) (k0_pay39 i j k q m) a (ix3 0 r e)
    = vA (k0_pay35 i j k q) m (k0_pay33 v) a (ix2 r e) := pay8_row r e (vA (k0_pay35 i j k q) m (k0_pay33 v) a)
theorem pay11_row : k0_pay11 (k0_pay33 v) (k0_pay46 (k0_pay32 k) (k0_pay34 i j) q m) (k0_pay47 (k0_pay32 k) (k0_pay34 i j) q m) a (ix3 0 r e)
    = vA (k0_pay35 i j k q) m (k0_pay33 v) a (ix2 r e) := pay8_row r e (vA (k0_pay35 i j k q) m (k0_pay33 v) a)

end Pays

/-! ## The update in the specification's words -/

section Upd
variable {s : FVec Ideal S512x512 .f32} {m l : Vec Ideal S1x512x1 .f32} {v : Vec Ideal S512x128 .bf16}
  {a : Vec Ideal S1x512x128 .f32} (S : St) (scv : Fin 2 → Fin 512 → Fin 512 → EReal) (c : Fin 2)

theorem upd_m (hs : ∀ r j, s (ix2 r j) = scv c r j) (hm : ∀ r, m (ix3 0 r 0) = S.m c r) (r : Fin 512) (z : Fin 1) :
    vM s m (ix2 r z) = S.newM scv c r := by
  rw [vM_apply, hm]; simp only [hs]; rfl
theorem upd_l (hs : ∀ r j, s (ix2 r j) = scv c r j) (hm : ∀ r, m (ix3 0 r 0) = S.m c r) (hl : ∀ r, l (ix3 0 r 0) = S.l c r)
    (r : Fin 512) (z : Fin 1) : vL s m l (ix2 r z) = (S.step scv (blkOf v)).l c r := by
  rw [vL_apply, vC_apply, hl, hm]; simp only [vP_apply, upd_m S scv c hs hm, hs]; rfl
theorem upd_a (hs : ∀ r j, s (ix2 r j) = scv c r j) (hm : ∀ r, m (ix3 0 r 0) = S.m c r) (ha : ∀ r e, a (ix3 0 r e) = S.a c r e)
    (r : Fin 512) (e : Fin 128) : vA s m v a (ix2 r e) = (S.step scv (blkOf v)).a c r e := by
  rw [vA_apply, vC_apply, ha, hm]; simp only [vP_apply, upd_m S scv c hs hm, hs]; rfl

end Upd

end Cert.Flash

end
-- ==== Proof.FlashStepA.lean ====
module

public import proofs.«01_k».proof.Proof.FlashStore
public import proofs.«01_k».proof.Proof.FlashRunA

@[expose] public section

set_option maxRecDepth 16384

/-!
The first key block of the first row tile: the running values the body leaves are one step of the specification from its
start, and the output block is stored.
-/

noncomputable section

namespace Cert.Flash

open Cert.KernelIdeal Cert.KernelIdeal.Gen
open Idealize.ShloMosaic Idealize.ShloMosaic.TcCoe Idealize.ShloMosaic.Tactic
open Idealize.SL.Sem

variable (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)

/-- The three arrays after such a block. -/
theorem runA_val (h0 : cond0_0 i) (h1 : ¬cond0_1 i) (h2 : cond0_2 i) (h3 : cond0_3 i)
    (x0 : Vec Ideal S4x64 .f32) (x1 : Vec Ideal S1x128 .f32) (x2 x3 x4 : Vec Ideal S512x128 .bf16)
    (hi : (i 2).val < 16) (hj : (i 3).val < 16) :
    let R := runA (F := Ideal) c i arg4 harg4 arg5 harg5 arg6 harg6 arg7 harg7 arg8 harg8 arg9 harg9 arg10 harg10 arg11 harg11 arg12 harg12 arg13 harg13 arg14 harg14 h0 h1 h2 h3 x0 x1 x2 x3 x4
    let S' := St.init.step (sc (i 2).val (i 3).val (blkOf x2) (blkOf x3)) (blkOf x4)
    ((∀ y, ∃ p ∈ R.2.2.2.1, y ∈ p.1.set) ∧ View.canon R.2.2.2.1 = toM S')
      ∧ ((∀ y, ∃ p ∈ R.2.2.2.2.1, y ∈ p.1.set) ∧ View.canon R.2.2.2.2.1 = toL S')
      ∧ ((∀ y, ∃ p ∈ R.2.2.2.2.2.1, y ∈ p.1.set) ∧ View.canon R.2.2.2.2.2.1 = toA S')
      ∧ ((∀ y, ∃ p ∈ R.1, y ∈ p.1.set) ∧ ∀ r e, View.canon R.1 (ix2 r e) = outAt (fun a d => x0 (ix2 a d)) (fun e => x1 (ix2 0 e)) S' r e) := by
  have hs0 : ∀ r j, k0_pay35 (F := Ideal) (BitVec.ofNat 32 (i 2).val) (BitVec.ofNat 32 (i 3).val) x3 (k0_pay3 x2) (ix2 r j) = sc (i 2).val (i 3).val (blkOf x2) (blkOf x3) 0 r j := by
    intro r j; rw [pay35_apply _ _ hi hj, pay3_val]; rfl
  have hs1 : ∀ r j, k0_pay35 (F := Ideal) (BitVec.ofNat 32 (i 2).val) (BitVec.ofNat 32 (i 3).val) x3 (k0_pay4 x2) (ix2 r j) = sc (i 2).val (i 3).val (blkOf x2) (blkOf x3) 1 r j := by
    intro r j; rw [pay35_apply _ _ hi hj, pay4_val]; rfl
  intro R S'
  simp only [R]
  unfold runA
  dsimp only
  sl_unfold_words
  simp only [View.readAt_eq_ld, Memref.IsWhole.read_unread, pay37_val, pay45_val, pay48_val]
  simp only [ld_whole x2, ld_whole x3, ld_whole x4, ld_whole_lam x0, ld_whole_gain x1]
  simp only [readCov_whole]
  clear R
  refine pack_out (cover_entries _ _ _ _ _) (cover_entries _ _ _ _ _) (cover_entries _ _ _ _ _) (cover_whole _ _ _)
    (canon_entries _ _ _ _ _ _ (fun r z => ?_) (fun r z => ?_)) (canon_entries _ _ _ _ _ _ (fun r z => ?_) (fun r z => ?_))
    (canon_entries _ _ _ _ _ _ (fun r z => ?_) (fun r z => ?_)) (fun hL hA r e => ?_)
  · rw [pay12_row]
    exact upd_m St.init _ 1 hs1 (fun r => (readCov_init1 arg12.view _ _ _ _ _ 0 r 0).trans (congrFun pay5_val _)) r z
  · rw [pay42_row]
    exact upd_m St.init _ 0 hs0 (fun r => (readCov_init0 arg12.view _ _ _ 0 r 0).trans (congrFun pay5_val _)) r z
  · rw [pay10_row]
    exact upd_l (v := x4) St.init _ 1 hs1 (fun r => (readCov_init1 arg12.view _ _ _ _ _ 0 r 0).trans (congrFun pay5_val _)) (fun r => (readCov_init1 arg13.view _ _ _ _ _ 0 r 0).trans (congrFun pay6_val _)) r z
  · rw [pay40_row]
    exact upd_l (v := x4) St.init _ 0 hs0 (fun r => (readCov_init0 arg12.view _ _ _ 0 r 0).trans (congrFun pay5_val _)) (fun r => (readCov_init0 arg13.view _ _ _ 0 r 0).trans (congrFun pay6_val _)) r z
  · rw [pay11_row, pay33_val]
    exact upd_a St.init _ 1 hs1 (fun r => (readCov_init1 arg12.view _ _ _ _ _ 0 r 0).trans (congrFun pay5_val _)) (fun r e => (readCov_init1 arg14.view _ _ _ _ _ 0 r e).trans (congrFun pay7_val _)) r z
  · rw [pay41_row, pay33_val]
    exact upd_a St.init _ 0 hs0 (fun r => (readCov_init0 arg12.view _ _ _ 0 r 0).trans (congrFun pay5_val _)) (fun r e => (readCov_init0 arg14.view _ _ _ 0 r e).trans (congrFun pay7_val _)) r z
  · rw [canon_whole]
    exact out_val x0 x1 S'
      (fun r e => (readCov_entry arg14.view _ 0 (by norm_num) _ 0 r e).trans (congrFun hA _))
      (fun r => (readCov_entry arg13.view _ 0 (by norm_num) _ 0 r 0).trans (congrFun hL _))
      (fun r e => (readCov_entry arg14.view _ 1 (by norm_num) _ 0 r e).trans (congrFun hA _))
      (fun r => (readCov_entry arg13.view _ 1 (by norm_num) _ 0 r 0).trans (congrFun hL _)) r e

/-- The two halves of the query block the body leaves, each padded by zeros. -/
theorem runA_q (h0 : cond0_0 i) (h1 : ¬cond0_1 i) (h2 : cond0_2 i) (h3 : cond0_3 i)
    (x0 : Vec Ideal S4x64 .f32) (x1 : Vec Ideal S1x128 .f32) (x2 x3 x4 : Vec Ideal S512x128 .bf16) :
    let R := runA (F := Ideal) c i arg4 harg4 arg5 harg5 arg6 harg6 arg7 harg7 arg8 harg8 arg9 harg9 arg10 harg10 arg11 harg11 arg12 harg12 arg13 harg13 arg14 harg14 h0 h1 h2 h3 x0 x1 x2 x3 x4
    ((∀ y, ∃ p ∈ R.2.1, y ∈ p.1.set) ∧ blkOf (View.canon R.2.1) = qhalf (blkOf x2) 0)
      ∧ ((∀ y, ∃ p ∈ R.2.2.1, y ∈ p.1.set) ∧ blkOf (View.canon R.2.2.1) = qhalf (blkOf x2) 1) := by
  intro R
  simp only [R]
  unfold runA
  dsimp only
  sl_unfold_words
  simp only [View.readAt_eq_ld, Memref.IsWhole.read_unread, ld_whole x2]
  clear R
  refine ⟨⟨cover_whole _ _ _, ?_⟩, ⟨cover_whole _ _ _, ?_⟩⟩
  · rw [canon_whole]; exact pay3_val x2
  · rw [canon_whole]; exact pay4_val x2

end Cert.Flash

end
-- ==== Proof.FlashBodyA.lean ====
module

public import proofs.«01_k».proof.Proof.FlashStepA
public import proofs.«01_k».proof.Proof.FlashScr

@[expose] public section

set_option maxRecDepth 16384

/-!
The body at the first key block of the first row tile.
-/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (c : Dev nD)

set_option maxHeartbeats 0 in
/-- At the first key block of the first row tile of a head. -/
theorem body_A (t : Fin cfg0.N) (h0 : t.val % 16 = 0) (h1 : t.val / 16 % 16 = 0) (K : PUnit → sProp 𝕄) :
    iprop(scrAny c ∗ inp m c t ∗ (∃ d, owns (c : Thread nD τ) (ms0_5 t) fullShare d)
        ∗ ((scr c (qB m c (t.val / 16)) (stR m c (t.val / 16) (t.val % 16 + 1)) ∗ inp m c t
            ∗ ∃ X, ⌜∀ r e, X (ix2 r e) = outBlk m c (t.val / 16) r e⌝ ∗ owns (c : Thread nD τ) (ms0_5 t) fullShare X) -∗ K ⟨⟩))
      ⊢ wp frame (wpE (defs₀ (F := Ideal)) Variants.none c none) Set.univ (bodyAt0 t) K := by
  have c0 : cond0_0 (grid0.coords t) := (hcond0_0 t).mpr h0
  have c1 : ¬cond0_1 (grid0.coords t) := fun h => by have := (hcond0_1 t).mp h; omega
  have c2 : cond0_2 (grid0.coords t) := (hcond0_2 t).mpr (by omega)
  have c3 : cond0_3 (grid0.coords t) := (hcond0_3 t).mpr (by omega)
  have hst := step_at m c t (by omega)
  obtain ⟨⟨cM, eM⟩, ⟨cL, eL⟩, ⟨cA, eA⟩, cO, eO⟩ := runA_val c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t)
    (by rw [coord2]; omega) (by rw [coord3]; omega)
  obtain ⟨⟨cQ, eQ⟩, cR, eR⟩ := runA_q c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t)
  rw [blk2 m c t] at eM eL eA eQ eR
  rw [show stR m c (t.val / 16) (t.val % 16) = St.init from by rw [h0]; rfl] at hst
  rw [hst] at eM eL eA
  have eO' : ∀ r e, _ = outBlk m c (t.val / 16) r e := fun r e => (eO r e).trans (by
    rw [blk2 m c t, hst, out_at, outBlk, show t.val / 16 % 16 = t.val % 16 by omega])
  unfold scrAny inp bodyAt0
  iintro ⟨⟨HS0, HS1, HS2, HS3, HS4⟩, ⟨H0, H1, H2, H3, H4⟩, H5, Hk⟩
  iapply ((runA c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t)).2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  iapply Hk
  isplitl [HS0 HS1 HS2 HS3 HS4]
  · unfold scr
    iexists _, _; isplitr; swap
    · isplitl [HS0]; · iapply (owns_of_writes c scM0_0 _ cQ _ rfl); iexact HS0
      isplitl [HS1]; · iapply (owns_of_writes c scM0_1 _ cR _ rfl); iexact HS1
      isplitl [HS2]; · iapply (owns_of_writes c scM0_2 _ cM _ eM); iexact HS2
      isplitl [HS3]; · iapply (owns_of_writes c scM0_3 _ cL _ eL); iexact HS3
      iapply (owns_of_writes c scM0_4 _ cA _ eA); iexact HS4
    ipureintro; exact ⟨eQ, eR⟩
  isplitl [H0 H1 H2 H3 H4]
  · isplitl [H0]; · iexact H0
    isplitl [H1]; · iexact H1
    isplitl [H2]; · iexact H2
    isplitl [H3]; · iexact H3
    iexact H4
  iexists _; isplitr; swap
  · iapply (owns_of_writes c (ms0_5 t) _ cO _ rfl); iexact H5
  ipureintro; exact eO'

end Cert.Flash

end
-- ==== Proof.FlashBodyB.lean ====
module

public import proofs.«01_k».proof.Proof.FlashRunB
public import proofs.«01_k».proof.Proof.FlashScr

@[expose] public section

set_option maxRecDepth 16384

/-!
The body at a key block past the diagonal.
-/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (c : Dev nD)

/-- At a key block past the diagonal: nothing changes. -/
theorem body_B (t : Fin cfg0.N) (h : t.val / 16 % 16 < t.val % 16) (q : Blk) (S : St) (X : S512x128.Idx → EReal) (K : PUnit → sProp 𝕄) :
    iprop(scr c q S ∗ inp m c t ∗ owns (c : Thread nD τ) (ms0_5 t) fullShare X
        ∗ ((scr c q S ∗ inp m c t ∗ owns (c : Thread nD τ) (ms0_5 t) fullShare X) -∗ K ⟨⟩))
      ⊢ wp frame (wpE (defs₀ (F := Ideal)) Variants.none c none) Set.univ (bodyAt0 t) K := by
  have c0 : ¬cond0_0 (grid0.coords t) := fun h => by have := (hcond0_0 t).mp h; omega
  have c1 : ¬cond0_1 (grid0.coords t) := fun h => by have := (hcond0_1 t).mp h; omega
  have c2 : ¬cond0_2 (grid0.coords t) := fun h => by have := (hcond0_2 t).mp h; omega
  have c3 : ¬cond0_3 (grid0.coords t) := fun h => by have := (hcond0_3 t).mp h; omega
  unfold scr inp bodyAt0
  iintro ⟨⟨%xs0, %xs1, %hq, HS0, HS1, HS2, HS3, HS4⟩, ⟨H0, H1, H2, H3, H4⟩, H5, Hk⟩
  iapply (runB c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t) X xs0 xs1 (toM S) (toL S) (toA S) Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  iapply Hk
  isplitl [HS0 HS1 HS2 HS3 HS4]
  · iexists xs0, xs1; isplitr; swap
    · isplitl [HS0]; · iexact HS0
      isplitl [HS1]; · iexact HS1
      isplitl [HS2]; · iexact HS2
      isplitl [HS3]; · iexact HS3
      iexact HS4
    ipureintro; exact hq
  isplitl [H0 H1 H2 H3 H4]
  · isplitl [H0]; · iexact H0
    isplitl [H1]; · iexact H1
    isplitl [H2]; · iexact H2
    isplitl [H3]; · iexact H3
    iexact H4
  iexact H5

end Cert.Flash

end
-- ==== Proof.FlashStepC.lean ====
module

public import proofs.«01_k».proof.Proof.FlashStore
public import proofs.«01_k».proof.Proof.FlashRunC

@[expose] public section

set_option maxRecDepth 16384

/-!
The first key block of a later row tile: the running values the body leaves are one step of the specification from its start.
-/

noncomputable section

namespace Cert.Flash

open Cert.KernelIdeal Cert.KernelIdeal.Gen
open Idealize.ShloMosaic Idealize.ShloMosaic.TcCoe Idealize.ShloMosaic.Tactic
open Idealize.SL.Sem

variable (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)

/-- The three arrays after such a block. -/
theorem runC_val (h0 : cond0_0 i) (h1 : cond0_1 i) (h2 : ¬cond0_2 i) (h3 : ¬cond0_3 i)
    (x0 : Vec Ideal S4x64 .f32) (x1 : Vec Ideal S1x128 .f32) (x2 x3 x4 : Vec Ideal S512x128 .bf16)
    (hlt : (i 3).val < (i 2).val) :
    let R := runC (F := Ideal) c i arg4 harg4 arg5 harg5 arg6 harg6 arg7 harg7 arg8 harg8 arg9 harg9 arg10 harg10 arg11 harg11 arg12 harg12 arg13 harg13 arg14 harg14 h0 h1 h2 h3 x0 x1 x2 x3 x4
    let S' := St.init.step (sc (i 2).val (i 3).val (blkOf x2) (blkOf x3)) (blkOf x4)
    ((∀ y, ∃ p ∈ R.2.2.1, y ∈ p.1.set) ∧ View.canon R.2.2.1 = toM S')
      ∧ ((∀ y, ∃ p ∈ R.2.2.2.1, y ∈ p.1.set) ∧ View.canon R.2.2.2.1 = toL S')
      ∧ ((∀ y, ∃ p ∈ R.2.2.2.2.1, y ∈ p.1.set) ∧ View.canon R.2.2.2.2.1 = toA S') := by
  have hs0 : ∀ r j, k0_pay16 (F := Ideal) x3 (k0_pay3 x2) (ix2 r j) = sc (i 2).val (i 3).val (blkOf x2) (blkOf x3) 0 r j := by
    intro r j; rw [pay16_apply, pay3_val]
    have := r.isLt; have := j.isLt
    exact (if_pos (by omega)).symm
  have hs1 : ∀ r j, k0_pay16 (F := Ideal) x3 (k0_pay4 x2) (ix2 r j) = sc (i 2).val (i 3).val (blkOf x2) (blkOf x3) 1 r j := by
    intro r j; rw [pay16_apply, pay4_val]
    have := r.isLt; have := j.isLt
    exact (if_pos (by omega)).symm
  intro R S'
  simp only [R]
  unfold runC
  dsimp only
  sl_unfold_words
  simp only [View.readAt_eq_ld, Memref.IsWhole.read_unread, pay18_val, pay27_val, pay22_val, pay31_val]
  simp only [ld_whole x2, ld_whole x3, ld_whole x4]
  simp only [readCov_whole]
  refine ⟨⟨cover_entries _ _ _ _ _, canon_entries _ _ _ _ _ _ (fun r z => ?_) (fun r z => ?_)⟩,
    ⟨cover_entries _ _ _ _ _, canon_entries _ _ _ _ _ _ (fun r z => ?_) (fun r z => ?_)⟩,
    ⟨cover_entries _ _ _ _ _, canon_entries _ _ _ _ _ _ (fun r z => ?_) (fun r z => ?_)⟩⟩
  · rw [pay9_row]
    exact upd_m St.init _ 1 hs1 (fun r => (readCov_init1 arg12.view _ _ _ _ _ 0 r 0).trans (congrFun pay5_val _)) r z
  · rw [pay24_row]
    exact upd_m St.init _ 0 hs0 (fun r => (readCov_init0 arg12.view _ _ _ 0 r 0).trans (congrFun pay5_val _)) r z
  · rw [pay30_row]
    exact upd_l (v := x4) St.init _ 1 hs1 (fun r => (readCov_init1 arg12.view _ _ _ _ _ 0 r 0).trans (congrFun pay5_val _)) (fun r => (readCov_init1 arg13.view _ _ _ _ _ 0 r 0).trans (congrFun pay6_val _)) r z
  · rw [pay21_row]
    exact upd_l (v := x4) St.init _ 0 hs0 (fun r => (readCov_init0 arg12.view _ _ _ 0 r 0).trans (congrFun pay5_val _)) (fun r => (readCov_init0 arg13.view _ _ _ 0 r 0).trans (congrFun pay6_val _)) r z
  · rw [pay8_row, pay15_val]
    exact upd_a St.init _ 1 hs1 (fun r => (readCov_init1 arg12.view _ _ _ _ _ 0 r 0).trans (congrFun pay5_val _)) (fun r e => (readCov_init1 arg14.view _ _ _ _ _ 0 r e).trans (congrFun pay7_val _)) r z
  · rw [pay23_row, pay15_val]
    exact upd_a St.init _ 0 hs0 (fun r => (readCov_init0 arg12.view _ _ _ 0 r 0).trans (congrFun pay5_val _)) (fun r e => (readCov_init0 arg14.view _ _ _ 0 r e).trans (congrFun pay7_val _)) r z

/-- The two halves of the query block the body leaves, each padded by zeros. -/
theorem runC_q (h0 : cond0_0 i) (h1 : cond0_1 i) (h2 : ¬cond0_2 i) (h3 : ¬cond0_3 i)
    (x0 : Vec Ideal S4x64 .f32) (x1 : Vec Ideal S1x128 .f32) (x2 x3 x4 : Vec Ideal S512x128 .bf16) :
    let R := runC (F := Ideal) c i arg4 harg4 arg5 harg5 arg6 harg6 arg7 harg7 arg8 harg8 arg9 harg9 arg10 harg10 arg11 harg11 arg12 harg12 arg13 harg13 arg14 harg14 h0 h1 h2 h3 x0 x1 x2 x3 x4
    ((∀ y, ∃ p ∈ R.1, y ∈ p.1.set) ∧ blkOf (View.canon R.1) = qhalf (blkOf x2) 0)
      ∧ ((∀ y, ∃ p ∈ R.2.1, y ∈ p.1.set) ∧ blkOf (View.canon R.2.1) = qhalf (blkOf x2) 1) := by
  intro R
  simp only [R]
  unfold runC
  dsimp only
  sl_unfold_words
  simp only [View.readAt_eq_ld, Memref.IsWhole.read_unread, ld_whole x2]
  clear R
  refine ⟨⟨cover_whole _ _ _, ?_⟩, ⟨cover_whole _ _ _, ?_⟩⟩
  · rw [canon_whole]; exact pay3_val x2
  · rw [canon_whole]; exact pay4_val x2

end Cert.Flash

end
-- ==== Proof.FlashBodyC.lean ====
module

public import proofs.«01_k».proof.Proof.FlashStepC
public import proofs.«01_k».proof.Proof.FlashScr

@[expose] public section

set_option maxRecDepth 16384

/-!
The body at the first key block of a row tile past the first.
-/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (c : Dev nD)

set_option maxHeartbeats 0 in
/-- At the first key block of a later row tile. -/
theorem body_C (t : Fin cfg0.N) (h0 : t.val % 16 = 0) (h1 : t.val / 16 % 16 ≠ 0) (K : PUnit → sProp 𝕄) :
    iprop(scrAny c ∗ inp m c t ∗ (∃ d, owns (c : Thread nD τ) (ms0_5 t) fullShare d)
        ∗ ((scr c (qB m c (t.val / 16)) (stR m c (t.val / 16) (t.val % 16 + 1)) ∗ inp m c t
            ∗ ∃ d, owns (c : Thread nD τ) (ms0_5 t) fullShare d) -∗ K ⟨⟩))
      ⊢ wp frame (wpE (defs₀ (F := Ideal)) Variants.none c none) Set.univ (bodyAt0 t) K := by
  have c0 : cond0_0 (grid0.coords t) := (hcond0_0 t).mpr h0
  have c1 : cond0_1 (grid0.coords t) := (hcond0_1 t).mpr (by omega)
  have c2 : ¬cond0_2 (grid0.coords t) := fun h => by have := (hcond0_2 t).mp h; omega
  have c3 : ¬cond0_3 (grid0.coords t) := fun h => by have := (hcond0_3 t).mp h; omega
  have hst := step_at m c t (by omega)
  obtain ⟨⟨cM, eM⟩, ⟨cL, eL⟩, cA, eA⟩ := runC_val c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t)
    (by rw [coord2, coord3]; omega)
  obtain ⟨⟨cQ, eQ⟩, cR, eR⟩ := runC_q c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t)
  rw [blk2 m c t] at eM eL eA eQ eR
  rw [show stR m c (t.val / 16) (t.val % 16) = St.init from by rw [h0]; rfl] at hst
  rw [hst] at eM eL eA
  unfold scrAny inp bodyAt0
  iintro ⟨⟨HS0, HS1, HS2, HS3, HS4⟩, ⟨H0, H1, H2, H3, H4⟩, H5, Hk⟩
  iapply ((runC c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t)).2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  iapply Hk
  isplitl [HS0 HS1 HS2 HS3 HS4]
  · unfold scr
    iexists _, _; isplitr; swap
    · isplitl [HS0]; · iapply (owns_of_writes c scM0_0 _ cQ _ rfl); iexact HS0
      isplitl [HS1]; · iapply (owns_of_writes c scM0_1 _ cR _ rfl); iexact HS1
      isplitl [HS2]; · iapply (owns_of_writes c scM0_2 _ cM _ eM); iexact HS2
      isplitl [HS3]; · iapply (owns_of_writes c scM0_3 _ cL _ eL); iexact HS3
      iapply (owns_of_writes c scM0_4 _ cA _ eA); iexact HS4
    ipureintro; exact ⟨eQ, eR⟩
  isplitl [H0 H1 H2 H3 H4]
  · isplitl [H0]; · iexact H0
    isplitl [H1]; · iexact H1
    isplitl [H2]; · iexact H2
    isplitl [H3]; · iexact H3
    iexact H4
  iexact H5

end Cert.Flash

end
-- ==== Proof.FlashStepD.lean ====
module

public import proofs.«01_k».proof.Proof.FlashStore
public import proofs.«01_k».proof.Proof.FlashRunD

@[expose] public section

set_option maxRecDepth 16384

/-!
The diagonal key block, when it is not the first: the running values the body leaves are the specification's step.
-/

noncomputable section

namespace Cert.Flash

open Cert.KernelIdeal Cert.KernelIdeal.Gen
open Idealize.ShloMosaic Idealize.ShloMosaic.TcCoe Idealize.ShloMosaic.Tactic
open Idealize.SL.Sem

variable (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)

/-- The three arrays after such a block. -/
theorem runD_val (h0 : ¬cond0_0 i) (h1 : ¬cond0_1 i) (h2 : cond0_2 i) (h3 : cond0_3 i)
    (x0 : Vec Ideal S4x64 .f32) (x1 : Vec Ideal S1x128 .f32) (x2 x3 x4 xs0 xs1 : Vec Ideal S512x128 .bf16) (S : St)
    (q : Blk) (hq0 : blkOf xs0 = qhalf q 0) (hq1 : blkOf xs1 = qhalf q 1) (hi : (i 2).val < 16) (hj : (i 3).val < 16) :
    let R := runD (F := Ideal) c i arg4 harg4 arg5 harg5 arg6 harg6 arg7 harg7 arg8 harg8 arg9 harg9 arg10 harg10 arg11 harg11 arg12 harg12 arg13 harg13 arg14 harg14 h0 h1 h2 h3 x0 x1 x2 x3 x4 xs0 xs1 (toM S) (toL S) (toA S)
    let S' := S.step (sc (i 2).val (i 3).val q (blkOf x3)) (blkOf x4)
    ((∀ y, ∃ p ∈ R.2.2.2.1, y ∈ p.1.set) ∧ View.canon R.2.2.2.1 = toM S')
      ∧ ((∀ y, ∃ p ∈ R.2.2.2.2.1, y ∈ p.1.set) ∧ View.canon R.2.2.2.2.1 = toL S')
      ∧ ((∀ y, ∃ p ∈ R.2.2.2.2.2.1, y ∈ p.1.set) ∧ View.canon R.2.2.2.2.2.1 = toA S')
      ∧ ((∀ y, ∃ p ∈ R.1, y ∈ p.1.set) ∧ ∀ r e, View.canon R.1 (ix2 r e) = outAt (fun a d => x0 (ix2 a d)) (fun e => x1 (ix2 0 e)) S' r e) := by
  have hs0 : ∀ r j, k0_pay35 (F := Ideal) (BitVec.ofNat 32 (i 2).val) (BitVec.ofNat 32 (i 3).val) x3 xs0 (ix2 r j) = sc (i 2).val (i 3).val q (blkOf x3) 0 r j := by
    intro r j; rw [pay35_apply _ _ hi hj, hq0]; rfl
  have hs1 : ∀ r j, k0_pay35 (F := Ideal) (BitVec.ofNat 32 (i 2).val) (BitVec.ofNat 32 (i 3).val) x3 xs1 (ix2 r j) = sc (i 2).val (i 3).val q (blkOf x3) 1 r j := by
    intro r j; rw [pay35_apply _ _ hi hj, hq1]; rfl
  intro R S'
  simp only [R]
  unfold runD
  dsimp only
  sl_unfold_words
  simp only [View.readAt_eq_ld, Memref.IsWhole.read_unread, pay37_val, pay45_val, pay48_val]
  simp only [ld_whole x3, ld_whole x4, ld_whole xs0, ld_whole xs1, ld_whole_lam x0, ld_whole_gain x1]
  clear R
  refine pack_out (cover_entries _ _ _ _ _) (cover_entries _ _ _ _ _) (cover_entries _ _ _ _ _) (cover_whole _ _ _)
    (canon_entries _ _ _ _ _ _ (fun r z => ?_) (fun r z => ?_)) (canon_entries _ _ _ _ _ _ (fun r z => ?_) (fun r z => ?_))
    (canon_entries _ _ _ _ _ _ (fun r z => ?_) (fun r z => ?_)) (fun hL hA r e => ?_)
  · rw [pay12_row]; exact upd_m S _ 1 hs1 (ld_m1 S) r z
  · rw [pay42_row]; exact upd_m S _ 0 hs0 (ld_m0 S) r z
  · rw [pay10_row]; exact upd_l (v := x4) S _ 1 hs1 (ld_m1 S) (ld_l1 S) r z
  · rw [pay40_row]; exact upd_l (v := x4) S _ 0 hs0 (ld_m0 S) (ld_l0 S) r z
  · rw [pay11_row, pay33_val]; exact upd_a S _ 1 hs1 (ld_m1 S) (ld_a1 S) r z
  · rw [pay41_row, pay33_val]; exact upd_a S _ 0 hs0 (ld_m0 S) (ld_a0 S) r z
  · rw [canon_whole]
    exact out_val x0 x1 S'
      (fun r e => (readCov_entry arg14.view _ 0 (by norm_num) _ 0 r e).trans (congrFun hA _))
      (fun r => (readCov_entry arg13.view _ 0 (by norm_num) _ 0 r 0).trans (congrFun hL _))
      (fun r e => (readCov_entry arg14.view _ 1 (by norm_num) _ 0 r e).trans (congrFun hA _))
      (fun r => (readCov_entry arg13.view _ 1 (by norm_num) _ 0 r 0).trans (congrFun hL _)) r e

end Cert.Flash

end
-- ==== Proof.FlashBodyD.lean ====
module

public import proofs.«01_k».proof.Proof.FlashStepD
public import proofs.«01_k».proof.Proof.FlashScr

@[expose] public section

set_option maxRecDepth 16384

/-!
The body at a key block on the diagonal.
-/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (c : Dev nD)

set_option maxHeartbeats 0 in
/-- At a key block on the diagonal, past the first. -/
theorem body_D (t : Fin cfg0.N) (h0 : t.val % 16 ≠ 0) (h1 : t.val / 16 % 16 = t.val % 16) (K : PUnit → sProp 𝕄) :
    iprop(scr c (qB m c (t.val / 16)) (stR m c (t.val / 16) (t.val % 16)) ∗ inp m c t ∗ (∃ d, owns (c : Thread nD τ) (ms0_5 t) fullShare d)
        ∗ ((scr c (qB m c (t.val / 16)) (stR m c (t.val / 16) (t.val % 16 + 1)) ∗ inp m c t
            ∗ ∃ X, ⌜∀ r e, X (ix2 r e) = outBlk m c (t.val / 16) r e⌝ ∗ owns (c : Thread nD τ) (ms0_5 t) fullShare X) -∗ K ⟨⟩))
      ⊢ wp frame (wpE (defs₀ (F := Ideal)) Variants.none c none) Set.univ (bodyAt0 t) K := by
  have c0 : ¬cond0_0 (grid0.coords t) := fun h => h0 ((hcond0_0 t).mp h)
  have c1 : ¬cond0_1 (grid0.coords t) := fun h => by have := (hcond0_1 t).mp h; omega
  have c2 : cond0_2 (grid0.coords t) := (hcond0_2 t).mpr (by omega)
  have c3 : cond0_3 (grid0.coords t) := (hcond0_3 t).mpr (by omega)
  have hst := step_at m c t (by omega)
  unfold scr inp bodyAt0
  iintro ⟨⟨%xs0, %xs1, %hq, HS0, HS1, HS2, HS3, HS4⟩, ⟨H0, H1, H2, H3, H4⟩, H5, Hk⟩
  obtain ⟨⟨cM, eM⟩, ⟨cL, eL⟩, ⟨cA, eA⟩, cO, eO⟩ := runD_val c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t) xs0 xs1 (stR m c (t.val / 16) (t.val % 16))
    (qB m c (t.val / 16)) hq.1 hq.2
    (by rw [coord2]; omega) (by rw [coord3]; omega)
  rw [hst] at eM eL eA
  have eO' : ∀ r e, _ = outBlk m c (t.val / 16) r e := fun r e => (eO r e).trans (by
    rw [hst, out_at, outBlk, show t.val / 16 % 16 = t.val % 16 by omega])
  iapply ((runD c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t) xs0 xs1 (toM (stR m c (t.val / 16) (t.val % 16)))
    (toL (stR m c (t.val / 16) (t.val % 16))) (toA (stR m c (t.val / 16) (t.val % 16)))).2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  iapply Hk
  isplitl [HS0 HS1 HS2 HS3 HS4]
  · iexists xs0, xs1; isplitr; swap
    · isplitl [HS0]; · iexact HS0
      isplitl [HS1]; · iexact HS1
      isplitl [HS2]; · iapply (owns_of_writes c scM0_2 _ cM _ eM); iexact HS2
      isplitl [HS3]; · iapply (owns_of_writes c scM0_3 _ cL _ eL); iexact HS3
      iapply (owns_of_writes c scM0_4 _ cA _ eA); iexact HS4
    ipureintro; exact hq
  isplitl [H0 H1 H2 H3 H4]
  · isplitl [H0]; · iexact H0
    isplitl [H1]; · iexact H1
    isplitl [H2]; · iexact H2
    isplitl [H3]; · iexact H3
    iexact H4
  iexists _; isplitr; swap
  · iapply (owns_of_writes c (ms0_5 t) _ cO _ rfl); iexact H5
  ipureintro; exact eO'

end Cert.Flash

end
-- ==== Proof.FlashStepE.lean ====
module

public import proofs.«01_k».proof.Proof.FlashStore
public import proofs.«01_k».proof.Proof.FlashRunE

@[expose] public section

set_option maxRecDepth 16384

/-!
The key blocks before the diagonal, after the first: the running values the body leaves are the specification's step.
-/

noncomputable section

namespace Cert.Flash

open Cert.KernelIdeal Cert.KernelIdeal.Gen
open Idealize.ShloMosaic Idealize.ShloMosaic.TcCoe Idealize.ShloMosaic.Tactic
open Idealize.SL.Sem

variable (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S2x512x1 .f32) (harg12 : arg12.IsWhole) (arg13 : Memref sig .tc .vmem S2x512x1 .f32) (harg13 : arg13.IsWhole) (arg14 : Memref sig .tc .vmem S2x512x128 .f32) (harg14 : arg14.IsWhole)

/-- The three arrays after such a block. -/
theorem runE_val (h0 : ¬cond0_0 i) (h1 : cond0_1 i) (h2 : ¬cond0_2 i) (h3 : ¬cond0_3 i)
    (x0 : Vec Ideal S4x64 .f32) (x1 : Vec Ideal S1x128 .f32) (x2 x3 x4 xs0 xs1 : Vec Ideal S512x128 .bf16) (S : St)
    (q : Blk) (hq0 : blkOf xs0 = qhalf q 0) (hq1 : blkOf xs1 = qhalf q 1) (hlt : (i 3).val < (i 2).val) :
    let R := runE (F := Ideal) c i arg4 harg4 arg5 harg5 arg6 harg6 arg7 harg7 arg8 harg8 arg9 harg9 arg10 harg10 arg11 harg11 arg12 harg12 arg13 harg13 arg14 harg14 h0 h1 h2 h3 x0 x1 x2 x3 x4 xs0 xs1 (toM S) (toL S) (toA S)
    let S' := S.step (sc (i 2).val (i 3).val q (blkOf x3)) (blkOf x4)
    ((∀ y, ∃ p ∈ R.2.2.1, y ∈ p.1.set) ∧ View.canon R.2.2.1 = toM S')
      ∧ ((∀ y, ∃ p ∈ R.2.2.2.1, y ∈ p.1.set) ∧ View.canon R.2.2.2.1 = toL S')
      ∧ ((∀ y, ∃ p ∈ R.2.2.2.2.1, y ∈ p.1.set) ∧ View.canon R.2.2.2.2.1 = toA S') := by
  have hs0 : ∀ r j, k0_pay16 (F := Ideal) x3 xs0 (ix2 r j) = sc (i 2).val (i 3).val q (blkOf x3) 0 r j := by
    intro r j; rw [pay16_apply, hq0]
    have := r.isLt; have := j.isLt
    exact (if_pos (by omega)).symm
  have hs1 : ∀ r j, k0_pay16 (F := Ideal) x3 xs1 (ix2 r j) = sc (i 2).val (i 3).val q (blkOf x3) 1 r j := by
    intro r j; rw [pay16_apply, hq1]
    have := r.isLt; have := j.isLt
    exact (if_pos (by omega)).symm
  intro R S'
  simp only [R]
  unfold runE
  dsimp only
  sl_unfold_words
  simp only [View.readAt_eq_ld, Memref.IsWhole.read_unread, pay18_val, pay27_val, pay22_val, pay31_val]
  simp only [ld_whole x3, ld_whole x4, ld_whole xs0, ld_whole xs1]
  refine ⟨⟨cover_entries _ _ _ _ _, canon_entries _ _ _ _ _ _ (fun r z => ?_) (fun r z => ?_)⟩,
    ⟨cover_entries _ _ _ _ _, canon_entries _ _ _ _ _ _ (fun r z => ?_) (fun r z => ?_)⟩,
    ⟨cover_entries _ _ _ _ _, canon_entries _ _ _ _ _ _ (fun r z => ?_) (fun r z => ?_)⟩⟩
  · rw [pay9_row]; exact upd_m S _ 1 hs1 (ld_m1 S) r z
  · rw [pay24_row]; exact upd_m S _ 0 hs0 (ld_m0 S) r z
  · rw [pay30_row]; exact upd_l (v := x4) S _ 1 hs1 (ld_m1 S) (ld_l1 S) r z
  · rw [pay21_row]; exact upd_l (v := x4) S _ 0 hs0 (ld_m0 S) (ld_l0 S) r z
  · rw [pay8_row, pay15_val]; exact upd_a S _ 1 hs1 (ld_m1 S) (ld_a1 S) r z
  · rw [pay23_row, pay15_val]; exact upd_a S _ 0 hs0 (ld_m0 S) (ld_a0 S) r z

end Cert.Flash

end
-- ==== Proof.FlashBodyE.lean ====
module

public import proofs.«01_k».proof.Proof.FlashStepE
public import proofs.«01_k».proof.Proof.FlashScr

@[expose] public section

set_option maxRecDepth 16384

/-!
The body at a key block before the diagonal.
-/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (c : Dev nD)

set_option maxHeartbeats 0 in
/-- At a key block before the diagonal, past the first. -/
theorem body_E (t : Fin cfg0.N) (h0 : t.val % 16 ≠ 0) (h1 : t.val % 16 < t.val / 16 % 16) (K : PUnit → sProp 𝕄) :
    iprop(scr c (qB m c (t.val / 16)) (stR m c (t.val / 16) (t.val % 16)) ∗ inp m c t ∗ (∃ d, owns (c : Thread nD τ) (ms0_5 t) fullShare d)
        ∗ ((scr c (qB m c (t.val / 16)) (stR m c (t.val / 16) (t.val % 16 + 1)) ∗ inp m c t
            ∗ ∃ d, owns (c : Thread nD τ) (ms0_5 t) fullShare d) -∗ K ⟨⟩))
      ⊢ wp frame (wpE (defs₀ (F := Ideal)) Variants.none c none) Set.univ (bodyAt0 t) K := by
  have c0 : ¬cond0_0 (grid0.coords t) := fun h => h0 ((hcond0_0 t).mp h)
  have c1 : cond0_1 (grid0.coords t) := (hcond0_1 t).mpr (by omega)
  have c2 : ¬cond0_2 (grid0.coords t) := fun h => by have := (hcond0_2 t).mp h; omega
  have c3 : ¬cond0_3 (grid0.coords t) := fun h => by have := (hcond0_3 t).mp h; omega
  have hst := step_at m c t (by omega)
  unfold scr inp bodyAt0
  iintro ⟨⟨%xs0, %xs1, %hq, HS0, HS1, HS2, HS3, HS4⟩, ⟨H0, H1, H2, H3, H4⟩, H5, Hk⟩
  obtain ⟨⟨cM, eM⟩, ⟨cL, eL⟩, cA, eA⟩ := runE_val c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t) xs0 xs1 (stR m c (t.val / 16) (t.val % 16))
    (qB m c (t.val / 16)) hq.1 hq.2
    (by rw [coord2, coord3]; omega)
  rw [hst] at eM eL eA
  iapply ((runE c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1 (Memref.isWhole_whole _)
    scM0_2 (Memref.isWhole_whole _) scM0_3 (Memref.isWhole_whole _) scM0_4 (Memref.isWhole_whole _) c0 c1 c2 c3
    (iblk m c 0 t) (iblk m c 1 t) (iblk m c 2 t) (iblk m c 3 t) (iblk m c 4 t) xs0 xs1 (toM (stR m c (t.val / 16) (t.val % 16)))
    (toL (stR m c (t.val / 16) (t.val % 16))) (toA (stR m c (t.val / 16) (t.val % 16)))).2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  iapply Hk
  isplitl [HS0 HS1 HS2 HS3 HS4]
  · iexists xs0, xs1; isplitr; swap
    · isplitl [HS0]; · iexact HS0
      isplitl [HS1]; · iexact HS1
      isplitl [HS2]; · iapply (owns_of_writes c scM0_2 _ cM _ eM); iexact HS2
      isplitl [HS3]; · iapply (owns_of_writes c scM0_3 _ cL _ eL); iexact HS3
      iapply (owns_of_writes c scM0_4 _ cA _ eA); iexact HS4
    ipureintro; exact hq
  isplitl [H0 H1 H2 H3 H4]
  · isplitl [H0]; · iexact H0
    isplitl [H1]; · iexact H1
    isplitl [H2]; · iexact H2
    isplitl [H3]; · iexact H3
    iexact H4
  iexact H5

end Cert.Flash

end
-- ==== Proof.FlashBody.lean ====
module

public import proofs.«01_k».proof.Proof.FlashBodyA
public import proofs.«01_k».proof.Proof.FlashBodyB
public import proofs.«01_k».proof.Proof.FlashBodyC
public import proofs.«01_k».proof.Proof.FlashBodyD
public import proofs.«01_k».proof.Proof.FlashBodyE
public import Idealize.ShloMosaic.Lib.Pipeline.DatRel
public import Idealize.ShloMosaic.Lib.Pipeline.ArrRel

@[expose] public section

set_option maxRecDepth 16384

/-!
The body's obligation at every grid point: what the scratch holds between points, and what is known of the output window.
-/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- The scratch after point `n`: the query halves and the running values of the row tile, over the key blocks seen. -/
def scrAt (c : Dev nD) (n : ℕ) : sProp 𝕄 :=
  scr c (qB m c (n / 16)) (stR m c (n / 16) (min (n % 16) (n / 16 % 16) + 1))

/-- The invariant before point `n`: anything at first, then the scratch as the point before left it. -/
def PhiS (c : Dev nD) : ℕ → sProp 𝕄
  | 0 => Pipeline.ΦA spec0 c
  | n + 1 => iprop(scrAt m c n ∗ (∃ r, prngReg c r))

/-- The invariant always holds the scratch at something. -/
theorem PhiS_any (c : Dev nD) (n : ℕ) : PhiS m c n ⊢ iprop(scrAny c ∗ (∃ r, prngReg c r)) := by
  cases n with
  | zero => rw [show PhiS m c 0 = Pipeline.ΦA spec0 c from rfl, PhiA0_eq]; unfold scrAny; exact Entails.refl _
  | succ n =>
    rw [show PhiS m c (n + 1) = iprop(scrAt m c n ∗ (∃ r, prngReg c r)) from rfl]
    unfold scrAt
    exact sep_mono (scr_any c _ _) .rfl

/-- Before a point that is not the first. -/
theorem PhiS_pos (c : Dev nD) (n : ℕ) (h : n ≠ 0) : PhiS m c n = iprop(scrAt m c (n - 1) ∗ (∃ r, prngReg c r)) := by
  cases n with
  | zero => exact absurd rfl h
  | succ n => rfl

/-- The output window is the one told only by a relation. -/
def fgt : Fin 6 → Bool := fun w => w.val == 5

/-- What is known of the output window after point `t`: from the diagonal on, the row tile's output block. -/
def Rl (c : Dev nD) : (w : Fin cfg0.W) → Fin cfg0.N → ((cfg0.win w).block.Idx → Elt Ideal (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => t.val / 16 % 16 ≤ t.val % 16 → ∀ r e, X (ix2 r e) = outBlk m c (t.val / 16) r e

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val
  q _ := fullShare
  owed _ := 0

/-- The arrays are what the region finds. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The relational proof data. -/
abbrev rdat (c : Dev nD) : RDat τ (Elt Ideal) Unit ℕ (UR sig nD τ) ℕ cfg0 c := (dats m 0 c).toRRel fgt (Rl m c)

/-- Past the diagonal the output window still holds the row tile's output block. -/
theorem finds_out (c : Dev nD) (t : Fin cfg0.N) (h : t.val / 16 % 16 < t.val % 16) (X : (cfg0.win 5).block.Idx → Elt Ideal (cfg0.win 5).elt)
    (hX : (rdat m c).Finds 5 t X) : Rl m c 5 t X := by
  have hN : t.val < 4096 := lt_of_lt_of_eq t.isLt N_0
  rw [RDat.finds_of_pos (rdat m c) (w := 5) (t := t) rfl (by omega)] at hX
  rcases hX with hX | hX
  · have := (flush0_5 _).mp hX
    have : (t.val - 1) % 16 = 15 := this
    omega
  · have h5 := Dat.toRRel_leaves (dats m 0 c) (fgt := fgt) (Rl := Rl m c) (w := 5) rfl hX
    have h5' : (t.val - 1) / 16 % 16 ≤ (t.val - 1) % 16 → ∀ r e, X (ix2 r e) = outBlk m c ((t.val - 1) / 16) r e := h5
    intro _
    have e : (t.val - 1) / 16 = t.val / 16 := by omega
    rw [e] at h5'
    exact h5' (by omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X))

/-- The five inputs, with the output window, as the obligation lists them. -/
theorem inp_split (c : Dev nD) (t : Fin cfg0.N) (P : sProp 𝕄) :
    iprop(inp m c t ∗ P) ⊢ iprop(owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ P) := by
  unfold inp
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

/-- The body as a triple on the scratch, the inputs and the output window, at any point. -/
theorem body_all (c : Dev nD) (t : Fin cfg0.N) (K : PUnit → sProp 𝕄) :
    iprop(PhiS m c t.val ∗ inp m c t ∗ (∃ Y, ⌜(rdat m c).Finds 5 t Y⌝ ∗ owns (c : Thread nD τ) (ms0_5 t) fullShare Y)
        ∗ ((PhiS m c (t.val + 1) ∗ inp m c t ∗ (∃ X, ⌜Rl m c 5 t X⌝ ∗ owns (c : Thread nD τ) (ms0_5 t) fullShare X)) -∗ K ⟨⟩))
      ⊢ wp frame (wpE (defs₀ (F := Ideal)) Variants.none c none) Set.univ (bodyAt0 t) K := by
  have hN : t.val < 4096 := lt_of_lt_of_eq t.isLt N_0
  rw [show PhiS m c (t.val + 1) = iprop(scrAt m c t.val ∗ (∃ r, prngReg c r)) from rfl]
  by_cases h0 : t.val % 16 = 0
  · refine (sep_mono (PhiS_any m c t.val) .rfl).trans ?_
    unfold scrAt
    rw [show min (t.val % 16) (t.val / 16 % 16) = t.val % 16 by omega]
    by_cases h1 : t.val / 16 % 16 = 0
    · iintro ⟨⟨HS, Hg⟩, HI, ⟨%Y, -, H5⟩, Hk⟩
      iapply (body_A m c t h0 h1 K)
      isplitl [HS]; · iexact HS
      isplitl [HI]; · iexact HI
      isplitl [H5]; · iexists _; iexact H5
      iintro ⟨HS, HI, %X, %hX, H5⟩
      iapply Hk
      isplitl [HS Hg]
      · isplitl [HS]; · iexact HS
        iexact Hg
      isplitl [HI]; · iexact HI
      iexists X; isplitr; swap; · iexact H5
      ipureintro; exact fun _ => hX
    · iintro ⟨⟨HS, Hg⟩, HI, ⟨%Y, -, H5⟩, Hk⟩
      iapply (body_C m c t h0 h1 K)
      isplitl [HS]; · iexact HS
      isplitl [HI]; · iexact HI
      isplitl [H5]; · iexists _; iexact H5
      iintro ⟨HS, HI, %X, H5⟩
      iapply Hk
      isplitl [HS Hg]
      · isplitl [HS]; · iexact HS
        iexact Hg
      isplitl [HI]; · iexact HI
      iexists X; isplitr; swap; · iexact H5
      ipureintro; exact fun h => by omega
  · rw [PhiS_pos m c t.val (by omega)]
    unfold scrAt
    rw [show (t.val - 1) / 16 = t.val / 16 by omega]
    by_cases h1 : t.val / 16 % 16 < t.val % 16
    · rw [show min ((t.val - 1) % 16) (t.val / 16 % 16) = min (t.val % 16) (t.val / 16 % 16) by omega]
      iintro ⟨⟨HS, Hg⟩, HI, ⟨%Y, %hY, H5⟩, Hk⟩
      iapply (body_B m c t h1 _ _ Y K)
      isplitl [HS]; · iexact HS
      isplitl [HI]; · iexact HI
      isplitl [H5]; · iexact H5
      iintro ⟨HS, HI, H5⟩
      iapply Hk
      isplitl [HS Hg]
      · isplitl [HS]; · iexact HS
        iexact Hg
      isplitl [HI]; · iexact HI
      iexists Y; isplitr; swap; · iexact H5
      ipureintro; exact finds_out m c t h1 Y hY
    · rw [show min ((t.val - 1) % 16) (t.val / 16 % 16) + 1 = t.val % 16 by omega, show min (t.val % 16) (t.val / 16 % 16) = t.val % 16 by omega]
      by_cases h2 : t.val / 16 % 16 = t.val % 16
      · iintro ⟨⟨HS, Hg⟩, HI, ⟨%Y, -, H5⟩, Hk⟩
        iapply (body_D m c t h0 h2 K)
        isplitl [HS]; · iexact HS
        isplitl [HI]; · iexact HI
        isplitl [H5]; · iexists _; iexact H5
        iintro ⟨HS, HI, %X, %hX, H5⟩
        iapply Hk
        isplitl [HS Hg]
        · isplitl [HS]; · iexact HS
          iexact Hg
        isplitl [HI]; · iexact HI
        iexists X; isplitr; swap; · iexact H5
        ipureintro; exact fun _ => hX
      · iintro ⟨⟨HS, Hg⟩, HI, ⟨%Y, -, H5⟩, Hk⟩
        iapply (body_E m c t h0 (by omega) K)
        isplitl [HS]; · iexact HS
        isplitl [HI]; · iexact HI
        isplitl [H5]; · iexists _; iexact H5
        iintro ⟨HS, HI, %X, H5⟩
        iapply Hk
        isplitl [HS Hg]
        · isplitl [HS]; · iexact HS
          iexact Hg
        isplitl [HI]; · iexact HI
        iexists X; isplitr; swap; · iexact H5
        ipureintro; exact fun h => by omega

/-- The body at any point, in the obligation's shape. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, after_0, after_1, after_2, after_3, after_4]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  iintro ⟨HP, Ho, ⟨%_, H0⟩, ⟨%_, H1⟩, ⟨%_, H2⟩, ⟨%_, H3⟩, ⟨%_, H4⟩, H5⟩
  iapply (body_all m c t _)
  isplitl [HP]; · iexact HP
  isplitl [H0 H1 H2 H3 H4]
  · unfold inp
    isplitl [H0]; · iexact H0
    isplitl [H1]; · iexact H1
    isplitl [H2]; · iexact H2
    isplitl [H3]; · iexact H3
    iexact H4
  isplitl [H5]; · iexact H5
  iintro ⟨HP, HR⟩
  isplitl [HP]; · iexact HP
  isplitl [Ho]; · iexact Ho
  iapply (inp_split m c t _); iexact HR

/-- The body table's row at point `t` is the body. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligationRel (dats m 0 c) (defs₀ (F := Ideal)) Variants.none () Set.univ fgt (Rl m c) := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Pipeline.ΦA spec0 c from rfl]

/-- and the invariant after the last point gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl]
  refine (PhiS_any m c _).trans ?_
  rw [PhiA0_eq]; unfold scrAny; exact Entails.refl _

-- the launch theorem's implicit arguments are found by unifying its conclusion with this one, which unfolds plain definitions in types
set_option backward.isDefEq.respectTransparency.types false in
/-- The run: every array ends at something the relational data allow, and every counter at zero. -/
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ main
    (fun c => (body_obligation m c).toRRel) (fun c => (dats m 0 c).share_full fun _ => rfl) (fun _ _ => rfl) (V m) (hmain m Variants.none)
    (A_eq m) (hin m) (hout m) (fun r => Pipeline.RDat.FramePost (cfgs 0) (rdat m) (V m) r ∧ r.2.sem = fun _ => 0) (fun _ h => h)

end Cert.Flash

end
-- ==== Proof.FlashOut.lean ====
module

public import proofs.«01_k».proof.Proof.FlashBody
public import Idealize.ShloMosaic.Lib.Pipeline.Covers
public import Idealize.ShloMosaic.Lib.Claim

@[expose] public section

set_option maxRecDepth 16384

/-!
What the run leaves: the output array at every index, and the arguments unchanged.
-/

noncomputable section

namespace Cert.Flash

open Cert.KernelIdeal Cert.KernelIdeal.Gen
open Idealize.ShloMosaic Idealize.ShloMosaic.TcCoe Idealize.ShloMosaic.Tactic
open Idealize.SL Idealize.SL.Sem
open Idealize.ShloMosaic.Pipeline (Dat RDat Cfg Window)

variable (m : (ℓ : Loc nD τ sig) → Buf (Elt Ideal) ℓ) (ρ : Dev nD → PrngReg)

/-- The row tile of an output index. -/
def tileOf (i : S16384x1024.Idx) : ℕ := ((i 0).val / 8192 * 8 + (i 1).val / 128) * 16 + (i 0).val / 512 % 16

/-- The output array. -/
def outArr (c : Dev nD) : S16384x1024.Idx → EReal := fun i =>
  outBlk m c (tileOf i) ⟨(i 0).val % 512, Nat.mod_lt _ (by decide)⟩ ⟨(i 1).val % 128, Nat.mod_lt _ (by decide)⟩

/-- The output's blocks cover the array. -/
theorem covers5 : (cfg0.win 5).Covers := by
  refine Window.covers_of_index_surj (cfg0.win 5) rfl (by decide) fun β => ?_
  have h0 : (β 0).val < 32 := (β 0).isLt
  have h1 : (β 1).val < 8 := (β 1).isLt
  refine ⟨⟨(((β 0).val / 16 * 8 + (β 1).val) * 16 + (β 0).val % 16) * 16, ?_⟩, fun a => ?_⟩
  · show _ < grid0.N
    rw [N_0]; omega
  · have h := idx5 ⟨(((β 0).val / 16 * 8 + (β 1).val) * 16 + (β 0).val % 16) * 16, by rw [N_0]; omega⟩
    match a with
    | ⟨0, _⟩ =>
      show cc0_transform_5 (grid0.coords _) 0 = (β 0).val
      rw [h]
      show (((β 0).val / 16 * 8 + (β 1).val) * 16 + (β 0).val % 16) * 16 / 2048 % 2 * 16 + (((β 0).val / 16 * 8 + (β 1).val) * 16 + (β 0).val % 16) * 16 / 16 % 16 = _
      omega
    | ⟨1, _⟩ =>
      show cc0_transform_5 (grid0.coords _) 1 = (β 1).val
      rw [h]
      show (((β 0).val / 16 * 8 + (β 1).val) * 16 + (β 0).val % 16) * 16 / 256 % 8 = _
      omega

/-- The array after the write-backs, for any contents that the relation allows. -/
theorem arr_out (c : Dev nD) (after : (w' : Fin cfg0.W) → Fin cfg0.N → (cfg0.win w').block.Idx → Elt Ideal (cfg0.win w').elt)
    (h : ∀ u : Fin cfg0.N, (cfg0.win 5).flush u = true → (rdat m c).Leaves 5 u (after 5 u)) :
    ((rdat m c).withAfter after).arrAt 5 cfg0.N = outArr m c := by
  refine Dat.arrAt_eq_of_covers ((rdat m c).withAfter after) 5 _ covers5 fun t hf y => ?_
  have h15 := (flush0_5 t).mp hf
  have hl := Dat.toRRel_leaves (dats m 0 c) (fgt := fgt) (Rl := Rl m c) (w := 5) rfl (h t hf)
  have hl' : t.val / 16 % 16 ≤ t.val % 16 → ∀ r e, after 5 t (ix2 r e) = outBlk m c (t.val / 16) r e := hl
  have hv := hl' (by omega)
  have hN : t.val < 4096 := lt_of_lt_of_eq t.isLt N_0
  obtain ⟨r, e, rfl⟩ : ∃ (r : Fin 512) (e : Fin 128), y = ix2 r e := ⟨_, _, eq_ix2 y⟩
  show after 5 t (ix2 r e) = outArr m c (((cfg0.win 5).blk t).view.emb (ix2 r e))
  have e0 : ((((cfg0.win 5).blk t).view.emb (ix2 r e)) 0).val = (t.val / 2048 % 2 * 16 + t.val / 16 % 16) * 512 + r.val := by
    refine ((cfg0.win 5).rect_emb_val t (ix2 r e) 0).trans ?_
    show cc0_transform_5 (grid0.coords t) 0 * 512 + r.val = _
    rw [idx5 t]; rfl
  have e1 : ((((cfg0.win 5).blk t).view.emb (ix2 r e)) 1).val = (t.val / 256 % 8) * 128 + e.val := by
    refine ((cfg0.win 5).rect_emb_val t (ix2 r e) 1).trans ?_
    show cc0_transform_5 (grid0.coords t) 1 * 128 + e.val = _
    rw [idx5 t]; rfl
  rw [hv]
  have hr := r.isLt
  have he := e.isLt
  have hr' : r.val < 512 := hr
  have he' : e.val < 128 := he
  unfold outArr tileOf
  congr 1
  · rw [e0, e1]; omega
  · apply Fin.ext; show r.val = _ % 512; rw [e0]; omega
  · apply Fin.ext; show e.val = _ % 128; rw [e1]; omega

/-- The run: the output array holds `outArr`, the arguments are unchanged, every counter is zero. -/
theorem run_all : θ_run defs (onTc (τ := τ) (main (F := Ideal))) ⟨m, fun _ => 0, ρ⟩ (fun r => (∀ c : Dev nD,
      r.2.mem ((c.tc : Thread nD τ).loc main_v9) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => ⟨by
      obtain ⟨after, hL, hA⟩ := RDat.FramePost.exists_exact hr.1 c
      exact (hA 5).trans (arr_out m c after fun u hu => hL 5 u hu),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      (RDat.FramePost.arr_in hr.1 c 0 rfl).trans ((A_eq m c 0).trans (V_main_arg3 m c)),
      ((hr.1 c).2 main_arg4 (Pipeline.mem_restRefs_of main_arg4 (by decide) (by decide))).trans (V_main_arg4 m c)⟩, hr.2⟩)
    (run_main m ρ)

end Cert.Flash

end
-- ==== Proof.FlashEq.lean ====
module

public import proofs.«01_k».proof.Proof.FlashHost
public import proofs.«01_k».proof.Proof.FlashOut
public import proofs.«01_k».proof.Proof.FlashCore

@[expose] public section

set_option maxRecDepth 16384

/-!
The kernel's result in the terms of the arguments: a row is `kerDiff` of its scores over all 8192 keys, normalised.
-/

noncomputable section

namespace Cert.Flash

open Cert.KernelIdeal Cert.KernelIdeal.Gen
open Idealize.ShloMosaic Idealize.ShloMosaic.TcCoe Idealize.ShloMosaic.Tactic

/-- A sum over 128 lanes in which only the 64 lanes of one component count. -/
theorem half_sum (q f : Fin 128 → EReal) (u : Fin 2) :
    ∑ d : Fin 128, (if d.val / 64 = u.val then q d else 0) * f d
      = ∑ d : Fin 64, q ⟨u.val * 64 + d.val, by have := u.isLt; have := d.isLt; omega⟩
          * f ⟨u.val * 64 + d.val, by have := u.isLt; have := d.isLt; omega⟩ := by
  have lo : ∀ d : Fin 64, (Fin.castAdd 64 d).val / 64 = 0 := fun d => Nat.div_eq_of_lt d.isLt
  have hi : ∀ d : Fin 64, (Fin.natAdd 64 d).val / 64 = 1 := fun d => by
    have := d.isLt; show (64 + d.val) / 64 = 1; omega
  refine (Fin.sum_univ_add (a := 64) (b := 64) fun d : Fin (64 + 64) => (if d.val / 64 = u.val then q d else 0) * f d).trans ?_
  have hu : u = 0 ∨ u = 1 := by fin_cases u <;> simp
  rcases hu with rfl | rfl
  · rw [Finset.sum_eq_zero (s := Finset.univ) (f := fun d : Fin 64 => (if (Fin.natAdd 64 d).val / 64 = (0 : Fin 2).val then q (Fin.natAdd 64 d) else 0) * f (Fin.natAdd 64 d))
        (fun d _ => by rw [hi d, if_neg (by decide), zero_mul]), add_zero]
    refine Finset.sum_congr rfl fun d _ => ?_
    rw [lo d, if_pos (show (0 : ℕ) = (0 : Fin 2).val from rfl)]
    have e : (Fin.castAdd 64 d : Fin 128) = ⟨(0 : Fin 2).val * 64 + d.val, by have := d.isLt; show 0 * 64 + d.val < 128; omega⟩ :=
      Fin.ext (by show d.val = 0 * 64 + d.val; omega)
    rw [e]
  · rw [Finset.sum_eq_zero (s := Finset.univ) (f := fun d : Fin 64 => (if (Fin.castAdd 64 d).val / 64 = (1 : Fin 2).val then q (Fin.castAdd 64 d) else 0) * f (Fin.castAdd 64 d))
        (fun d _ => by rw [lo d, if_neg (by decide), zero_mul]), zero_add]
    refine Finset.sum_congr rfl fun d _ => ?_
    rw [hi d, if_pos (show (1 : ℕ) = (1 : Fin 2).val from rfl)]
    have e : (Fin.natAdd 64 d : Fin 128) = ⟨(1 : Fin 2).val * 64 + d.val, by have := d.isLt; show 1 * 64 + d.val < 128; omega⟩ :=
      Fin.ext (by show 64 + d.val = 1 * 64 + d.val; omega)
    rw [e]

theorem c8 : ∃ r : ℝ, 0 ≤ r ∧ Ideal.ofBits .f32 0x3E000000#32 = (r : EReal) := by
  refine ⟨8388608 * (1 / 67108864), by norm_num, ?_⟩
  simp [Ideal.ofBits, Ideal.ieee]; norm_num

/-- The scale goes out of the sum. -/
theorem scale_out (q k : Fin 64 → EReal) : ∑ d, q d * Ideal.ofBits .f32 0x3E000000#32 * k d
    = (∑ d, q d * k d) * Ideal.ofBits .f32 0x3E000000#32 := by
  obtain ⟨r, hr, e⟩ := c8
  rw [e, mul_comm, mul_sum_nonneg _ (EReal.coe_nonneg.mpr hr) (EReal.coe_ne_top _)]
  exact Finset.sum_congr rfl fun d _ => by rw [mul_right_comm, mul_comm]

variable (m : (ℓ : Loc nD τ sig) → Buf (Elt Ideal) ℓ) (c : Dev nD)
variable (R : ℕ) (b : Fin 2) (h : Fin 8) (t : Fin 8192) (r : Fin 512)

/-- The kernel's score of a key. -/
theorem scAt_score (hb : bOf R = b) (hh : hOf R = h) (hq : R % 16 = t.val / 512) (hr : r.val = t.val % 512) (u : Fin 2) (J : ℕ)
    (hJ : J < 8192) : scAt (R % 16) (qB m c R) (kB m c R) u r J = score (qOf m c) (kOf m c) b h t u J := by
  unfold scAt sc score
  have ht := t.isLt
  have hc : (J / 512 * 512 + (⟨J % 512, Nat.mod_lt _ (by norm_num)⟩ : Fin 512).val ≤ R % 16 * 512 + r.val) ↔ J ≤ t.val := by
    show J / 512 * 512 + J % 512 ≤ _ ↔ _
    omega
  by_cases hJt : J ≤ t.val
  · rw [if_pos hJt, if_pos (hc.mpr hJt), ← scale_out]
    unfold qhalf
    rw [half_sum (fun d => qB m c R r d)]
    refine Finset.sum_congr rfl fun d => fun _ => ?_
    have hd := d.isLt
    have hu := u.isLt
    subst hb hh
    refine congrArg₂ (· * ·) ?_ ?_
    · exact V_q m c (bOf R) t (hOf R) u d _ _ (by show ((bOf R).val * 16 + R % 16) * 512 + r.val = _; omega)
        (by show (hOf R).val * 128 + (u.val * 64 + d.val) = _; omega)
    · exact V_k m c (bOf R) _ (hOf R) u d _ _ (by show ((bOf R).val * 16 + J / 512 % 16) * 512 + J % 512 = (bOf R).val * 8192 + J % 8192; omega)
        (by show (hOf R).val * 128 + (u.val * 64 + d.val) = _; omega)
  · rw [if_neg hJt, if_neg fun e => hJt (hc.mp e)]

/-- The kernel's value of a key. -/
theorem valAt_value (hb : bOf R = b) (hh : hOf R = h) (e : Fin 128) (J : ℕ) (hJ : J < 8192) :
    valAt (vB m c R) e J = value (vOf m c) b h e J := by
  subst hb hh
  exact V_va m c (bOf R) _ (hOf R) e _ _ (by show ((bOf R).val * 16 + J / 512 % 16) * 512 + J % 512 = (bOf R).val * 8192 + J % 8192; omega)
    (by show (hOf R).val * 128 + e.val = _; omega)

/-- A row tile's output in the terms of the arguments. -/
theorem outBlk_at (hb : bOf R = b) (hh : hOf R = h) (hq : R % 16 = t.val / 512) (hr : r.val = t.val % 512) (e : Fin 128) :
    outBlk m c R r e
      = rnorm (kerDiff (score (qOf m c) (kOf m c) b h t) (lamOf (lOf m c)) (value (vOf m c) b h) 8192) (gOf m c) e := by
  have ht := t.isLt
  have h1 : kerDiff (fun u => scAt (R % 16) (qB m c R) (kB m c R) u r) (lamOf (lOf m c)) (valAt (vB m c R)) (512 * (R % 16 + 1))
      = kerDiff (score (qOf m c) (kOf m c) b h t) (lamOf (lOf m c)) (value (vOf m c) b h) (512 * (R % 16 + 1)) :=
    kerDiff_congr _ (fun u J hJ => scAt_score m c R b h t r hb hh hq hr u J (by omega))
      (fun e J hJ => valAt_value m c R b h hb hh e J (by omega))
  have h2 : kerDiff (score (qOf m c) (kOf m c) b h t) (lamOf (lOf m c)) (value (vOf m c) b h) (512 * (R % 16 + 1))
      = kerDiff (score (qOf m c) (kOf m c) b h t) (lamOf (lOf m c)) (value (vOf m c) b h) 8192 :=
    kerDiff_stop _ _ _ (by omega) fun u J hJ => if_neg (by omega)
  have hL : (fun a d => V (F := Ideal) m c main_arg3 (ix2 a d)) = lOf m c := funext fun a => funext fun d => V_l m c a d
  have hG : (fun e => V (F := Ideal) m c main_v8 (ix2 0 e)) = gOf m c := funext fun e => V_g m c e
  have hO : outBlk m c R r e = rnorm ((stR m c R (R % 16 + 1)).diff (lamOf (lOf m c)) r) (gOf m c) e := by
    rw [← hL, ← hG]; rfl
  rw [hO, ← h2, ← h1, ← diff_stAt]
  rfl

/-- The kernel's result at row `b * 8192 + t`, head `h`, lane `e`. -/
theorem outArr_at (e : Fin 128) (i : Fin 16384) (j : Fin 1024) (hi : i.val = b.val * 8192 + t.val) (hj : j.val = h.val * 128 + e.val) :
    outArr m c (ix2 i j) = rnorm (kerDiff (score (qOf m c) (kOf m c) b h t) (lamOf (lOf m c)) (value (vOf m c) b h) 8192) (gOf m c) e := by
  have hb := b.isLt; have hh := h.isLt; have ht := t.isLt; have he := e.isLt
  have hl : (⟨j.val % 128, Nat.mod_lt _ (by norm_num)⟩ : Fin 128) = e := Fin.ext (by show j.val % 128 = _; omega)
  have hO : outArr m c (ix2 i j) = outBlk m c ((i.val / 8192 * 8 + j.val / 128) * 16 + i.val / 512 % 16)
      ⟨i.val % 512, Nat.mod_lt _ (by norm_num)⟩ ⟨j.val % 128, Nat.mod_lt _ (by norm_num)⟩ := rfl
  rw [hO, hl]
  exact outBlk_at m c _ b h t _ (Fin.ext (by show ((i.val / 8192 * 8 + j.val / 128) * 16 + i.val / 512 % 16) / 128 % 2 = _; omega))
    (Fin.ext (by show ((i.val / 8192 * 8 + j.val / 128) * 16 + i.val / 512 % 16) / 16 % 8 = _; omega)) (by omega)
    (by show i.val % 512 = _; omega) e

end Cert.Flash

end
-- ==== Proof.FlashFinite.lean ====
module

public import proofs.«01_k».proof.Proof.FlashSpec
public import proofs.«01_k».proof.Proof.Gen.Pre_finite
public import Idealize.ShloMosaic.Lib.ReduceAll
public import Idealize.ShloMosaic.Lib.Pointwise

@[expose] public section

/-!
The precondition: every value and every lambda entry is a real number; so is the lambda.
-/

noncomputable section

namespace Cert.Flash

open Cert.Pre_finite
open Idealize.ShloMosaic

/-- A number whose magnitude is below infinity is real. -/
theorem real_of_cmp {x : EReal} (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton S_.Idx := ⟨fun a b => funext fun k => k.elim0⟩

/-- The precondition read: the values and the lambda vectors are real. -/
theorem real_of_pre (x0 x1 : FVec Ideal S2x8192x8x2x64 .f32) (x2 : FVec Ideal S2x8192x8x128 .f32) (x3 : FVec Ideal S4x64 .f32)
    (x4 : FVec Ideal S128 .f32) (h : Cert.Pre_finite.fn (F := Ideal) x0 x1 x2 x3 x4 = fun _ => 1#1) :
    (∀ i, ∃ r : ℝ, x2 i = (r : EReal)) ∧ ∀ i, ∃ r : ℝ, x3 i = (r : EReal) := by
  have h' := congrFun h ((Shape.Idx.first Facts.h_S_))
  have hs := IntOp.andi_eq_one.mp h'
  exact ⟨fun i => real_of_cmp (Host.reduce_andi_all _ _ _ _ _ hs.1 i), fun i => real_of_cmp (Host.reduce_andi_all _ _ _ _ _ hs.2 i)⟩

/-- The lambda of real vectors is real. -/
theorem lam_real (x : Fin 4 → Fin 64 → EReal) (h : ∀ a d, ∃ r : ℝ, x a d = (r : EReal)) : ∃ r : ℝ, lamOf x = (r : EReal) := by
  choose y hy using h
  have coe_sum : ∀ f : Fin 64 → ℝ, ∑ d, (f d : EReal) = ((∑ d, f d : ℝ) : EReal) := fun f =>
    (map_sum (⟨⟨Real.toEReal, EReal.coe_zero⟩, EReal.coe_add⟩ : ℝ →+ EReal) f Finset.univ).symm
  have hc : ∃ r : ℝ, Ideal.ofBits .f32 0x3E4CCCCD#32 = (r : EReal) := by
    simp only [Ideal.ofBits, Ideal.ieee]; exact ⟨_, rfl⟩
  obtain ⟨r, hr⟩ := hc
  unfold lamOf
  simp only [hy, ← EReal.coe_mul, coe_sum, Ideal.exp_coe, hr, ← EReal.coe_sub, ← EReal.coe_add]
  exact ⟨_, rfl⟩

end Cert.Flash

end
-- ==== Proof.lean ====
module

public import proofs.«01_k».proof.Defs
public import proofs.«01_k».proof.Proof.KernelFrame
public import proofs.«01_k».proof.Proof.FfnFrame
public import proofs.«01_k».proof.Proof.FfnEq
public import proofs.«01_k».proof.Proof.ProjEq
public import proofs.«01_k».proof.Proof.DenseFrame
public import proofs.«01_k».proof.Proof.DenseEq
public import proofs.«01_k».proof.Proof.ProjGEq
public import proofs.«01_k».proof.Proof.ProjSEq
public import proofs.«01_k».proof.Proof.ProjGSEq
public import proofs.«01_k».proof.Proof.ProjFrame
public import proofs.«01_k».proof.Proof.ProjGFrame
public import proofs.«01_k».proof.Proof.ProjSFrame
public import proofs.«01_k».proof.Proof.ProjGSFrame
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.FlashRef
public import proofs.«01_k».proof.Proof.FlashEq
public import proofs.«01_k».proof.Proof.FlashFinite
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments, and has no counters to leave non-zero. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2, sem_eq_zero_of_no_sems rfl _⟩)
    (Cert.ReferenceIdeal.Value.run (F := Ideal) m ρ)

/-- The idealized kernel runs, leaves its arguments and ends with every counter at zero. -/
theorem frame_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun r h => ⟨fun c => (h.1 c).2, h.2⟩) (Cert.Flash.run_all m ρ)

/-- From arguments that agree and meet the precondition, the kernel's array is the reference's. -/
theorem arrays_eq (m : (ℓ : Loc Cert.KernelIdeal.nD Cert.KernelIdeal.τ Cert.KernelIdeal.sig) → Buf (Elt Ideal) ℓ) (c : Dev Cert.KernelIdeal.nD)
    (hp : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = Cert.Flash.outArr m c := by
  obtain ⟨hv, hl⟩ := Cert.Flash.real_of_pre _ _ _ _ _ hp
  obtain ⟨lam, hlam⟩ := Cert.Flash.lam_real (Cert.Flash.lOf m c) fun a d => hl (ix2 a d)
  choose v hv using hv
  funext y
  obtain ⟨i, j, rfl⟩ : ∃ (i : Fin 16384) (j : Fin 1024), y = ix2 i j := ⟨_, _, eq_ix2 y⟩
  have hi := i.isLt; have hj := j.isLt
  have h1 := Cert.Flash.v62_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    ⟨i.val / 8192, by omega⟩ ⟨j.val / 128, by omega⟩ ⟨i.val % 8192, by omega⟩ ⟨j.val % 128, by omega⟩ i j
    (by show i.val = i.val / 8192 * 8192 + i.val % 8192; omega) (by show j.val = j.val / 128 * 128 + j.val % 128; omega)
  have h2 := Cert.Flash.outArr_at m c
    ⟨i.val / 8192, by omega⟩ ⟨j.val / 128, by omega⟩ ⟨i.val % 8192, by omega⟩ ⟨j.val % 128, by omega⟩ i j
    (by show i.val = i.val / 8192 * 8192 + i.val % 8192; omega) (by show j.val = j.val / 128 * 128 + j.val % 128; omega)
  refine h1.trans (Eq.trans ?_ h2.symm)
  have hval : ∀ (b : Fin 2) (h : Fin 8), Cert.Flash.value (Cert.Flash.vOf m c) b h
      = fun e J => ((v (ix4 b ⟨J % 8192, Nat.mod_lt _ (by norm_num)⟩ h e) : ℝ) : EReal) := fun b h =>
    funext fun e => funext fun J => hv _
  show Cert.Flash.rnorm (Cert.Flash.refDiff (Cert.Flash.score (Cert.Flash.qOf m c) (Cert.Flash.kOf m c) _ _ _) (Cert.Flash.lamOf (Cert.Flash.lOf m c))
    (Cert.Flash.value (Cert.Flash.vOf m c) _ _) 8192) (Cert.Flash.gOf m c) _ = _
  rw [hlam, hval]
  exact (Cert.Flash.rnorm_ker_ref _ 8192 lam _ _ _).symm

/-- The second reference runs, leaves its arguments, and has no counters to leave non-zero. -/
theorem frame_ref2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
        ∧ r.2.sem = fun _ => 0) :=
  (θ_run Cert.Reference2Ideal.defs _ _).mono (fun r h => ⟨fun c => (h c).2, sem_eq_zero_of_no_sems rfl _⟩)
    (Cert.Reference2Ideal.Value.run (F := Ideal) m ρ)

/-- The third reference runs, leaves its arguments, and has no counters to leave non-zero. -/
theorem frame_ref3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
        ∧ r.2.sem = fun _ => 0) :=
  (θ_run Cert.Reference3Ideal.defs _ _).mono (fun r h => ⟨fun c => (h c).2, sem_eq_zero_of_no_sems rfl _⟩)
    (Cert.Reference3Ideal.Value.run (F := Ideal) m ρ)

/-- The fourth reference runs, leaves its arguments, and has no counters to leave non-zero. -/
theorem frame_ref4 (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
        ∧ r.2.sem = fun _ => 0) :=
  (θ_run Cert.Reference4Ideal.defs _ _).mono (fun r h => ⟨fun c => (h c).2, sem_eq_zero_of_no_sems rfl _⟩)
    (Cert.Reference4Ideal.Value.run (F := Ideal) m ρ)

/-- The fifth reference runs, leaves its arguments, and has no counters to leave non-zero. -/
theorem frame_ref5 (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
        ∧ r.2.sem = fun _ => 0) :=
  (θ_run Cert.Reference5Ideal.defs _ _).mono (fun r h => ⟨fun c => (h c).2, sem_eq_zero_of_no_sems rfl _⟩)
    (Cert.Reference5Ideal.Value.run (F := Ideal) m ρ)

/-- The sixth reference runs, leaves its arguments, and has no counters to leave non-zero. -/
theorem frame_ref6 (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
        ∧ r.2.sem = fun _ => 0) :=
  (θ_run Cert.Reference6Ideal.defs _ _).mono (fun r h => ⟨fun c => (h c).2, sem_eq_zero_of_no_sems rfl _⟩)
    (Cert.Reference6Ideal.Value.run (F := Ideal) m ρ)

/-- The seventh reference runs, leaves its arguments, and has no counters to leave non-zero. -/
theorem frame_ref7 (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
        ∧ r.2.sem = fun _ => 0) :=
  (θ_run Cert.Reference7Ideal.defs _ _).mono (fun r h => ⟨fun c => (h c).2, sem_eq_zero_of_no_sems rfl _⟩)
    (Cert.Reference7Ideal.Value.run (F := Ideal) m ρ)

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_experts.Gen.facts,
  fun m ρ _ => Cert.KernelFrame.frame m ρ,
  fun m ρ _ => frame_ideal m ρ,
  fun m ρ _ => frame_ideal m ρ,
  fun m ρ _ => frame_ref m ρ,
  fun m ρ _ => frame_ref m ρ,
  Cert.Ffn.frame_bits,
  fun m ρ h => Cert.Ffn.frame_of_ok m ρ (Cert.Ffn.ok_pre m h),
  fun m ρ _ => frame_ref2 m ρ,
  fun m ρ _ => frame_ref2 m ρ,
  Cert.Proj.frame_bits,
  fun m ρ _ => Cert.Kernel3Ideal.Gen.frame m ρ,
  fun m ρ _ => frame_ref3 m ρ,
  Cert.ProjG.frame_bits,
  fun m ρ _ => Cert.Kernel4Ideal.Gen.frame m ρ,
  fun m ρ _ => frame_ref4 m ρ,
  Cert.ProjS.frame_bits,
  fun m ρ _ => Cert.Kernel5Ideal.Gen.frame m ρ,
  fun m ρ _ => frame_ref5 m ρ,
  Cert.ProjGS.frame_bits,
  fun m ρ _ => Cert.Kernel6Ideal.Gen.frame m ρ,
  fun m ρ _ => frame_ref6 m ρ,
  Cert.Dense.frame_bits,
  fun m ρ _ => Cert.Dense.frame_all m ρ,
  fun m ρ _ => frame_ref7 m ρ,
  IdealRules.named_const.statement Cert.KernelIdeal.κ "mask" .f32 0xF149F2CA#32 ⊥ rfl,
  fun m ρ m' ρ' hp hm => ⟨fun c => Cert.Flash.outArr m c,
    (θ_run Cert.KernelIdeal.defs _ _).mono (fun r h => h.1) (Cert.Flash.run_all m ρ),
    (θ_run Cert.ReferenceIdeal.defs _ _).mono (fun r h c => ⟨(h c).1.trans (by
      have e := hm c
      rw [Cert.ReferenceIdeal.Read.val_main_v62_eq, e.1, e.2.1, e.2.2.1, e.2.2.2.1, e.2.2.2.2]
      exact arrays_eq m c (hp c)), (h c).2⟩) (Cert.ReferenceIdeal.Value.run (F := Ideal) m' ρ')⟩,
  trivial,
  fun m ρ m' ρ' hp hm => ⟨fun c => Cert.Ffn.outArr m (Cert.Ffn.ok_pre m hp) c,
    (θ_run Cert.Kernel2Ideal.defs _ _).mono (fun r h => h.1) (Cert.Ffn.run_all m ρ (Cert.Ffn.ok_pre m hp)),
    (θ_run Cert.Reference2Ideal.defs _ _).mono (fun r h c => ⟨(h c).1.trans (by
      have e := hm c
      rw [Cert.Reference2Ideal.Read.val_main_v35_eq, e.1, e.2.1, e.2.2.1, e.2.2.2.1, e.2.2.2.2.1, e.2.2.2.2.2]
      exact Cert.Ffn.arrays_eq m hp (Cert.Ffn.ok_pre m hp) c), (h c).2⟩) (Cert.Reference2Ideal.Value.run (F := Ideal) m' ρ')⟩,
  trivial,
  fun m ρ m' ρ' hp hm => ⟨fun c => Cert.Proj.outArr m c,
    (θ_run Cert.Kernel3Ideal.defs _ _).mono (fun r h => h.1) (Cert.Proj.run_all m ρ),
    (θ_run Cert.Reference3Ideal.defs _ _).mono (fun r h c => ⟨(h c).1.trans (by
      have e := hm c
      rw [Cert.Reference3Ideal.Read.val_main_v14_eq, e.1, e.2.1, e.2.2]
      exact Cert.Proj.arrays_eq m c), (h c).2⟩) (Cert.Reference3Ideal.Value.run (F := Ideal) m' ρ')⟩,
  trivial,
  fun m ρ m' ρ' hp hm => ⟨fun c => Cert.ProjG.outArr m c,
    (θ_run Cert.Kernel4Ideal.defs _ _).mono (fun r h => h.1) (Cert.ProjG.run_all m ρ),
    (θ_run Cert.Reference4Ideal.defs _ _).mono (fun r h c => ⟨(h c).1.trans (by
      have e := hm c
      rw [Cert.Reference4Ideal.Read.val_main_v16_eq, e.1, e.2.1, e.2.2]
      exact Cert.ProjG.arrays_eq m c), (h c).2⟩) (Cert.Reference4Ideal.Value.run (F := Ideal) m' ρ')⟩,
  trivial,
  fun m ρ m' ρ' hp hm => ⟨fun c => Cert.ProjS.outArr m c,
    (θ_run Cert.Kernel5Ideal.defs _ _).mono (fun r h => h.1) (Cert.ProjS.run_all m ρ),
    (θ_run Cert.Reference5Ideal.defs _ _).mono (fun r h c => ⟨(h c).1.trans (by
      have e := hm c
      rw [Cert.Reference5Ideal.Read.val_main_v14_eq, e.1, e.2.1, e.2.2]
      exact Cert.ProjS.arrays_eq m c), (h c).2⟩) (Cert.Reference5Ideal.Value.run (F := Ideal) m' ρ')⟩,
  trivial,
  fun m ρ m' ρ' hp hm => ⟨fun c => Cert.ProjGS.outArr m c,
    (θ_run Cert.Kernel6Ideal.defs _ _).mono (fun r h => h.1) (Cert.ProjGS.run_all m ρ),
    (θ_run Cert.Reference6Ideal.defs _ _).mono (fun r h c => ⟨(h c).1.trans (by
      have e := hm c
      rw [Cert.Reference6Ideal.Read.val_main_v16_eq, e.1, e.2.1, e.2.2]
      exact Cert.ProjGS.arrays_eq m c), (h c).2⟩) (Cert.Reference6Ideal.Value.run (F := Ideal) m' ρ')⟩,
  trivial,
  fun m ρ m' ρ' hp hm => ⟨fun c => Cert.Dense.arr m c,
    (θ_run Cert.Kernel7Ideal.defs _ _).mono (fun r h => h.1) (Cert.Dense.run_all m ρ (Cert.Dense.ok_all m)),
    (θ_run Cert.Reference7Ideal.defs _ _).mono (fun r h c => ⟨(h c).1.trans (by
      have e := hm c
      rw [Cert.Reference7Ideal.Read.val_main_v21_eq, e.1, e.2.1, e.2.2.1, e.2.2.2]
      exact Cert.Dense.arrays_eq m c), (h c).2⟩) (Cert.Reference7Ideal.Value.run (F := Ideal) m' ρ')⟩⟩

end Cert.Proof

end
